-- ==== Defs.lean ====
def Pre_Kernel [hPre_rows_in_table : Cert.Pre_rows_in_table.Facts] (m : (ℓ : Loc Cert.Kernel.nD Cert.Kernel.τ Cert.Kernel.sig) → Buf (Elt Bits) ℓ) : Prop :=
  ∀ c : Dev Cert.Kernel.nD,
    (Cert.Pre_rows_in_table.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_rows_in_table : Cert.Pre_rows_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_rows_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_in_table [hPre_rows_in_table : Cert.Pre_rows_in_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_in_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_rows_in_table : Cert.Pre_rows_in_table.Facts] (m : (ℓ : Loc Cert.Reference.nD Cert.Reference.τ Cert.Reference.sig) → Buf (Elt Bits) ℓ) : Prop :=
  ∀ c : Dev Cert.Reference.nD,
    (Cert.Pre_rows_in_table.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_scores [hPre_finite_scores : Cert.Pre_finite_scores.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_scores.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12)) (m ((c.tc : Thread Cert.Kernel3Ideal.nD Cert.Kernel3Ideal.τ).loc Cert.Kernel3Ideal.main_arg13)) (m ((c.tc : Thread Cert.Kernel3Ideal.nD Cert.Kernel3Ideal.τ).loc Cert.Kernel3Ideal.main_arg14)) (m ((c.tc : Thread Cert.Kernel3Ideal.nD Cert.Kernel3Ideal.τ).loc Cert.Kernel3Ideal.main_arg15)) (m ((c.tc : Thread Cert.Kernel3Ideal.nD Cert.Kernel3Ideal.τ).loc Cert.Kernel3Ideal.main_arg16)) (m ((c.tc : Thread Cert.Kernel3Ideal.nD Cert.Kernel3Ideal.τ).loc Cert.Kernel3Ideal.main_arg17))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_scores [hPre_finite_scores : Cert.Pre_finite_scores.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_scores.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12)) (m ((c.tc : Thread Cert.Reference3Ideal.nD Cert.Reference3Ideal.τ).loc Cert.Reference3Ideal.main_arg13)) (m ((c.tc : Thread Cert.Reference3Ideal.nD Cert.Reference3Ideal.τ).loc Cert.Reference3Ideal.main_arg14)) (m ((c.tc : Thread Cert.Reference3Ideal.nD Cert.Reference3Ideal.τ).loc Cert.Reference3Ideal.main_arg15)) (m ((c.tc : Thread Cert.Reference3Ideal.nD Cert.Reference3Ideal.τ).loc Cert.Reference3Ideal.main_arg16)) (m ((c.tc : Thread Cert.Reference3Ideal.nD Cert.Reference3Ideal.τ).loc Cert.Reference3Ideal.main_arg17))) = (fun _ => 1#1)

def quiescent_Kernel [hKernel : Cert.Kernel.Facts] [hPre_rows_in_table : Cert.Pre_rows_in_table.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_rows_in_table : Cert.Pre_rows_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rows_in_table [hReferenceIdeal : Cert.ReferenceIdeal.Facts] [hPre_rows_in_table : Cert.Pre_rows_in_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_in_table m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_rows_in_table : Cert.Pre_rows_in_table.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14)
      ∧ r.2.mem ((c.tc : Thread Cert.Kernel3.nD Cert.Kernel3.τ).loc Cert.Kernel3.main_arg15) = m ((c.tc : Thread Cert.Kernel3.nD Cert.Kernel3.τ).loc Cert.Kernel3.main_arg15)
      ∧ r.2.mem ((c.tc : Thread Cert.Kernel3.nD Cert.Kernel3.τ).loc Cert.Kernel3.main_arg16) = m ((c.tc : Thread Cert.Kernel3.nD Cert.Kernel3.τ).loc Cert.Kernel3.main_arg16)
      ∧ r.2.mem ((c.tc : Thread Cert.Kernel3.nD Cert.Kernel3.τ).loc Cert.Kernel3.main_arg17) = m ((c.tc : Thread Cert.Kernel3.nD Cert.Kernel3.τ).loc Cert.Kernel3.main_arg17))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
      ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
      ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16)
      ∧ r.2.mem ((c.tc : Thread Cert.Kernel3Ideal.nD Cert.Kernel3Ideal.τ).loc Cert.Kernel3Ideal.main_arg17) = m ((c.tc : Thread Cert.Kernel3Ideal.nD Cert.Kernel3Ideal.τ).loc Cert.Kernel3Ideal.main_arg17))
      ∧ r.2.sem = fun _ => 0)

def quiescent_Kernel3Ideal_pre_finite_scores [hKernel3Ideal : Cert.Kernel3Ideal.Facts] [hPre_finite_scores : Cert.Pre_finite_scores.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_scores m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
      ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
      ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16)
      ∧ r.2.mem ((c.tc : Thread Cert.Kernel3Ideal.nD Cert.Kernel3Ideal.τ).loc Cert.Kernel3Ideal.main_arg17) = m ((c.tc : Thread Cert.Kernel3Ideal.nD Cert.Kernel3Ideal.τ).loc Cert.Kernel3Ideal.main_arg17))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14)
      ∧ r.2.mem ((c.tc : Thread Cert.Reference3Ideal.nD Cert.Reference3Ideal.τ).loc Cert.Reference3Ideal.main_arg15) = m ((c.tc : Thread Cert.Reference3Ideal.nD Cert.Reference3Ideal.τ).loc Cert.Reference3Ideal.main_arg15)
      ∧ r.2.mem ((c.tc : Thread Cert.Reference3Ideal.nD Cert.Reference3Ideal.τ).loc Cert.Reference3Ideal.main_arg16) = m ((c.tc : Thread Cert.Reference3Ideal.nD Cert.Reference3Ideal.τ).loc Cert.Reference3Ideal.main_arg16)
      ∧ r.2.mem ((c.tc : Thread Cert.Reference3Ideal.nD Cert.Reference3Ideal.τ).loc Cert.Reference3Ideal.main_arg17) = m ((c.tc : Thread Cert.Reference3Ideal.nD Cert.Reference3Ideal.τ).loc Cert.Reference3Ideal.main_arg17))
      ∧ r.2.sem = fun _ => 0)

def quiescent_Reference3Ideal_pre_finite_scores [hReference3Ideal : Cert.Reference3Ideal.Facts] [hPre_finite_scores : Cert.Pre_finite_scores.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_scores m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14)
      ∧ r.2.mem ((c.tc : Thread Cert.Reference3Ideal.nD Cert.Reference3Ideal.τ).loc Cert.Reference3Ideal.main_arg15) = m ((c.tc : Thread Cert.Reference3Ideal.nD Cert.Reference3Ideal.τ).loc Cert.Reference3Ideal.main_arg15)
      ∧ r.2.mem ((c.tc : Thread Cert.Reference3Ideal.nD Cert.Reference3Ideal.τ).loc Cert.Reference3Ideal.main_arg16) = m ((c.tc : Thread Cert.Reference3Ideal.nD Cert.Reference3Ideal.τ).loc Cert.Reference3Ideal.main_arg16)
      ∧ r.2.mem ((c.tc : Thread Cert.Reference3Ideal.nD Cert.Reference3Ideal.τ).loc Cert.Reference3Ideal.main_arg17) = m ((c.tc : Thread Cert.Reference3Ideal.nD Cert.Reference3Ideal.τ).loc Cert.Reference3Ideal.main_arg17))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_rows_in_table : Cert.Pre_rows_in_table.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_rows_in_table : Cert.Pre_rows_in_table.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v2)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v2) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v7) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def preserves_Kernel2_Kernel2Ideal : Prop :=
  IdealRules.named_const.Statement Cert.Kernel2Ideal.κ "scale" .f32 0x3E38AA3B#32 ((8⁻¹ * (Real.log 2)⁻¹ : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v18_0)) (v1 : (c : Dev Cert.Kernel2Ideal.nD) → Buf (Elt Ideal) ((c.tc : Thread Cert.Kernel2Ideal.nD Cert.Kernel2Ideal.τ).loc Cert.Kernel2Ideal.main_v18_1)) (v2 : (c : Dev Cert.Kernel2Ideal.nD) → Buf (Elt Ideal) ((c.tc : Thread Cert.Kernel2Ideal.nD Cert.Kernel2Ideal.τ).loc Cert.Kernel2Ideal.main_v18_2)) (v3 : (c : Dev Cert.Kernel2Ideal.nD) → Buf (Elt Ideal) ((c.tc : Thread Cert.Kernel2Ideal.nD Cert.Kernel2Ideal.τ).loc Cert.Kernel2Ideal.main_v18_3)) (v4 : (c : Dev Cert.Kernel2Ideal.nD) → Buf (Elt Ideal) ((c.tc : Thread Cert.Kernel2Ideal.nD Cert.Kernel2Ideal.τ).loc Cert.Kernel2Ideal.main_v18_4)) (v5 : (c : Dev Cert.Kernel2Ideal.nD) → Buf (Elt Ideal) ((c.tc : Thread Cert.Kernel2Ideal.nD Cert.Kernel2Ideal.τ).loc Cert.Kernel2Ideal.main_v18_5)) (v6 : (c : Dev Cert.Kernel2Ideal.nD) → Buf (Elt Ideal) ((c.tc : Thread Cert.Kernel2Ideal.nD Cert.Kernel2Ideal.τ).loc Cert.Kernel2Ideal.main_v18_6)) (v7 : (c : Dev Cert.Kernel2Ideal.nD) → Buf (Elt Ideal) ((c.tc : Thread Cert.Kernel2Ideal.nD Cert.Kernel2Ideal.τ).loc Cert.Kernel2Ideal.main_v18_7)) (v8 : (c : Dev Cert.Kernel2Ideal.nD) → Buf (Elt Ideal) ((c.tc : Thread Cert.Kernel2Ideal.nD Cert.Kernel2Ideal.τ).loc Cert.Kernel2Ideal.main_v18_8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v18_0) = v0 c
          ∧ r.2.mem ((c.tc : Thread Cert.Kernel2Ideal.nD Cert.Kernel2Ideal.τ).loc Cert.Kernel2Ideal.main_v18_1) = v1 c
          ∧ r.2.mem ((c.tc : Thread Cert.Kernel2Ideal.nD Cert.Kernel2Ideal.τ).loc Cert.Kernel2Ideal.main_v18_2) = v2 c
          ∧ r.2.mem ((c.tc : Thread Cert.Kernel2Ideal.nD Cert.Kernel2Ideal.τ).loc Cert.Kernel2Ideal.main_v18_3) = v3 c
          ∧ r.2.mem ((c.tc : Thread Cert.Kernel2Ideal.nD Cert.Kernel2Ideal.τ).loc Cert.Kernel2Ideal.main_v18_4) = v4 c
          ∧ r.2.mem ((c.tc : Thread Cert.Kernel2Ideal.nD Cert.Kernel2Ideal.τ).loc Cert.Kernel2Ideal.main_v18_5) = v5 c
          ∧ r.2.mem ((c.tc : Thread Cert.Kernel2Ideal.nD Cert.Kernel2Ideal.τ).loc Cert.Kernel2Ideal.main_v18_6) = v6 c
          ∧ r.2.mem ((c.tc : Thread Cert.Kernel2Ideal.nD Cert.Kernel2Ideal.τ).loc Cert.Kernel2Ideal.main_v18_7) = v7 c
          ∧ r.2.mem ((c.tc : Thread Cert.Kernel2Ideal.nD Cert.Kernel2Ideal.τ).loc Cert.Kernel2Ideal.main_v18_8) = v8 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v41) = v0 c
          ∧ r.2.mem ((c.tc : Thread Cert.Reference2Ideal.nD Cert.Reference2Ideal.τ).loc Cert.Reference2Ideal.main_v42) = v1 c
          ∧ r.2.mem ((c.tc : Thread Cert.Reference2Ideal.nD Cert.Reference2Ideal.τ).loc Cert.Reference2Ideal.main_v43) = v2 c
          ∧ r.2.mem ((c.tc : Thread Cert.Reference2Ideal.nD Cert.Reference2Ideal.τ).loc Cert.Reference2Ideal.main_v44) = v3 c
          ∧ r.2.mem ((c.tc : Thread Cert.Reference2Ideal.nD Cert.Reference2Ideal.τ).loc Cert.Reference2Ideal.main_v46) = v4 c
          ∧ r.2.mem ((c.tc : Thread Cert.Reference2Ideal.nD Cert.Reference2Ideal.τ).loc Cert.Reference2Ideal.main_v47) = v5 c
          ∧ r.2.mem ((c.tc : Thread Cert.Reference2Ideal.nD Cert.Reference2Ideal.τ).loc Cert.Reference2Ideal.main_v49) = v6 c
          ∧ r.2.mem ((c.tc : Thread Cert.Reference2Ideal.nD Cert.Reference2Ideal.τ).loc Cert.Reference2Ideal.main_v50) = v7 c
          ∧ r.2.mem ((c.tc : Thread Cert.Reference2Ideal.nD Cert.Reference2Ideal.τ).loc Cert.Reference2Ideal.main_v51) = v8 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  IdealRules.named_const.Statement Cert.Kernel3Ideal.κ "scale" .f32 0x3DB504F3#32 (((Real.sqrt 128)⁻¹ : ℝ) : EReal)
  ∧ IdealRules.bf16_pair.PackStatement Cert.Kernel3Ideal.S256x512
  ∧ IdealRules.bf16_pair.Statement Cert.Kernel3Ideal.S1x512x256 Cert.Kernel3Ideal.S1x256x256

def algebraic_Kernel3Ideal_Reference3Ideal_pre_finite_scores [hKernel3Ideal : Cert.Kernel3Ideal.Facts] [hReference3Ideal : Cert.Reference3Ideal.Facts] [hPre_finite_scores : Cert.Pre_finite_scores.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_scores m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)
      ∧ m' ((c.tc : Thread Cert.Reference3Ideal.nD Cert.Reference3Ideal.τ).loc Cert.Reference3Ideal.main_arg15) = m ((c.tc : Thread Cert.Kernel3Ideal.nD Cert.Kernel3Ideal.τ).loc Cert.Kernel3Ideal.main_arg15)
      ∧ m' ((c.tc : Thread Cert.Reference3Ideal.nD Cert.Reference3Ideal.τ).loc Cert.Reference3Ideal.main_arg16) = m ((c.tc : Thread Cert.Kernel3Ideal.nD Cert.Kernel3Ideal.τ).loc Cert.Kernel3Ideal.main_arg16)
      ∧ m' ((c.tc : Thread Cert.Reference3Ideal.nD Cert.Reference3Ideal.τ).loc Cert.Reference3Ideal.main_arg17) = m ((c.tc : Thread Cert.Kernel3Ideal.nD Cert.Kernel3Ideal.τ).loc Cert.Kernel3Ideal.main_arg17)) →
    ∃ (v0 : (c : Dev Cert.Kernel3Ideal.nD) → Buf (Elt Ideal) ((c.tc : Thread Cert.Kernel3Ideal.nD Cert.Kernel3Ideal.τ).loc Cert.Kernel3Ideal.main_v14_0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v14_0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
          ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
          ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16)
          ∧ r.2.mem ((c.tc : Thread Cert.Kernel3Ideal.nD Cert.Kernel3Ideal.τ).loc Cert.Kernel3Ideal.main_arg17) = m ((c.tc : Thread Cert.Kernel3Ideal.nD Cert.Kernel3Ideal.τ).loc Cert.Kernel3Ideal.main_arg17))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v59) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14)
          ∧ r.2.mem ((c.tc : Thread Cert.Reference3Ideal.nD Cert.Reference3Ideal.τ).loc Cert.Reference3Ideal.main_arg15) = m' ((c.tc : Thread Cert.Reference3Ideal.nD Cert.Reference3Ideal.τ).loc Cert.Reference3Ideal.main_arg15)
          ∧ r.2.mem ((c.tc : Thread Cert.Reference3Ideal.nD Cert.Reference3Ideal.τ).loc Cert.Reference3Ideal.main_arg16) = m' ((c.tc : Thread Cert.Reference3Ideal.nD Cert.Reference3Ideal.τ).loc Cert.Reference3Ideal.main_arg16)
          ∧ r.2.mem ((c.tc : Thread Cert.Reference3Ideal.nD Cert.Reference3Ideal.τ).loc Cert.Reference3Ideal.main_arg17) = m' ((c.tc : Thread Cert.Reference3Ideal.nD Cert.Reference3Ideal.τ).loc Cert.Reference3Ideal.main_arg17))

def Claim : Prop :=
  ∃ (hKernel : Cert.Kernel.Facts) (hKernelIdeal : Cert.KernelIdeal.Facts) (hReferenceIdeal : Cert.ReferenceIdeal.Facts) (hReference : Cert.Reference.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_rows_in_table : Cert.Pre_rows_in_table.Facts) (hPre_finite_scores : Cert.Pre_finite_scores.Facts),
    quiescent_Kernel (hKernel := hKernel) (hPre_rows_in_table := hPre_rows_in_table)
    ∧ quiescent_KernelIdeal (hKernelIdeal := hKernelIdeal) (hPre_rows_in_table := hPre_rows_in_table)
    ∧ quiescent_ReferenceIdeal (hReferenceIdeal := hReferenceIdeal)
    ∧ quiescent_ReferenceIdeal_pre_rows_in_table (hReferenceIdeal := hReferenceIdeal) (hPre_rows_in_table := hPre_rows_in_table)
    ∧ quiescent_Reference (hReference := hReference) (hPre_rows_in_table := hPre_rows_in_table)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite_scores (hKernel3Ideal := hKernel3Ideal) (hPre_finite_scores := hPre_finite_scores)
    ∧ quiescent_Reference3Ideal (hReference3Ideal := hReference3Ideal)
    ∧ quiescent_Reference3Ideal_pre_finite_scores (hReference3Ideal := hReference3Ideal) (hPre_finite_scores := hPre_finite_scores)
    ∧ preserves_Kernel_KernelIdeal
    ∧ algebraic_KernelIdeal_ReferenceIdeal (hKernelIdeal := hKernelIdeal) (hReferenceIdeal := hReferenceIdeal) (hPre_rows_in_table := hPre_rows_in_table)
    ∧ bitexact_Kernel_Reference (hKernel := hKernel) (hReference := hReference) (hPre_rows_in_table := hPre_rows_in_table)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite_scores (hKernel3Ideal := hKernel3Ideal) (hReference3Ideal := hReference3Ideal) (hPre_finite_scores := hPre_finite_scores)
-- ==== Pre_finite_scores.lean ====
abbrev S4x8192x1024 : Shape := ⟨3, ![4, 8192, 1024]⟩
abbrev S4x8192x512 : Shape := ⟨3, ![4, 8192, 512]⟩
abbrev S4x256x512 : Shape := ⟨3, ![4, 256, 512]⟩
abbrev S1024 : Shape := ⟨1, ![1024]⟩
abbrev S512x1024 : Shape := ⟨2, ![512, 1024]⟩
abbrev S1024x1024 : Shape := ⟨2, ![1024, 1024]⟩
abbrev S1024x512 : Shape := ⟨2, ![1024, 512]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S_ : Shape := ⟨0, ![]⟩

class Facts : Prop where
  bcast_S_S4x8192x1024 : S_.BroadcastsInDim S4x8192x1024 (![] : Fin 0 → Fin S4x8192x1024.rank)
  reducesTo_S4x8192x1024_S_d0_1_2 : S4x8192x1024.ReducesTo [0, 1, 2] S_
  h_S_ : 0 < S_.numel
  bitsLt_bf16_f32 : FTy.bits .bf16 < FTy.bits .f32
  bcast_S_S4x8192x512 : S_.BroadcastsInDim S4x8192x512 (![] : Fin 0 → Fin S4x8192x512.rank)
  reducesTo_S4x8192x512_S_d0_1_2 : S4x8192x512.ReducesTo [0, 1, 2] S_
  bcast_S_S4x256x512 : S_.BroadcastsInDim S4x256x512 (![] : Fin 0 → Fin S4x256x512.rank)
  reducesTo_S4x256x512_S_d0_1_2 : S4x256x512.ReducesTo [0, 1, 2] S_
  bcast_S_S1024 : S_.BroadcastsInDim S1024 (![] : Fin 0 → Fin S1024.rank)
  reducesTo_S1024_S_d0 : S1024.ReducesTo [0] S_
  bcast_S_S512x1024 : S_.BroadcastsInDim S512x1024 (![] : Fin 0 → Fin S512x1024.rank)
  reducesTo_S512x1024_S_d0_1 : S512x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024x512 : S_.BroadcastsInDim S1024x512 (![] : Fin 0 → Fin S1024x512.rank)
  reducesTo_S1024x512_S_d0_1 : S1024x512.ReducesTo [0, 1] S_

variable [Facts]

def fn_part2 {F : FTy → Type} [FloatOps F] (main_arg11 : FVec F S1024x1024 .f32) (main_arg12 : FVec F S1024x512 .f32) (main_v31 : IVec S_ 1) (main_v34 : IVec S512x1024 1) : IVec S_ 1 :=
  let main_c_11 : IVec S_ 1 := constantI S_ 1 1#1
  let main_v35 : IVec S_ 1 := (fun x v => Host.reduce IntOp.andi x v reducesTo_S512x1024_S_d0_1 h_S_) main_v34 main_c_11
  let main_v36 : IVec S_ 1 := andi main_v31 main_v35
  let main_v37 : FVec F S1024x1024 .f32 := Host.absf main_arg11
  let main_cst_12 : FVec F S_ .f32 := constant S_ .f32 0x7F800000#32
  let main_v38 : FVec F S1024x1024 .f32 := broadcastInDim S1024x1024 ![] bcast_S_S1024x1024 main_cst_12
  let main_v39 : IVec S1024x1024 1 := cmpf .olt main_v37 main_v38
  let main_c_13 : IVec S_ 1 := constantI S_ 1 1#1
  let main_v40 : IVec S_ 1 := (fun x v => Host.reduce IntOp.andi x v reducesTo_S1024x1024_S_d0_1 h_S_) main_v39 main_c_13
  let main_v41 : IVec S_ 1 := andi main_v36 main_v40
  let main_v42 : FVec F S1024x512 .f32 := Host.absf main_arg12
  let main_cst_14 : FVec F S_ .f32 := constant S_ .f32 0x7F800000#32
  let main_v43 : FVec F S1024x512 .f32 := broadcastInDim S1024x512 ![] bcast_S_S1024x512 main_cst_14
  let main_v44 : IVec S1024x512 1 := cmpf .olt main_v42 main_v43
  let main_c_15 : IVec S_ 1 := constantI S_ 1 1#1
  let main_v45 : IVec S_ 1 := (fun x v => Host.reduce IntOp.andi x v reducesTo_S1024x512_S_d0_1 h_S_) main_v44 main_c_15
  let main_v46 : IVec S_ 1 := andi main_v41 main_v45
  main_v46

def fn_part1 {F : FTy → Type} [FloatOps F] (main_arg7 : FVec F S1024 .f32) (main_arg9 : FVec F S512x1024 .f32) (main_arg10 : FVec F S512x1024 .f32) (main_arg11 : FVec F S1024x1024 .f32) (main_arg12 : FVec F S1024x512 .f32) (main_v15 : IVec S_ 1) (main_v17 : FVec F S4x256x512 .f32) : IVec S_ 1 :=
  let main_cst_4 : FVec F S_ .f32 := constant S_ .f32 0x7F800000#32
  let main_v18 : FVec F S4x256x512 .f32 := broadcastInDim S4x256x512 ![] bcast_S_S4x256x512 main_cst_4
  let main_v19 : IVec S4x256x512 1 := cmpf .olt main_v17 main_v18
  let main_c_5 : IVec S_ 1 := constantI S_ 1 1#1
  let main_v20 : IVec S_ 1 := (fun x v => Host.reduce IntOp.andi x v reducesTo_S4x256x512_S_d0_1_2 h_S_) main_v19 main_c_5
  let main_v21 : IVec S_ 1 := andi main_v15 main_v20
  let main_v22 : FVec F S1024 .f32 := Host.absf main_arg7
  let main_cst_6 : FVec F S_ .f32 := constant S_ .f32 0x7F800000#32
  let main_v23 : FVec F S1024 .f32 := broadcastInDim S1024 ![] bcast_S_S1024 main_cst_6
  let main_v24 : IVec S1024 1 := cmpf .olt main_v22 main_v23
  let main_c_7 : IVec S_ 1 := constantI S_ 1 1#1
  let main_v25 : IVec S_ 1 := (fun x v => Host.reduce IntOp.andi x v reducesTo_S1024_S_d0 h_S_) main_v24 main_c_7
  let main_v26 : IVec S_ 1 := andi main_v21 main_v25
  let main_v27 : FVec F S512x1024 .f32 := Host.absf main_arg9
  let main_cst_8 : FVec F S_ .f32 := constant S_ .f32 0x7F800000#32
  let main_v28 : FVec F S512x1024 .f32 := broadcastInDim S512x1024 ![] bcast_S_S512x1024 main_cst_8
  let main_v29 : IVec S512x1024 1 := cmpf .olt main_v27 main_v28
  let main_c_9 : IVec S_ 1 := constantI S_ 1 1#1
  let main_v30 : IVec S_ 1 := (fun x v => Host.reduce IntOp.andi x v reducesTo_S512x1024_S_d0_1 h_S_) main_v29 main_c_9
  let main_v31 : IVec S_ 1 := andi main_v26 main_v30
  let main_v32 : FVec F S512x1024 .f32 := Host.absf main_arg10
  let main_cst_10 : FVec F S_ .f32 := constant S_ .f32 0x7F800000#32
  let main_v33 : FVec F S512x1024 .f32 := broadcastInDim S512x1024 ![] bcast_S_S512x1024 main_cst_10
  let main_v34 : IVec S512x1024 1 := cmpf .olt main_v32 main_v33
  fn_part2 (F := F) main_arg11 main_arg12 main_v31 main_v34

def fn {F : FTy → Type} [FloatOps F] (main_arg0 : FVec F S4x8192x1024 .f32) (main_arg1 : FVec F S4x8192x512 .bf16) (main_arg2 : FVec F S4x8192x512 .bf16) (main_arg3 : FVec F S4x8192x1024 .f32) (main_arg4 : FVec F S4x8192x1024 .f32) (main_arg5 : FVec F S4x256x512 .bf16) (main_arg6 : FVec F S4x256x512 .bf16) (main_arg7 : FVec F S1024 .f32) (main_arg8 : FVec F S1024 .f32) (main_arg9 : FVec F S512x1024 .f32) (main_arg10 : FVec F S512x1024 .f32) (main_arg11 : FVec F S1024x1024 .f32) (main_arg12 : FVec F S1024x512 .f32) (main_arg13 : FVec F S512x1024 .f32) (main_arg14 : FVec F S1024x4 .f32) (main_arg15 : FVec F S4 .f32) (main_arg16 : FVec F S1024x32 .f32) (main_arg17 : FVec F S32 .f32) : IVec S_ 1 :=
  let main_v0 : FVec F S4x8192x1024 .f32 := Host.absf main_arg0
  let main_cst : FVec F S_ .f32 := constant S_ .f32 0x7F800000#32
  let main_v1 : FVec F S4x8192x1024 .f32 := broadcastInDim S4x8192x1024 ![] bcast_S_S4x8192x1024 main_cst
  let main_v2 : IVec S4x8192x1024 1 := cmpf .olt main_v0 main_v1
  let main_c : IVec S_ 1 := constantI S_ 1 1#1
  let main_v3 : IVec S_ 1 := (fun x v => Host.reduce IntOp.andi x v reducesTo_S4x8192x1024_S_d0_1_2 h_S_) main_v2 main_c
  let main_v4 : FVec F S4x8192x512 .f32 := (extf .f32 · bitsLt_bf16_f32) main_arg1
  let main_v5 : FVec F S4x8192x512 .f32 := Host.absf main_v4
  let main_cst_0 : FVec F S_ .f32 := constant S_ .f32 0x7F800000#32
  let main_v6 : FVec F S4x8192x512 .f32 := broadcastInDim S4x8192x512 ![] bcast_S_S4x8192x512 main_cst_0
  let main_v7 : IVec S4x8192x512 1 := cmpf .olt main_v5 main_v6
  let main_c_1 : IVec S_ 1 := constantI S_ 1 1#1
  let main_v8 : IVec S_ 1 := (fun x v => Host.reduce IntOp.andi x v reducesTo_S4x8192x512_S_d0_1_2 h_S_) main_v7 main_c_1
  let main_v9 : IVec S_ 1 := andi main_v3 main_v8
  let main_v10 : FVec F S4x8192x512 .f32 := (extf .f32 · bitsLt_bf16_f32) main_arg2
  let main_v11 : FVec F S4x8192x512 .f32 := Host.absf main_v10
  let main_cst_2 : FVec F S_ .f32 := constant S_ .f32 0x7F800000#32
  let main_v12 : FVec F S4x8192x512 .f32 := broadcastInDim S4x8192x512 ![] bcast_S_S4x8192x512 main_cst_2
  let main_v13 : IVec S4x8192x512 1 := cmpf .olt main_v11 main_v12
  let main_c_3 : IVec S_ 1 := constantI S_ 1 1#1
  let main_v14 : IVec S_ 1 := (fun x v => Host.reduce IntOp.andi x v reducesTo_S4x8192x512_S_d0_1_2 h_S_) main_v13 main_c_3
  let main_v15 : IVec S_ 1 := andi main_v9 main_v14
  let main_v16 : FVec F S4x256x512 .f32 := (extf .f32 · bitsLt_bf16_f32) main_arg5
  let main_v17 : FVec F S4x256x512 .f32 := Host.absf main_v16
  fn_part1 (F := F) main_arg7 main_arg9 main_arg10 main_arg11 main_arg12 main_v15 main_v17
-- ==== Pre_rows_in_table.lean ====
abbrev S90624x256 : Shape := ⟨2, ![90624, 256]⟩
abbrev S1x32768 : Shape := ⟨2, ![1, 32768]⟩
abbrev S_ : Shape := ⟨0, ![]⟩

class Facts : Prop where
  bcast_S_S1x32768 : S_.BroadcastsInDim S1x32768 (![] : Fin 0 → Fin S1x32768.rank)

variable [Facts]

def fn {F : FTy → Type} [FloatOps F] (main_arg0 : IVec S90624x256 32) (main_arg1 : IVec S1x32768 32) : IVec S1x32768 1 :=
  let main_c : IVec S_ 32 := constantI S_ 32 0#32
  let main_v0 : IVec S1x32768 32 := broadcastInDim S1x32768 ![] bcast_S_S1x32768 main_c
  let main_v1 : IVec S1x32768 1 := cmpi .sge main_arg1 main_v0
  let main_c_0 : IVec S_ 32 := constantI S_ 32 90624#32
  let main_v2 : IVec S1x32768 32 := broadcastInDim S1x32768 ![] bcast_S_S1x32768 main_c_0
  let main_v3 : IVec S1x32768 1 := cmpi .slt main_arg1 main_v2
  let main_v4 : IVec S1x32768 1 := andi main_v1 main_v3
  main_v4
-- ==== Kernel.lean ====
abbrev S90624x256 : Shape := ⟨2, ![90624, 256]⟩
abbrev S1x32768 : Shape := ⟨2, ![1, 32768]⟩
abbrev S90624x2x128 : Shape := ⟨3, ![90624, 2, 128]⟩
abbrev S32768x2x128 : Shape := ⟨3, ![32768, 2, 128]⟩
abbrev S2x1x128 : Shape := ⟨3, ![2, 1, 128]⟩
abbrev S2 : Shape := ⟨1, ![2]⟩
abbrev S2x128x2x128 : Shape := ⟨4, ![2, 128, 2, 128]⟩
abbrev S1x1x128 : Shape := ⟨3, ![1, 1, 128]⟩
abbrev S1x128 : Shape := ⟨2, ![1, 128]⟩
abbrev S1 : Shape := ⟨1, ![1]⟩
abbrev S_ : Shape := ⟨0, ![]⟩
abbrev S1x128x2x128 : Shape := ⟨4, ![1, 128, 2, 128]⟩
abbrev S128x2x128 : Shape := ⟨3, ![128, 2, 128]⟩
abbrev S128 : Shape := ⟨1, ![128]⟩
abbrev S32768x256 : Shape := ⟨2, ![32768, 256]⟩

abbrev nBuf : Table → Nat
  | .hbm => 5
  | .local .scVector .vmem => 2
  | _ => 0

abbrev bufTy : (tb : Table) → Fin (nBuf tb) → BufTy
  | .hbm, ⟨0, _⟩ => ⟨S90624x256, .i32⟩
  | .hbm, ⟨1, _⟩ => ⟨S1x32768, .i32⟩
  | .hbm, ⟨2, _⟩ => ⟨S90624x2x128, .i32⟩
  | .hbm, ⟨3, _⟩ => ⟨S32768x2x128, .i32⟩
  | .hbm, ⟨4, _⟩ => ⟨S32768x256, .i32⟩
  | .local .scVector .vmem, ⟨0, _⟩ => ⟨S2x1x128, .i32⟩
  | .local .scVector .vmem, ⟨1, _⟩ => ⟨S2x128x2x128, .i32⟩
  | _, _ => ⟨S90624x256, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v0_scv : Ref sig .scVector := ⟨.hbm, 2, rfl⟩
abbrev main_arg1_scv : Ref sig .scVector := ⟨.hbm, 1, rfl⟩
abbrev main_v1_scv : Ref sig .scVector := ⟨.hbm, 3, rfl⟩
abbrev cc0_scoped0 : Ref sig .scVector := ⟨.vmem, 0, rfl⟩
abbrev cc0_scoped2 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_31_r0 : BitVec 32 := 0#32
  let c2_i32_r0 : BitVec 32 := 2#32
  let v33_r0 : BitVec 32 := Scalar.remui c0_i32_31_r0 c2_i32_r0
  let c0_i32_33_r0 : BitVec 32 := 0#32
  let c0_i32_34_r0 : BitVec 32 := 0#32
  ![v33_r0.toNat, 0, 0]
def k0_off2 (i : grid0.Coords) : Fin 2 → Nat :=
  let c0_i32_35_r0 : BitVec 32 := 0#32
  let c128_i32_r0 : BitVec 32 := 128#32
  let c0_i32_32_r0 : BitVec 32 := 0#32
  let c0_i32_2_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v7_r0 : BitVec 32 := Scalar.addi c0_i32_2_r0 v4
  let v34_r0 : BitVec 32 := Scalar.addi c0_i32_32_r0 v7_r0
  let v35_r0 : BitVec 32 := Scalar.muli c128_i32_r0 v34_r0
  ![0, v35_r0.toNat]
def k0_off3 : Fin 1 → Nat :=
  let c0_i32_31_r0 : BitVec 32 := 0#32
  let c2_i32_r0 : BitVec 32 := 2#32
  let v33_r0 : BitVec 32 := Scalar.remui c0_i32_31_r0 c2_i32_r0
  ![v33_r0.toNat]
@[reducible] def k0_t1_loop : Scf.Loop 32 :=
  let c0_i32_46_r0 : BitVec 32 := 0#32
  let c8_i32_47_r0 : BitVec 32 := 8#32
  let v45_r0 : BitVec 32 := Scalar.addi c0_i32_46_r0 c8_i32_47_r0
  let c1_i32_48_r0 : BitVec 32 := 1#32
  ⟨c0_i32_46_r0, v45_r0, c1_i32_48_r0⟩
def k0_off4 (arg6_r0 : BitVec 32) : Fin 3 → Nat :=
  let c2_i32_177_r0 : BitVec 32 := 2#32
  let v204_r0 : BitVec 32 := Scalar.remui arg6_r0 c2_i32_177_r0
  let c0_i32_180_r0 : BitVec 32 := 0#32
  let c0_i32_181_r0 : BitVec 32 := 0#32
  ![v204_r0.toNat, 0, 0]
def k0_cond1 (i : grid0.Coords) (k0_t1 : Fin k0_t1_loop.trips) (arg10_r0 : BitVec 32) : BitVec 1 :=
  let c0_i32_103_r0 : BitVec 32 := 0#32
  let v98_r0 : BitVec 32 := Scalar.addi arg10_r0 c0_i32_103_r0
  let c32_i32_135_r0 : BitVec 32 := 32#32
  let v127_r0 : BitVec 32 := Scalar.muli v98_r0 c32_i32_135_r0
  let c0_i32_104_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v99_r0 : BitVec 32 := Scalar.addi c0_i32_104_r0 v4
  let v128_r0 : BitVec 32 := Scalar.addi v127_r0 v99_r0
  let true_115_r0 : BitVec 1 := 1#1
  let c1_i32_117_r0 : BitVec 32 := 1#32
  let c0_i32_116_r0 : BitVec 32 := 0#32
  let v109_r0 : BitVec 32 := Scalar.select true_115_r0 c1_i32_117_r0 c0_i32_116_r0
  let c1_i32_118_r0 : BitVec 32 := 1#32
  let v110_r0 : BitVec 1 := Scalar.cmpi .eq v109_r0 c1_i32_118_r0
  let c1_i32_120_r0 : BitVec 32 := 1#32
  let v112_r0 : BitVec 32 := Scalar.addi arg10_r0 c1_i32_120_r0
  let v113_r0 : BitVec 32 := Scalar.select v110_r0 v112_r0 arg10_r0
  let c8_i32_121_r0 : BitVec 32 := 8#32
  let v114_r0 : BitVec 1 := Scalar.cmpi .eq v113_r0 c8_i32_121_r0
  let c0_i32_122_r0 : BitVec 32 := 0#32
  let v115_r0 : BitVec 32 := Scalar.select v114_r0 c0_i32_122_r0 v113_r0
  let c0_i32_123_r0 : BitVec 32 := 0#32
  let v116_r0 : BitVec 32 := Scalar.addi v115_r0 c0_i32_123_r0
  let c32_i32_136_r0 : BitVec 32 := 32#32
  let v129_r0 : BitVec 32 := Scalar.muli v116_r0 c32_i32_136_r0
  let c0_i32_124_r0 : BitVec 32 := 0#32
  let v117_r0 : BitVec 32 := Scalar.addi c0_i32_124_r0 v4
  let v130_r0 : BitVec 32 := Scalar.addi v129_r0 v117_r0
  let v131_r0 : BitVec 1 := Scalar.cmpi .ne v128_r0 v130_r0
  let c0_i32_46_r0 : BitVec 32 := 0#32
  let c1_i32_48_r0 : BitVec 32 := 1#32
  let arg5_r0 : BitVec 32 := Scf.iv c0_i32_46_r0 c1_i32_48_r0 k0_t1
  let c7_i32_137_r0 : BitVec 32 := 7#32
  let v132_r0 : BitVec 1 := Scalar.cmpi .sge arg5_r0 c7_i32_137_r0
  let true_138_r0 : BitVec 1 := 1#1
  let v133_r0 : BitVec 1 := Scalar.xori v132_r0 true_138_r0
  let v134_r0 : BitVec 1 := Scalar.andi v131_r0 v133_r0
  let true_139_r0 : BitVec 1 := 1#1
  let v135_r0 : BitVec 1 := Scalar.andi v134_r0 true_139_r0
  let v136_r0 : BitVec 32 := Scalar.extui v135_r0
  let c0_i32_140_r0 : BitVec 32 := 0#32
  let v137_r0 : BitVec 1 := Scalar.cmpi .ne v136_r0 c0_i32_140_r0
  v137_r0

def k0_off5 (i : grid0.Coords) (arg10_r0 : BitVec 32) : Fin 2 → Nat :=
  let c0_i32_182_r0 : BitVec 32 := 0#32
  let c128_i32_179_r0 : BitVec 32 := 128#32
  let true_115_r0 : BitVec 1 := 1#1
  let c1_i32_117_r0 : BitVec 32 := 1#32
  let c0_i32_116_r0 : BitVec 32 := 0#32
  let v109_r0 : BitVec 32 := Scalar.select true_115_r0 c1_i32_117_r0 c0_i32_116_r0
  let c1_i32_118_r0 : BitVec 32 := 1#32
  let v110_r0 : BitVec 1 := Scalar.cmpi .eq v109_r0 c1_i32_118_r0
  let c1_i32_120_r0 : BitVec 32 := 1#32
  let v112_r0 : BitVec 32 := Scalar.addi arg10_r0 c1_i32_120_r0
  let v113_r0 : BitVec 32 := Scalar.select v110_r0 v112_r0 arg10_r0
  let c8_i32_121_r0 : BitVec 32 := 8#32
  let v114_r0 : BitVec 1 := Scalar.cmpi .eq v113_r0 c8_i32_121_r0
  let c0_i32_122_r0 : BitVec 32 := 0#32
  let v115_r0 : BitVec 32 := Scalar.select v114_r0 c0_i32_122_r0 v113_r0
  let c0_i32_123_r0 : BitVec 32 := 0#32
  let v116_r0 : BitVec 32 := Scalar.addi v115_r0 c0_i32_123_r0
  let c32_i32_178_r0 : BitVec 32 := 32#32
  let v205_r0 : BitVec 32 := Scalar.muli v116_r0 c32_i32_178_r0
  let c0_i32_124_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v117_r0 : BitVec 32 := Scalar.addi c0_i32_124_r0 v4
  let v206_r0 : BitVec 32 := Scalar.addi v205_r0 v117_r0
  let v207_r0 : BitVec 32 := Scalar.muli c128_i32_179_r0 v206_r0
  ![0, v207_r0.toNat]
def k0_off6 (arg6_r0 : BitVec 32) : Fin 1 → Nat :=
  let c2_i32_177_r0 : BitVec 32 := 2#32
  let v204_r0 : BitVec 32 := Scalar.remui arg6_r0 c2_i32_177_r0
  ![v204_r0.toNat]
def k0_off7 (arg7_r0 : BitVec 32) : Fin 3 → Nat :=
  let c2_i32_179_r0 : BitVec 32 := 2#32
  let v207_r0 : BitVec 32 := Scalar.remui arg7_r0 c2_i32_179_r0
  let c0_i32_180_r0 : BitVec 32 := 0#32
  let c0_i32_181_r0 : BitVec 32 := 0#32
  ![v207_r0.toNat, 0, 0]
def k0_cond2 (i : grid0.Coords) (k0_t1 : Fin k0_t1_loop.trips) (arg10_r0 : BitVec 32) : BitVec 1 :=
  let c0_i32_103_r0 : BitVec 32 := 0#32
  let v98_r0 : BitVec 32 := Scalar.addi arg10_r0 c0_i32_103_r0
  let c32_i32_135_r0 : BitVec 32 := 32#32
  let v127_r0 : BitVec 32 := Scalar.muli v98_r0 c32_i32_135_r0
  let c0_i32_104_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v99_r0 : BitVec 32 := Scalar.addi c0_i32_104_r0 v4
  let v128_r0 : BitVec 32 := Scalar.addi v127_r0 v99_r0
  let true_105_r0 : BitVec 1 := 1#1
  let c_m1_i32_107_r0 : BitVec 32 := 4294967295#32
  let c0_i32_106_r0 : BitVec 32 := 0#32
  let v100_r0 : BitVec 32 := Scalar.select true_105_r0 c_m1_i32_107_r0 c0_i32_106_r0
  let c_m1_i32_108_r0 : BitVec 32 := 4294967295#32
  let v101_r0 : BitVec 1 := Scalar.cmpi .eq v100_r0 c_m1_i32_108_r0
  let c1_i32_110_r0 : BitVec 32 := 1#32
  let v103_r0 : BitVec 32 := Scalar.subi arg10_r0 c1_i32_110_r0
  let v104_r0 : BitVec 32 := Scalar.select v101_r0 v103_r0 arg10_r0
  let c_m1_i32_111_r0 : BitVec 32 := 4294967295#32
  let v105_r0 : BitVec 1 := Scalar.cmpi .eq v104_r0 c_m1_i32_111_r0
  let c7_i32_112_r0 : BitVec 32 := 7#32
  let v106_r0 : BitVec 32 := Scalar.select v105_r0 c7_i32_112_r0 v104_r0
  let c0_i32_113_r0 : BitVec 32 := 0#32
  let v107_r0 : BitVec 32 := Scalar.addi v106_r0 c0_i32_113_r0
  let c32_i32_147_r0 : BitVec 32 := 32#32
  let v149_r0 : BitVec 32 := Scalar.muli v107_r0 c32_i32_147_r0
  let c0_i32_114_r0 : BitVec 32 := 0#32
  let v108_r0 : BitVec 32 := Scalar.addi c0_i32_114_r0 v4
  let v150_r0 : BitVec 32 := Scalar.addi v149_r0 v108_r0
  let v151_r0 : BitVec 1 := Scalar.cmpi .ne v128_r0 v150_r0
  let c0_i32_46_r0 : BitVec 32 := 0#32
  let c1_i32_48_r0 : BitVec 32 := 1#32
  let arg5_r0 : BitVec 32 := Scf.iv c0_i32_46_r0 c1_i32_48_r0 k0_t1
  let c0_i32_101_r0 : BitVec 32 := 0#32
  let v96_r0 : BitVec 1 := Scalar.cmpi .eq arg5_r0 c0_i32_101_r0
  let v152_r0 : BitVec 1 := Scalar.ori v151_r0 v96_r0
  let c0_i32_148_r0 : BitVec 32 := 0#32
  let v153_r0 : BitVec 1 := Scalar.cmpi .sge arg5_r0 c0_i32_148_r0
  let v154_r0 : BitVec 1 := Scalar.andi v152_r0 v153_r0
  let v155_r0 : BitVec 32 := Scalar.extui v154_r0
  let c0_i32_149_r0 : BitVec 32 := 0#32
  let v156_r0 : BitVec 1 := Scalar.cmpi .ne v155_r0 c0_i32_149_r0
  v156_r0

def k0_off8 (i : grid0.Coords) (arg10_r0 : BitVec 32) : Fin 2 → Nat :=
  let c0_i32_182_r0 : BitVec 32 := 0#32
  let c128_i32_178_r0 : BitVec 32 := 128#32
  let c0_i32_103_r0 : BitVec 32 := 0#32
  let v98_r0 : BitVec 32 := Scalar.addi arg10_r0 c0_i32_103_r0
  let c32_i32_177_r0 : BitVec 32 := 32#32
  let v204_r0 : BitVec 32 := Scalar.muli v98_r0 c32_i32_177_r0
  let c0_i32_104_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v99_r0 : BitVec 32 := Scalar.addi c0_i32_104_r0 v4
  let v205_r0 : BitVec 32 := Scalar.addi v204_r0 v99_r0
  let v206_r0 : BitVec 32 := Scalar.muli c128_i32_178_r0 v205_r0
  ![0, v206_r0.toNat]
def k0_off9 (arg7_r0 : BitVec 32) : Fin 1 → Nat :=
  let c2_i32_179_r0 : BitVec 32 := 2#32
  let v207_r0 : BitVec 32 := Scalar.remui arg7_r0 c2_i32_179_r0
  ![v207_r0.toNat]
def k0_off10 (arg8_r0 : BitVec 32) : Fin 4 → Nat :=
  let c2_i32_154_r0 : BitVec 32 := 2#32
  let v166_r0 : BitVec 32 := Scalar.remui arg8_r0 c2_i32_154_r0
  let c0_i32_177_r1 : BitVec 32 := 0#32
  let c0_i32_178_r1 : BitVec 32 := 0#32
  let c0_i32_179_r1 : BitVec 32 := 0#32
  ![v166_r0.toNat, 0, 0, 0]

def k0_chk2 (arg8_r0 : BitVec 32) : Prop :=
  (∀ a, (k0_off10 arg8_r0) a + S1x128x2x128.size a ≤ S2x128x2x128.size a)
theorem k0_off10_inb : ∀ (arg8_r0 : BitVec 32) (k0_hw2 : k0_chk2 arg8_r0), ∀ a, (k0_off10 arg8_r0) a + S1x128x2x128.size a ≤ S2x128x2x128.size a := fun arg8_r0 k0_hw2 => k0_hw2

def k0_off11 (arg7_r0 : BitVec 32) : Fin 3 → Nat :=
  let c2_i32_153_r0 : BitVec 32 := 2#32
  let v165_r0 : BitVec 32 := Scalar.remui arg7_r0 c2_i32_153_r0
  let c0_i32_180_r1 : BitVec 32 := 0#32
  let c0_i32_181_r1 : BitVec 32 := 0#32
  ![v165_r0.toNat, 0, 0]

def k0_chk3 (arg7_r0 : BitVec 32) : Prop :=
  (∀ a, (k0_off11 arg7_r0) a + S1x1x128.size a ≤ S2x1x128.size a)
theorem k0_off11_inb : ∀ (arg7_r0 : BitVec 32) (k0_hw3 : k0_chk3 arg7_r0), ∀ a, (k0_off11 arg7_r0) a + S1x1x128.size a ≤ S2x1x128.size a := fun arg7_r0 k0_hw3 => k0_hw3

def k0_off12 (arg8_r0 : BitVec 32) : Fin 4 → Nat :=
  let c2_i32_177_r0 : BitVec 32 := 2#32
  let v204_r0 : BitVec 32 := Scalar.remui arg8_r0 c2_i32_177_r0
  let c0_i32_180_r0 : BitVec 32 := 0#32
  let c0_i32_181_r0 : BitVec 32 := 0#32
  let c0_i32_182_r0 : BitVec 32 := 0#32
  ![v204_r0.toNat, 0, 0, 0]
def k0_cond5 (i : grid0.Coords) (k0_t1 : Fin k0_t1_loop.trips) (arg10_r0 : BitVec 32) : BitVec 1 :=
  let c0_i32_103_r0 : BitVec 32 := 0#32
  let v98_r0 : BitVec 32 := Scalar.addi arg10_r0 c0_i32_103_r0
  let c32_i32_143_r0 : BitVec 32 := 32#32
  let v141_r0 : BitVec 32 := Scalar.muli v98_r0 c32_i32_143_r0
  let c0_i32_104_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v99_r0 : BitVec 32 := Scalar.addi c0_i32_104_r0 v4
  let v142_r0 : BitVec 32 := Scalar.addi v141_r0 v99_r0
  let true_115_r0 : BitVec 1 := 1#1
  let c1_i32_117_r0 : BitVec 32 := 1#32
  let c0_i32_116_r0 : BitVec 32 := 0#32
  let v109_r0 : BitVec 32 := Scalar.select true_115_r0 c1_i32_117_r0 c0_i32_116_r0
  let c1_i32_118_r0 : BitVec 32 := 1#32
  let v110_r0 : BitVec 1 := Scalar.cmpi .eq v109_r0 c1_i32_118_r0
  let c1_i32_120_r0 : BitVec 32 := 1#32
  let v112_r0 : BitVec 32 := Scalar.addi arg10_r0 c1_i32_120_r0
  let v113_r0 : BitVec 32 := Scalar.select v110_r0 v112_r0 arg10_r0
  let c8_i32_121_r0 : BitVec 32 := 8#32
  let v114_r0 : BitVec 1 := Scalar.cmpi .eq v113_r0 c8_i32_121_r0
  let c0_i32_122_r0 : BitVec 32 := 0#32
  let v115_r0 : BitVec 32 := Scalar.select v114_r0 c0_i32_122_r0 v113_r0
  let c0_i32_123_r0 : BitVec 32 := 0#32
  let v116_r0 : BitVec 32 := Scalar.addi v115_r0 c0_i32_123_r0
  let c32_i32_144_r0 : BitVec 32 := 32#32
  let v143_r0 : BitVec 32 := Scalar.muli v116_r0 c32_i32_144_r0
  let c0_i32_124_r0 : BitVec 32 := 0#32
  let v117_r0 : BitVec 32 := Scalar.addi c0_i32_124_r0 v4
  let v144_r0 : BitVec 32 := Scalar.addi v143_r0 v117_r0
  let v172_r0 : BitVec 1 := Scalar.cmpi .ne v142_r0 v144_r0
  let c0_i32_46_r0 : BitVec 32 := 0#32
  let c1_i32_48_r0 : BitVec 32 := 1#32
  let arg5_r0 : BitVec 32 := Scf.iv c0_i32_46_r0 c1_i32_48_r0 k0_t1
  let c7_i32_102_r0 : BitVec 32 := 7#32
  let v97_r0 : BitVec 1 := Scalar.cmpi .eq arg5_r0 c7_i32_102_r0
  let v173_r0 : BitVec 1 := Scalar.ori v172_r0 v97_r0
  let v174_r0 : BitVec 32 := Scalar.extui v173_r0
  let c0_i32_157_r0 : BitVec 32 := 0#32
  let v175_r0 : BitVec 1 := Scalar.cmpi .ne v174_r0 c0_i32_157_r0
  v175_r0

def k0_off13 (i : grid0.Coords) (arg10_r0 : BitVec 32) : Fin 3 → Nat :=
  let c128_i32_179_r0 : BitVec 32 := 128#32
  let c0_i32_103_r0 : BitVec 32 := 0#32
  let v98_r0 : BitVec 32 := Scalar.addi arg10_r0 c0_i32_103_r0
  let c32_i32_178_r0 : BitVec 32 := 32#32
  let v205_r0 : BitVec 32 := Scalar.muli v98_r0 c32_i32_178_r0
  let c0_i32_104_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v99_r0 : BitVec 32 := Scalar.addi c0_i32_104_r0 v4
  let v206_r0 : BitVec 32 := Scalar.addi v205_r0 v99_r0
  let v207_r0 : BitVec 32 := Scalar.muli c128_i32_179_r0 v206_r0
  let c0_i32_183_r0 : BitVec 32 := 0#32
  let c0_i32_184_r0 : BitVec 32 := 0#32
  ![v207_r0.toNat, 0, 0]
def k0_off14 (arg8_r0 : BitVec 32) : Fin 1 → Nat :=
  let c2_i32_177_r0 : BitVec 32 := 2#32
  let v204_r0 : BitVec 32 := Scalar.remui arg8_r0 c2_i32_177_r0
  ![v204_r0.toNat]
def k0_off15 (arg9_r0 : BitVec 32) : Fin 4 → Nat :=
  let c2_i32_177_r0 : BitVec 32 := 2#32
  let v204_r0 : BitVec 32 := Scalar.remui arg9_r0 c2_i32_177_r0
  let c0_i32_180_r0 : BitVec 32 := 0#32
  let c0_i32_181_r0 : BitVec 32 := 0#32
  let c0_i32_182_r0 : BitVec 32 := 0#32
  ![v204_r0.toNat, 0, 0, 0]
def k0_cond7 (i : grid0.Coords) (k0_t1 : Fin k0_t1_loop.trips) (arg10_r0 : BitVec 32) : BitVec 1 :=
  let c0_i32_103_r0 : BitVec 32 := 0#32
  let v98_r0 : BitVec 32 := Scalar.addi arg10_r0 c0_i32_103_r0
  let c32_i32_143_r0 : BitVec 32 := 32#32
  let v141_r0 : BitVec 32 := Scalar.muli v98_r0 c32_i32_143_r0
  let c0_i32_104_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v99_r0 : BitVec 32 := Scalar.addi c0_i32_104_r0 v4
  let v142_r0 : BitVec 32 := Scalar.addi v141_r0 v99_r0
  let true_105_r0 : BitVec 1 := 1#1
  let c_m1_i32_107_r0 : BitVec 32 := 4294967295#32
  let c0_i32_106_r0 : BitVec 32 := 0#32
  let v100_r0 : BitVec 32 := Scalar.select true_105_r0 c_m1_i32_107_r0 c0_i32_106_r0
  let c_m1_i32_108_r0 : BitVec 32 := 4294967295#32
  let v101_r0 : BitVec 1 := Scalar.cmpi .eq v100_r0 c_m1_i32_108_r0
  let c1_i32_110_r0 : BitVec 32 := 1#32
  let v103_r0 : BitVec 32 := Scalar.subi arg10_r0 c1_i32_110_r0
  let v104_r0 : BitVec 32 := Scalar.select v101_r0 v103_r0 arg10_r0
  let c_m1_i32_111_r0 : BitVec 32 := 4294967295#32
  let v105_r0 : BitVec 1 := Scalar.cmpi .eq v104_r0 c_m1_i32_111_r0
  let c7_i32_112_r0 : BitVec 32 := 7#32
  let v106_r0 : BitVec 32 := Scalar.select v105_r0 c7_i32_112_r0 v104_r0
  let c0_i32_113_r0 : BitVec 32 := 0#32
  let v107_r0 : BitVec 32 := Scalar.addi v106_r0 c0_i32_113_r0
  let c32_i32_150_r0 : BitVec 32 := 32#32
  let v157_r0 : BitVec 32 := Scalar.muli v107_r0 c32_i32_150_r0
  let c0_i32_114_r0 : BitVec 32 := 0#32
  let v108_r0 : BitVec 32 := Scalar.addi c0_i32_114_r0 v4
  let v158_r0 : BitVec 32 := Scalar.addi v157_r0 v108_r0
  let v185_r0 : BitVec 1 := Scalar.cmpi .ne v142_r0 v158_r0
  let c0_i32_46_r0 : BitVec 32 := 0#32
  let c1_i32_48_r0 : BitVec 32 := 1#32
  let arg5_r0 : BitVec 32 := Scf.iv c0_i32_46_r0 c1_i32_48_r0 k0_t1
  let c0_i32_101_r0 : BitVec 32 := 0#32
  let v96_r0 : BitVec 1 := Scalar.cmpi .eq arg5_r0 c0_i32_101_r0
  let true_163_r0 : BitVec 1 := 1#1
  let v186_r0 : BitVec 1 := Scalar.xori v96_r0 true_163_r0
  let v187_r0 : BitVec 1 := Scalar.andi v185_r0 v186_r0
  let v188_r0 : BitVec 32 := Scalar.extui v187_r0
  let c0_i32_164_r0 : BitVec 32 := 0#32
  let v189_r0 : BitVec 1 := Scalar.cmpi .ne v188_r0 c0_i32_164_r0
  v189_r0

def k0_off16 (i : grid0.Coords) (arg10_r0 : BitVec 32) : Fin 3 → Nat :=
  let c128_i32_179_r0 : BitVec 32 := 128#32
  let true_105_r0 : BitVec 1 := 1#1
  let c_m1_i32_107_r0 : BitVec 32 := 4294967295#32
  let c0_i32_106_r0 : BitVec 32 := 0#32
  let v100_r0 : BitVec 32 := Scalar.select true_105_r0 c_m1_i32_107_r0 c0_i32_106_r0
  let c_m1_i32_108_r0 : BitVec 32 := 4294967295#32
  let v101_r0 : BitVec 1 := Scalar.cmpi .eq v100_r0 c_m1_i32_108_r0
  let c1_i32_110_r0 : BitVec 32 := 1#32
  let v103_r0 : BitVec 32 := Scalar.subi arg10_r0 c1_i32_110_r0
  let v104_r0 : BitVec 32 := Scalar.select v101_r0 v103_r0 arg10_r0
  let c_m1_i32_111_r0 : BitVec 32 := 4294967295#32
  let v105_r0 : BitVec 1 := Scalar.cmpi .eq v104_r0 c_m1_i32_111_r0
  let c7_i32_112_r0 : BitVec 32 := 7#32
  let v106_r0 : BitVec 32 := Scalar.select v105_r0 c7_i32_112_r0 v104_r0
  let c0_i32_113_r0 : BitVec 32 := 0#32
  let v107_r0 : BitVec 32 := Scalar.addi v106_r0 c0_i32_113_r0
  let c32_i32_178_r0 : BitVec 32 := 32#32
  let v205_r0 : BitVec 32 := Scalar.muli v107_r0 c32_i32_178_r0
  let c0_i32_114_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v108_r0 : BitVec 32 := Scalar.addi c0_i32_114_r0 v4
  let v206_r0 : BitVec 32 := Scalar.addi v205_r0 v108_r0
  let v207_r0 : BitVec 32 := Scalar.muli c128_i32_179_r0 v206_r0
  let c0_i32_183_r0 : BitVec 32 := 0#32
  let c0_i32_184_r0 : BitVec 32 := 0#32
  ![v207_r0.toNat, 0, 0]
def k0_off17 (arg9_r0 : BitVec 32) : Fin 1 → Nat :=
  let c2_i32_177_r0 : BitVec 32 := 2#32
  let v204_r0 : BitVec 32 := Scalar.remui arg9_r0 c2_i32_177_r0
  ![v204_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) : Prop :=
  (∀ (k0_h1 : k0_cond1 i k0_t1 arg10_r0 = 1#1), ∀ a, (k0_off4 arg6_r0) a + S1x1x128.size a ≤ S2x1x128.size a) ∧
  (∀ (k0_h1 : k0_cond1 i k0_t1 arg10_r0 = 1#1), ∀ a, (k0_off5 i arg10_r0) a + S1x128.size a ≤ S1x32768.size a) ∧
  (∀ (k0_h1 : k0_cond1 i k0_t1 arg10_r0 = 1#1), ∀ a, (k0_off6 arg6_r0) a + S1.size a ≤ S2.size a) ∧
  (∀ (k0_h2 : k0_cond2 i k0_t1 arg10_r0 = 1#1), ∀ a, (k0_off7 arg7_r0) a + S1x1x128.size a ≤ S2x1x128.size a) ∧
  (∀ (k0_h2 : k0_cond2 i k0_t1 arg10_r0 = 1#1), ∀ a, (k0_off8 i arg10_r0) a + S1x128.size a ≤ S1x32768.size a) ∧
  (∀ (k0_h2 : k0_cond2 i k0_t1 arg10_r0 = 1#1), ∀ a, (k0_off9 arg7_r0) a + S1.size a ≤ S2.size a) ∧
  (∀ (k0_h5 : k0_cond5 i k0_t1 arg10_r0 = 1#1), ∀ a, (k0_off12 arg8_r0) a + S1x128x2x128.size a ≤ S2x128x2x128.size a) ∧
  (∀ (k0_h5 : k0_cond5 i k0_t1 arg10_r0 = 1#1), ∀ a, (k0_off13 i arg10_r0) a + S128x2x128.size a ≤ S32768x2x128.size a) ∧
  (∀ (k0_h5 : k0_cond5 i k0_t1 arg10_r0 = 1#1), ∀ a, (k0_off14 arg8_r0) a + S1.size a ≤ S2.size a) ∧
  (∀ (k0_h7 : k0_cond7 i k0_t1 arg10_r0 = 1#1), ∀ a, (k0_off15 arg9_r0) a + S1x128x2x128.size a ≤ S2x128x2x128.size a) ∧
  (∀ (k0_h7 : k0_cond7 i k0_t1 arg10_r0 = 1#1), ∀ a, (k0_off16 i arg10_r0) a + S128x2x128.size a ≤ S32768x2x128.size a) ∧
  (∀ (k0_h7 : k0_cond7 i k0_t1 arg10_r0 = 1#1), ∀ a, (k0_off17 arg9_r0) a + S1.size a ≤ S2.size a)
theorem k0_off4_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off4 arg6_r0) a + S1x1x128.size a ≤ S2x1x128.size a := fun i k0_t1 arg6_r0 arg7_r0 arg8_r0 arg9_r0 arg10_r0 k0_hw1 k0_h1 => k0_hw1.1 k0_h1
theorem k0_off5_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off5 i arg10_r0) a + S1x128.size a ≤ S1x32768.size a := fun i k0_t1 arg6_r0 arg7_r0 arg8_r0 arg9_r0 arg10_r0 k0_hw1 k0_h1 => k0_hw1.2.1 k0_h1
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off6 arg6_r0) a + S1.size a ≤ S2.size a := fun i k0_t1 arg6_r0 arg7_r0 arg8_r0 arg9_r0 arg10_r0 k0_hw1 k0_h1 => k0_hw1.2.2.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off7 arg7_r0) a + S1x1x128.size a ≤ S2x1x128.size a := fun i k0_t1 arg6_r0 arg7_r0 arg8_r0 arg9_r0 arg10_r0 k0_hw1 k0_h2 => k0_hw1.2.2.2.1 k0_h2
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off8 i arg10_r0) a + S1x128.size a ≤ S1x32768.size a := fun i k0_t1 arg6_r0 arg7_r0 arg8_r0 arg9_r0 arg10_r0 k0_hw1 k0_h2 => k0_hw1.2.2.2.2.1 k0_h2
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off9 arg7_r0) a + S1.size a ≤ S2.size a := fun i k0_t1 arg6_r0 arg7_r0 arg8_r0 arg9_r0 arg10_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off12 arg8_r0) a + S1x128x2x128.size a ≤ S2x128x2x128.size a := fun i k0_t1 arg6_r0 arg7_r0 arg8_r0 arg9_r0 arg10_r0 k0_hw1 k0_h5 => k0_hw1.2.2.2.2.2.2.1 k0_h5
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off13 i arg10_r0) a + S128x2x128.size a ≤ S32768x2x128.size a := fun i k0_t1 arg6_r0 arg7_r0 arg8_r0 arg9_r0 arg10_r0 k0_hw1 k0_h5 => k0_hw1.2.2.2.2.2.2.2.1 k0_h5
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off14 arg8_r0) a + S1.size a ≤ S2.size a := fun i k0_t1 arg6_r0 arg7_r0 arg8_r0 arg9_r0 arg10_r0 k0_hw1 k0_h5 => k0_hw1.2.2.2.2.2.2.2.2.1 k0_h5
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off15 arg9_r0) a + S1x128x2x128.size a ≤ S2x128x2x128.size a := fun i k0_t1 arg6_r0 arg7_r0 arg8_r0 arg9_r0 arg10_r0 k0_hw1 k0_h7 => k0_hw1.2.2.2.2.2.2.2.2.2.1 k0_h7
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off16 i arg10_r0) a + S128x2x128.size a ≤ S32768x2x128.size a := fun i k0_t1 arg6_r0 arg7_r0 arg8_r0 arg9_r0 arg10_r0 k0_hw1 k0_h7 => k0_hw1.2.2.2.2.2.2.2.2.2.2.1 k0_h7
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off17 arg9_r0) a + S1.size a ≤ S2.size a := fun i k0_t1 arg6_r0 arg7_r0 arg8_r0 arg9_r0 arg10_r0 k0_hw1 k0_h7 => k0_hw1.2.2.2.2.2.2.2.2.2.2.2 k0_h7

def k0_off18 (v46_3_r0 : BitVec 32) : Fin 4 → Nat :=
  let c2_i32_89_r0 : BitVec 32 := 2#32
  let v84_r0 : BitVec 32 := Scalar.remui v46_3_r0 c2_i32_89_r0
  let c0_i32_91_r0 : BitVec 32 := 0#32
  let c0_i32_92_r0 : BitVec 32 := 0#32
  let c0_i32_93_r0 : BitVec 32 := 0#32
  ![v84_r0.toNat, 0, 0, 0]

def k0_off19 (i : grid0.Coords) (v46_5_r0 : BitVec 32) (v46_4_r0 : BitVec 32) : Fin 3 → Nat :=
  let c128_i32_90_r0 : BitVec 32 := 128#32
  let true_51_r0 : BitVec 1 := 1#1
  let c1_i32_50_r0 : BitVec 32 := 1#32
  let v47_r0 : BitVec 32 := Scalar.subi v46_5_r0 c1_i32_50_r0
  let v48_r0 : BitVec 32 := Scalar.select true_51_r0 v47_r0 v46_5_r0
  let c_m1_i32_52_r0 : BitVec 32 := 4294967295#32
  let v49_r0 : BitVec 1 := Scalar.cmpi .eq v48_r0 c_m1_i32_52_r0
  let c1_i32_54_r0 : BitVec 32 := 1#32
  let v51_r0 : BitVec 32 := Scalar.subi v46_4_r0 c1_i32_54_r0
  let v52_r0 : BitVec 32 := Scalar.select v49_r0 v51_r0 v46_4_r0
  let c_m1_i32_55_r0 : BitVec 32 := 4294967295#32
  let v53_r0 : BitVec 1 := Scalar.cmpi .eq v52_r0 c_m1_i32_55_r0
  let c7_i32_56_r0 : BitVec 32 := 7#32
  let v54_r0 : BitVec 32 := Scalar.select v53_r0 c7_i32_56_r0 v52_r0
  let c0_i32_57_r0 : BitVec 32 := 0#32
  let v55_r0 : BitVec 32 := Scalar.addi v54_r0 c0_i32_57_r0
  let c32_i32_r0 : BitVec 32 := 32#32
  let v85_r0 : BitVec 32 := Scalar.muli v55_r0 c32_i32_r0
  let c0_i32_58_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v56_r0 : BitVec 32 := Scalar.addi c0_i32_58_r0 v4
  let v86_r0 : BitVec 32 := Scalar.addi v85_r0 v56_r0
  let v87_r0 : BitVec 32 := Scalar.muli c128_i32_90_r0 v86_r0
  let c0_i32_94_r0 : BitVec 32 := 0#32
  let c0_i32_95_r0 : BitVec 32 := 0#32
  ![v87_r0.toNat, 0, 0]

def k0_chk5 (i : grid0.Coords) (v46_5_r0 : BitVec 32) (v46_4_r0 : BitVec 32) : Prop :=
  (∀ a, (k0_off19 i v46_5_r0 v46_4_r0) a + S128x2x128.size a ≤ S32768x2x128.size a)
theorem k0_off19_inb : ∀ (i : grid0.Coords) (v46_5_r0 : BitVec 32) (v46_4_r0 : BitVec 32) (k0_hw5 : k0_chk5 i v46_5_r0 v46_4_r0), ∀ a, (k0_off19 i v46_5_r0 v46_4_r0) a + S128x2x128.size a ≤ S32768x2x128.size a := fun i v46_5_r0 v46_4_r0 k0_hw5 => k0_hw5

def k0_off20 (v46_3_r0 : BitVec 32) : Fin 1 → Nat :=
  let c2_i32_89_r0 : BitVec 32 := 2#32
  let v84_r0 : BitVec 32 := Scalar.remui v46_3_r0 c2_i32_89_r0
  ![v84_r0.toNat]
def k0_off21 (v46_3_r0 : BitVec 32) : Fin 4 → Nat :=
  let c2_i32_89_r0 : BitVec 32 := 2#32
  let v84_r0 : BitVec 32 := Scalar.remui v46_3_r0 c2_i32_89_r0
  let c0_i32_98_r0 : BitVec 32 := 0#32
  let c0_i32_99_r0 : BitVec 32 := 0#32
  let c0_i32_100_r0 : BitVec 32 := 0#32
  ![v84_r0.toNat, 0, 0, 0]

def k0_chk4 (v46_3_r0 : BitVec 32) : Prop :=
  (∀ a, (k0_off18 v46_3_r0) a + S1x128x2x128.size a ≤ S2x128x2x128.size a) ∧
  (∀ a, (k0_off20 v46_3_r0) a + S1.size a ≤ S2.size a) ∧
  (∀ a, (k0_off21 v46_3_r0) a + S1x128x2x128.size a ≤ S2x128x2x128.size a)
theorem k0_off18_inb : ∀ (v46_3_r0 : BitVec 32) (k0_hw4 : k0_chk4 v46_3_r0), ∀ a, (k0_off18 v46_3_r0) a + S1x128x2x128.size a ≤ S2x128x2x128.size a := fun v46_3_r0 k0_hw4 => k0_hw4.1
theorem k0_off20_inb : ∀ (v46_3_r0 : BitVec 32) (k0_hw4 : k0_chk4 v46_3_r0), ∀ a, (k0_off20 v46_3_r0) a + S1.size a ≤ S2.size a := fun v46_3_r0 k0_hw4 => k0_hw4.2.1
theorem k0_off21_inb : ∀ (v46_3_r0 : BitVec 32) (k0_hw4 : k0_chk4 v46_3_r0), ∀ a, (k0_off21 v46_3_r0) a + S1x128x2x128.size a ≤ S2x128x2x128.size a := fun v46_3_r0 k0_hw4 => k0_hw4.2.2

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S90624x256 : Shape := ⟨2, ![90624, 256]⟩
abbrev S1x32768 : Shape := ⟨2, ![1, 32768]⟩
abbrev S32768 : Shape := ⟨1, ![32768]⟩
abbrev S_ : Shape := ⟨0, ![]⟩
abbrev S32768x1 : Shape := ⟨2, ![32768, 1]⟩
abbrev S32768x256 : Shape := ⟨2, ![32768, 256]⟩

abbrev nBuf : Space → Nat
  | .hbm => 12
  | .vmem => 0
  | .smem => 0
  | _ => 0

abbrev bufTy : (tb : Table) → Fin (tcTables nBuf tb) → BufTy
  | .hbm, ⟨0, _⟩ => ⟨S90624x256, .i32⟩
  | .hbm, ⟨1, _⟩ => ⟨S1x32768, .i32⟩
  | .hbm, ⟨2, _⟩ => ⟨S32768, .i32⟩
  | .hbm, ⟨3, _⟩ => ⟨S_, .i32⟩
  | .hbm, ⟨4, _⟩ => ⟨S32768, .i32⟩
  | .hbm, ⟨5, _⟩ => ⟨S32768, .i1⟩
  | .hbm, ⟨6, _⟩ => ⟨S_, .i32⟩
  | .hbm, ⟨7, _⟩ => ⟨S32768, .i32⟩
  | .hbm, ⟨8, _⟩ => ⟨S32768, .i32⟩
  | .hbm, ⟨9, _⟩ => ⟨S32768, .i32⟩
  | .hbm, ⟨10, _⟩ => ⟨S32768x1, .i32⟩
  | .hbm, ⟨11, _⟩ => ⟨S32768x256, .i32⟩
  | _, _ => ⟨S90624x256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel2.lean ====
abbrev S4x8192x1024 : Shape := ⟨3, ![4, 8192, 1024]⟩
abbrev S1024 : Shape := ⟨1, ![1024]⟩
abbrev S1024x5136 : Shape := ⟨2, ![1024, 5136]⟩
abbrev S16x256 : Shape := ⟨2, ![16, 256]⟩
abbrev S256 : Shape := ⟨1, ![256]⟩
abbrev S32768x1024 : Shape := ⟨2, ![32768, 1024]⟩
abbrev S1024x16 : Shape := ⟨2, ![1024, 16]⟩
abbrev S_ : Shape := ⟨0, ![]⟩
abbrev S1024x128 : Shape := ⟨2, ![1024, 128]⟩
abbrev S128x256 : Shape := ⟨2, ![128, 256]⟩
abbrev S1024x512 : Shape := ⟨2, ![1024, 512]⟩
abbrev S1x256 : Shape := ⟨2, ![1, 256]⟩
abbrev S512x1024 : Shape := ⟨2, ![512, 1024]⟩
abbrev S1024x1024 : Shape := ⟨2, ![1024, 1024]⟩
abbrev S1x1024 : Shape := ⟨2, ![1, 1024]⟩
abbrev S32768x512 : Shape := ⟨2, ![32768, 512]⟩
abbrev S32768x256 : Shape := ⟨2, ![32768, 256]⟩
abbrev S128x512x256 : Shape := ⟨3, ![128, 512, 256]⟩
abbrev S512x512 : Shape := ⟨2, ![512, 512]⟩
abbrev S512x256 : Shape := ⟨2, ![512, 256]⟩
abbrev S2x512x256 : Shape := ⟨3, ![2, 512, 256]⟩
abbrev S512 : Shape := ⟨1, ![512]⟩
abbrev S512x1 : Shape := ⟨2, ![512, 1]⟩
abbrev S512x128 : Shape := ⟨2, ![512, 128]⟩
abbrev S1x512x256 : Shape := ⟨3, ![1, 512, 256]⟩

abbrev nBuf : Space → Nat
  | .hbm => 36
  | .vmem => 32
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x5136, .f32⟩
  | .hbm, ⟨3, _⟩ => ⟨S16x256, .f32⟩
  | .hbm, ⟨4, _⟩ => ⟨S256, .f32⟩
  | .hbm, ⟨5, _⟩ => ⟨S32768x1024, .f32⟩
  | .hbm, ⟨6, _⟩ => ⟨S1024x5136, .bf16⟩
  | .hbm, ⟨7, _⟩ => ⟨S1024x16, .bf16⟩
  | .hbm, ⟨8, _⟩ => ⟨S_, .i32⟩
  | .hbm, ⟨9, _⟩ => ⟨S_, .bf16⟩
  | .hbm, ⟨10, _⟩ => ⟨S1024x128, .bf16⟩
  | .hbm, ⟨11, _⟩ => ⟨S16x256, .bf16⟩
  | .hbm, ⟨12, _⟩ => ⟨S_, .i32⟩
  | .hbm, ⟨13, _⟩ => ⟨S_, .bf16⟩
  | .hbm, ⟨14, _⟩ => ⟨S128x256, .bf16⟩
  | .hbm, ⟨15, _⟩ => ⟨S1024x512, .bf16⟩
  | .hbm, ⟨16, _⟩ => ⟨S1024x512, .bf16⟩
  | .hbm, ⟨17, _⟩ => ⟨S1024x512, .bf16⟩
  | .hbm, ⟨18, _⟩ => ⟨S1x256, .f32⟩
  | .hbm, ⟨19, _⟩ => ⟨S1024x512, .bf16⟩
  | .hbm, ⟨20, _⟩ => ⟨S512x1024, .bf16⟩
  | .hbm, ⟨21, _⟩ => ⟨S1024x512, .bf16⟩
  | .hbm, ⟨22, _⟩ => ⟨S1024x512, .bf16⟩
  | .hbm, ⟨23, _⟩ => ⟨S512x1024, .bf16⟩
  | .hbm, ⟨24, _⟩ => ⟨S1024x1024, .bf16⟩
  | .hbm, ⟨25, _⟩ => ⟨S1024x1024, .bf16⟩
  | .hbm, ⟨26, _⟩ => ⟨S1x1024, .f32⟩
  | .hbm, ⟨27, _⟩ => ⟨S32768x512, .f32⟩
  | .hbm, ⟨28, _⟩ => ⟨S32768x512, .bf16⟩
  | .hbm, ⟨29, _⟩ => ⟨S32768x512, .f32⟩
  | .hbm, ⟨30, _⟩ => ⟨S32768x256, .f32⟩
  | .hbm, ⟨31, _⟩ => ⟨S128x512x256, .bf16⟩
  | .hbm, ⟨32, _⟩ => ⟨S32768x512, .bf16⟩
  | .hbm, ⟨33, _⟩ => ⟨S128x512x256, .bf16⟩
  | .hbm, ⟨34, _⟩ => ⟨S32768x1024, .f32⟩
  | .hbm, ⟨35, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x128, .bf16⟩
  | .local _ .vmem, ⟨7, _⟩ => ⟨S128x256, .bf16⟩
  | .local _ .vmem, ⟨8, _⟩ => ⟨S1x256, .f32⟩
  | .local _ .vmem, ⟨9, _⟩ => ⟨S512x1024, .bf16⟩
  | .local _ .vmem, ⟨10, _⟩ => ⟨S1024x512, .bf16⟩
  | .local _ .vmem, ⟨11, _⟩ => ⟨S512x1024, .bf16⟩
  | .local _ .vmem, ⟨12, _⟩ => ⟨S1024x1024, .bf16⟩
  | .local _ .vmem, ⟨13, _⟩ => ⟨S1024x1024, .bf16⟩
  | .local _ .vmem, ⟨14, _⟩ => ⟨S512x512, .f32⟩
  | .local _ .vmem, ⟨15, _⟩ => ⟨S512x512, .f32⟩
  | .local _ .vmem, ⟨16, _⟩ => ⟨S512x512, .bf16⟩
  | .local _ .vmem, ⟨17, _⟩ => ⟨S512x512, .bf16⟩
  | .local _ .vmem, ⟨18, _⟩ => ⟨S512x512, .f32⟩
  | .local _ .vmem, ⟨19, _⟩ => ⟨S512x512, .f32⟩
  | .local _ .vmem, ⟨20, _⟩ => ⟨S512x256, .f32⟩
  | .local _ .vmem, ⟨21, _⟩ => ⟨S512x256, .f32⟩
  | .local _ .vmem, ⟨22, _⟩ => ⟨S2x512x256, .bf16⟩
  | .local _ .vmem, ⟨23, _⟩ => ⟨S2x512x256, .bf16⟩
  | .local _ .vmem, ⟨24, _⟩ => ⟨S512x512, .bf16⟩
  | .local _ .vmem, ⟨25, _⟩ => ⟨S512x512, .bf16⟩
  | .local _ .vmem, ⟨26, _⟩ => ⟨S2x512x256, .bf16⟩
  | .local _ .vmem, ⟨27, _⟩ => ⟨S2x512x256, .bf16⟩
  | .local _ .vmem, ⟨28, _⟩ => ⟨S512x1024, .f32⟩
  | .local _ .vmem, ⟨29, _⟩ => ⟨S512x1024, .f32⟩
  | .local _ .vmem, ⟨30, _⟩ => ⟨S512x1024, .f32⟩
  | .local _ .vmem, ⟨31, _⟩ => ⟨S512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_call1_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18_0 : Ref sig .tc := ⟨.hbm, 27, rfl⟩
abbrev main_v18_1 : Ref sig .tc := ⟨.hbm, 28, rfl⟩
abbrev main_v18_2 : Ref sig .tc := ⟨.hbm, 29, rfl⟩
abbrev main_v18_3 : Ref sig .tc := ⟨.hbm, 30, rfl⟩
abbrev main_v18_4 : Ref sig .tc := ⟨.hbm, 31, rfl⟩
abbrev main_v18_5 : Ref sig .tc := ⟨.hbm, 32, rfl⟩
abbrev main_v18_6 : Ref sig .tc := ⟨.hbm, 33, rfl⟩
abbrev main_v18_7 : Ref sig .tc := ⟨.hbm, 34, rfl⟩
abbrev main_v18_8 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_stg14_0 : Ref sig .tc := ⟨.vmem, 16, rfl⟩
abbrev cc0_stg14_1 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg18_1 : Ref sig .tc := ⟨.vmem, 25, rfl⟩
abbrev cc0_stg19_0 : Ref sig .tc := ⟨.vmem, 26, rfl⟩
abbrev cc0_stg19_1 : Ref sig .tc := ⟨.vmem, 27, rfl⟩
abbrev cc0_stg20_0 : Ref sig .tc := ⟨.vmem, 28, rfl⟩
abbrev cc0_stg20_1 : Ref sig .tc := ⟨.vmem, 29, rfl⟩
abbrev cc0_stg21_0 : Ref sig .tc := ⟨.vmem, 30, rfl⟩
abbrev cc0_stg21_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15
abbrev cc0_sem14_0 : DmaSem sig := 16
abbrev cc0_sem14_1 : DmaSem sig := 17
abbrev cc0_sem15_0 : DmaSem sig := 18
abbrev cc0_sem15_1 : DmaSem sig := 19
abbrev cc0_sem16_0 : DmaSem sig := 20
abbrev cc0_sem16_1 : DmaSem sig := 21
abbrev cc0_sem17_0 : DmaSem sig := 22
abbrev cc0_sem17_1 : DmaSem sig := 23
abbrev cc0_sem18_0 : DmaSem sig := 24
abbrev cc0_sem18_1 : DmaSem sig := 25
abbrev cc0_sem19_0 : DmaSem sig := 26
abbrev cc0_sem19_1 : DmaSem sig := 27
abbrev cc0_sem20_0 : DmaSem sig := 28
abbrev cc0_sem20_1 : DmaSem sig := 29
abbrev cc0_sem21_0 : DmaSem sig := 30
abbrev cc0_sem21_1 : DmaSem sig := 31

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S2x512x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S2x512x256 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== Kernel2Ideal.lean ====
variable {F : FTy → Type} [FloatOps F] [Named F]
def κ : String → Option EReal := fun
  | "scale" => some ((8⁻¹ * (Real.log 2)⁻¹ : ℝ) : EReal)
  | _ => none
-- ==== Reference2Ideal.lean ====
abbrev S4x8192x1024 : Shape := ⟨3, ![4, 8192, 1024]⟩
abbrev S1024 : Shape := ⟨1, ![1024]⟩
abbrev S1024x5136 : Shape := ⟨2, ![1024, 5136]⟩
abbrev S16x256 : Shape := ⟨2, ![16, 256]⟩
abbrev S256 : Shape := ⟨1, ![256]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x5136 : Shape := ⟨3, ![4, 8192, 5136]⟩
abbrev S4x8192x256 : Shape := ⟨3, ![4, 8192, 256]⟩
abbrev S4x8192x512 : Shape := ⟨3, ![4, 8192, 512]⟩
abbrev S4x8192x16 : Shape := ⟨3, ![4, 8192, 16]⟩
abbrev S1x1x256 : Shape := ⟨3, ![1, 1, 256]⟩
abbrev S32768x512 : Shape := ⟨2, ![32768, 512]⟩
abbrev S32768x256 : Shape := ⟨2, ![32768, 256]⟩
abbrev S128x256x512 : Shape := ⟨3, ![128, 256, 512]⟩
abbrev S128x512x256 : Shape := ⟨3, ![128, 512, 256]⟩
abbrev S32768x1024 : Shape := ⟨2, ![32768, 1024]⟩

abbrev nBuf : Space → Nat
  | .hbm => 78
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x5136, .f32⟩
  | .hbm, ⟨3, _⟩ => ⟨S16x256, .f32⟩
  | .hbm, ⟨4, _⟩ => ⟨S256, .f32⟩
  | .hbm, ⟨5, _⟩ => ⟨S4x8192x1024, .f32⟩
  | .hbm, ⟨6, _⟩ => ⟨S_, .f32⟩
  | .hbm, ⟨7, _⟩ => ⟨S4x8192, .f32⟩
  | .hbm, ⟨8, _⟩ => ⟨S4x8192x1, .f32⟩
  | .hbm, ⟨9, _⟩ => ⟨S_, .f32⟩
  | .hbm, ⟨10, _⟩ => ⟨S4x8192x1, .f32⟩
  | .hbm, ⟨11, _⟩ => ⟨S4x8192x1, .f32⟩
  | .hbm, ⟨12, _⟩ => ⟨S_, .f32⟩
  | .hbm, ⟨13, _⟩ => ⟨S4x8192x1, .f32⟩
  | .hbm, ⟨14, _⟩ => ⟨S4x8192x1, .f32⟩
  | .hbm, ⟨15, _⟩ => ⟨S4x8192x1, .f32⟩
  | .hbm, ⟨16, _⟩ => ⟨S4x8192x1024, .f32⟩
  | .hbm, ⟨17, _⟩ => ⟨S4x8192x1024, .f32⟩
  | .hbm, ⟨18, _⟩ => ⟨S1x1x1024, .f32⟩
  | .hbm, ⟨19, _⟩ => ⟨S4x8192x1024, .f32⟩
  | .hbm, ⟨20, _⟩ => ⟨S4x8192x1024, .f32⟩
  | .hbm, ⟨21, _⟩ => ⟨S4x8192x5136, .f32⟩
  | .hbm, ⟨22, _⟩ => ⟨S4x8192x256, .f32⟩
  | .hbm, ⟨23, _⟩ => ⟨S4x8192x256, .f32⟩
  | .hbm, ⟨24, _⟩ => ⟨S4x8192x512, .f32⟩
  | .hbm, ⟨25, _⟩ => ⟨S4x8192x512, .f32⟩
  | .hbm, ⟨26, _⟩ => ⟨S4x8192x16, .f32⟩
  | .hbm, ⟨27, _⟩ => ⟨S4x8192x512, .f32⟩
  | .hbm, ⟨28, _⟩ => ⟨S4x8192x512, .f32⟩
  | .hbm, ⟨29, _⟩ => ⟨S4x8192x512, .f32⟩
  | .hbm, ⟨30, _⟩ => ⟨S4x8192x1024, .f32⟩
  | .hbm, ⟨31, _⟩ => ⟨S4x8192x1024, .f32⟩
  | .hbm, ⟨32, _⟩ => ⟨S4x8192x256, .f32⟩
  | .hbm, ⟨33, _⟩ => ⟨S1x1x256, .f32⟩
  | .hbm, ⟨34, _⟩ => ⟨S4x8192x256, .f32⟩
  | .hbm, ⟨35, _⟩ => ⟨S4x8192x256, .f32⟩
  | .hbm, ⟨36, _⟩ => ⟨S4x8192x256, .f32⟩
  | .hbm, ⟨37, _⟩ => ⟨S_, .f32⟩
  | .hbm, ⟨38, _⟩ => ⟨S4x8192x256, .f32⟩
  | .hbm, ⟨39, _⟩ => ⟨S4x8192x256, .f32⟩
  | .hbm, ⟨40, _⟩ => ⟨S4x8192x256, .f32⟩
  | .hbm, ⟨41, _⟩ => ⟨S4x8192x256, .f32⟩
  | .hbm, ⟨42, _⟩ => ⟨S4x8192x256, .i1⟩
  | .hbm, ⟨43, _⟩ => ⟨S4x8192x256, .f32⟩
  | .hbm, ⟨44, _⟩ => ⟨S4x8192x256, .f32⟩
  | .hbm, ⟨45, _⟩ => ⟨S4x8192x256, .f32⟩
  | .hbm, ⟨46, _⟩ => ⟨S4x8192x256, .f32⟩
  | .hbm, ⟨47, _⟩ => ⟨S4x8192x256, .f32⟩
  | .hbm, ⟨48, _⟩ => ⟨S4x8192x256, .f32⟩
  | .hbm, ⟨49, _⟩ => ⟨S4x8192x256, .f32⟩
  | .hbm, ⟨50, _⟩ => ⟨S4x8192x256, .f32⟩
  | .hbm, ⟨51, _⟩ => ⟨S4x8192x256, .f32⟩
  | .hbm, ⟨52, _⟩ => ⟨S_, .f32⟩
  | .hbm, ⟨53, _⟩ => ⟨S4x8192x256, .f32⟩
  | .hbm, ⟨54, _⟩ => ⟨S4x8192x256, .f32⟩
  | .hbm, ⟨55, _⟩ => ⟨S_, .f32⟩
  | .hbm, ⟨56, _⟩ => ⟨S4x8192x512, .f32⟩
  | .hbm, ⟨57, _⟩ => ⟨S4x8192x512, .f32⟩
  | .hbm, ⟨58, _⟩ => ⟨S_, .f32⟩
  | .hbm, ⟨59, _⟩ => ⟨S_, .f32⟩
  | .hbm, ⟨60, _⟩ => ⟨S4x8192x512, .f32⟩
  | .hbm, ⟨61, _⟩ => ⟨S4x8192x512, .f32⟩
  | .hbm, ⟨62, _⟩ => ⟨S4x8192x512, .bf16⟩
  | .hbm, ⟨63, _⟩ => ⟨S4x8192x512, .bf16⟩
  | .hbm, ⟨64, _⟩ => ⟨S4x8192x512, .bf16⟩
  | .hbm, ⟨65, _⟩ => ⟨S4x8192x512, .bf16⟩
  | .hbm, ⟨66, _⟩ => ⟨S4x8192x512, .f32⟩
  | .hbm, ⟨67, _⟩ => ⟨S32768x512, .f32⟩
  | .hbm, ⟨68, _⟩ => ⟨S32768x512, .bf16⟩
  | .hbm, ⟨69, _⟩ => ⟨S32768x512, .f32⟩
  | .hbm, ⟨70, _⟩ => ⟨S32768x256, .f32⟩
  | .hbm, ⟨71, _⟩ => ⟨S128x256x512, .bf16⟩
  | .hbm, ⟨72, _⟩ => ⟨S128x512x256, .bf16⟩
  | .hbm, ⟨73, _⟩ => ⟨S32768x512, .bf16⟩
  | .hbm, ⟨74, _⟩ => ⟨S128x256x512, .bf16⟩
  | .hbm, ⟨75, _⟩ => ⟨S128x512x256, .bf16⟩
  | .hbm, ⟨76, _⟩ => ⟨S32768x1024, .f32⟩
  | .hbm, ⟨77, _⟩ => ⟨S32768x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_call0_v0 : Ref sig .tc := ⟨.hbm, 36, rfl⟩
abbrev main_call0_call0_cst : Ref sig .tc := ⟨.hbm, 37, rfl⟩
abbrev main_call0_call0_v0 : Ref sig .tc := ⟨.hbm, 38, rfl⟩
abbrev main_call0_call0_v1 : Ref sig .tc := ⟨.hbm, 39, rfl⟩
abbrev main_call0_call0_v2 : Ref sig .tc := ⟨.hbm, 40, rfl⟩
abbrev main_call0_call0_v3 : Ref sig .tc := ⟨.hbm, 41, rfl⟩
abbrev main_call0_call0_v4 : Ref sig .tc := ⟨.hbm, 42, rfl⟩
abbrev main_call0_call0_v5 : Ref sig .tc := ⟨.hbm, 43, rfl⟩
abbrev main_call0_call0_v6 : Ref sig .tc := ⟨.hbm, 44, rfl⟩
abbrev main_call0_call0_v7 : Ref sig .tc := ⟨.hbm, 45, rfl⟩
abbrev main_call0_call0_v8 : Ref sig .tc := ⟨.hbm, 46, rfl⟩
abbrev main_call0_call0_v9 : Ref sig .tc := ⟨.hbm, 47, rfl⟩
abbrev main_call0_call0_v10 : Ref sig .tc := ⟨.hbm, 48, rfl⟩
abbrev main_call0_call0_v11 : Ref sig .tc := ⟨.hbm, 49, rfl⟩
abbrev main_call0_v1 : Ref sig .tc := ⟨.hbm, 50, rfl⟩
abbrev main_v28 : Ref sig .tc := ⟨.hbm, 51, rfl⟩
abbrev main_cst_2 : Ref sig .tc := ⟨.hbm, 52, rfl⟩
abbrev main_v29 : Ref sig .tc := ⟨.hbm, 53, rfl⟩
abbrev main_v30 : Ref sig .tc := ⟨.hbm, 54, rfl⟩
abbrev main_cst_3 : Ref sig .tc := ⟨.hbm, 55, rfl⟩
abbrev main_v31 : Ref sig .tc := ⟨.hbm, 56, rfl⟩
abbrev main_v32 : Ref sig .tc := ⟨.hbm, 57, rfl⟩
abbrev main_cst_4 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩

abbrev nD : Nat := 1
abbrev τ : Topo := Topo.v7x

variable {F : FTy → Type} [FloatOps F]
-- ==== Kernel3.lean ====
abbrev S4x8192x1024 : Shape := ⟨3, ![4, 8192, 1024]⟩
abbrev S4x8192x512 : Shape := ⟨3, ![4, 8192, 512]⟩
abbrev S4x256x512 : Shape := ⟨3, ![4, 256, 512]⟩
abbrev S1024 : Shape := ⟨1, ![1024]⟩
abbrev S512x1024 : Shape := ⟨2, ![512, 1024]⟩
abbrev S1024x1024 : Shape := ⟨2, ![1024, 1024]⟩
abbrev S1024x512 : Shape := ⟨2, ![1024, 512]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S1024x36 : Shape := ⟨2, ![1024, 36]⟩
abbrev S_ : Shape := ⟨0, ![]⟩
abbrev S1024x128 : Shape := ⟨2, ![1024, 128]⟩
abbrev S128x1024 : Shape := ⟨2, ![128, 1024]⟩
abbrev S36 : Shape := ⟨1, ![36]⟩
abbrev S128 : Shape := ⟨1, ![128]⟩
abbrev S128x1 : Shape := ⟨2, ![128, 1]⟩
abbrev S1x1024 : Shape := ⟨2, ![1, 1024]⟩
abbrev S4x8192x128 : Shape := ⟨3, ![4, 8192, 128]⟩
abbrev S1x128 : Shape := ⟨2, ![1, 128]⟩
abbrev S4x16384x256 : Shape := ⟨3, ![4, 16384, 256]⟩
abbrev S1x512x1024 : Shape := ⟨3, ![1, 512, 1024]⟩
abbrev S1x512x512 : Shape := ⟨3, ![1, 512, 512]⟩
abbrev S1x256x512 : Shape := ⟨3, ![1, 256, 512]⟩
abbrev S1x512x128 : Shape := ⟨3, ![1, 512, 128]⟩
abbrev S1x1024x256 : Shape := ⟨3, ![1, 1024, 256]⟩
abbrev S1x256x1024 : Shape := ⟨3, ![1, 256, 1024]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩
abbrev S256x128 : Shape := ⟨2, ![256, 128]⟩
abbrev S1x256x128 : Shape := ⟨3, ![1, 256, 128]⟩
abbrev S256x256 : Shape := ⟨2, ![256, 256]⟩
abbrev S128x256 : Shape := ⟨2, ![128, 256]⟩
abbrev S1x512x256 : Shape := ⟨3, ![1, 512, 256]⟩
abbrev S1x256x256 : Shape := ⟨3, ![1, 256, 256]⟩
abbrev S40x256 : Shape := ⟨2, ![40, 256]⟩
abbrev S1x256 : Shape := ⟨2, ![1, 256]⟩
abbrev S128x128 : Shape := ⟨2, ![128, 128]⟩

abbrev nBuf : Space → Nat
  | .hbm => 41
  | .vmem => 33
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .bf16⟩
  | .hbm, ⟨2, _⟩ => ⟨S4x8192x512, .bf16⟩
  | .hbm, ⟨3, _⟩ => ⟨S4x8192x1024, .f32⟩
  | .hbm, ⟨4, _⟩ => ⟨S4x8192x1024, .f32⟩
  | .hbm, ⟨5, _⟩ => ⟨S4x256x512, .bf16⟩
  | .hbm, ⟨6, _⟩ => ⟨S4x256x512, .bf16⟩
  | .hbm, ⟨7, _⟩ => ⟨S1024, .f32⟩
  | .hbm, ⟨8, _⟩ => ⟨S1024, .f32⟩
  | .hbm, ⟨9, _⟩ => ⟨S512x1024, .f32⟩
  | .hbm, ⟨10, _⟩ => ⟨S512x1024, .f32⟩
  | .hbm, ⟨11, _⟩ => ⟨S1024x1024, .f32⟩
  | .hbm, ⟨12, _⟩ => ⟨S1024x512, .f32⟩
  | .hbm, ⟨13, _⟩ => ⟨S512x1024, .f32⟩
  | .hbm, ⟨14, _⟩ => ⟨S1024x4, .f32⟩
  | .hbm, ⟨15, _⟩ => ⟨S4, .f32⟩
  | .hbm, ⟨16, _⟩ => ⟨S1024x32, .f32⟩
  | .hbm, ⟨17, _⟩ => ⟨S32, .f32⟩
  | .hbm, ⟨18, _⟩ => ⟨S1024x36, .f32⟩
  | .hbm, ⟨19, _⟩ => ⟨S_, .i32⟩
  | .hbm, ⟨20, _⟩ => ⟨S_, .f32⟩
  | .hbm, ⟨21, _⟩ => ⟨S1024x128, .f32⟩
  | .hbm, ⟨22, _⟩ => ⟨S1024x128, .bf16⟩
  | .hbm, ⟨23, _⟩ => ⟨S128x1024, .bf16⟩
  | .hbm, ⟨24, _⟩ => ⟨S36, .f32⟩
  | .hbm, ⟨25, _⟩ => ⟨S_, .i32⟩
  | .hbm, ⟨26, _⟩ => ⟨S_, .f32⟩
  | .hbm, ⟨27, _⟩ => ⟨S128, .f32⟩
  | .hbm, ⟨28, _⟩ => ⟨S128x1, .f32⟩
  | .hbm, ⟨29, _⟩ => ⟨S512x1024, .bf16⟩
  | .hbm, ⟨30, _⟩ => ⟨S512x1024, .bf16⟩
  | .hbm, ⟨31, _⟩ => ⟨S1024x1024, .bf16⟩
  | .hbm, ⟨32, _⟩ => ⟨S1024x512, .bf16⟩
  | .hbm, ⟨33, _⟩ => ⟨S512x1024, .bf16⟩
  | .hbm, ⟨34, _⟩ => ⟨S1x1024, .f32⟩
  | .hbm, ⟨35, _⟩ => ⟨S1x1024, .f32⟩
  | .hbm, ⟨36, _⟩ => ⟨S4x8192x1024, .f32⟩
  | .hbm, ⟨37, _⟩ => ⟨S4x8192x128, .f32⟩
  | .hbm, ⟨38, _⟩ => ⟨S1x128, .f32⟩
  | .hbm, ⟨39, _⟩ => ⟨S4x16384x256, .bf16⟩
  | .hbm, ⟨40, _⟩ => ⟨S4x16384x256, .bf16⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x1024, .f32⟩
  | .local _ .vmem, ⟨7, _⟩ => ⟨S1x512x1024, .f32⟩
  | .local _ .vmem, ⟨8, _⟩ => ⟨S1x512x1024, .f32⟩
  | .local _ .vmem, ⟨9, _⟩ => ⟨S1x512x1024, .f32⟩
  | .local _ .vmem, ⟨10, _⟩ => ⟨S1x256x512, .bf16⟩
  | .local _ .vmem, ⟨11, _⟩ => ⟨S1x256x512, .bf16⟩
  | .local _ .vmem, ⟨12, _⟩ => ⟨S1x256x512, .bf16⟩
  | .local _ .vmem, ⟨13, _⟩ => ⟨S1x256x512, .bf16⟩
  | .local _ .vmem, ⟨14, _⟩ => ⟨S1x1024, .f32⟩
  | .local _ .vmem, ⟨15, _⟩ => ⟨S1x1024, .f32⟩
  | .local _ .vmem, ⟨16, _⟩ => ⟨S512x1024, .bf16⟩
  | .local _ .vmem, ⟨17, _⟩ => ⟨S512x1024, .bf16⟩
  | .local _ .vmem, ⟨18, _⟩ => ⟨S1024x1024, .bf16⟩
  | .local _ .vmem, ⟨19, _⟩ => ⟨S1024x512, .bf16⟩
  | .local _ .vmem, ⟨20, _⟩ => ⟨S512x1024, .bf16⟩
  | .local _ .vmem, ⟨21, _⟩ => ⟨S128x1024, .bf16⟩
  | .local _ .vmem, ⟨22, _⟩ => ⟨S128x1, .f32⟩
  | .local _ .vmem, ⟨23, _⟩ => ⟨S1x512x1024, .f32⟩
  | .local _ .vmem, ⟨24, _⟩ => ⟨S1x512x1024, .f32⟩
  | .local _ .vmem, ⟨25, _⟩ => ⟨S1x512x128, .f32⟩
  | .local _ .vmem, ⟨26, _⟩ => ⟨S1x512x128, .f32⟩
  | .local _ .vmem, ⟨27, _⟩ => ⟨S1x128, .f32⟩
  | .local _ .vmem, ⟨28, _⟩ => ⟨S1x1024x256, .bf16⟩
  | .local _ .vmem, ⟨29, _⟩ => ⟨S1x1024x256, .bf16⟩
  | .local _ .vmem, ⟨30, _⟩ => ⟨S1x1024x256, .bf16⟩
  | .local _ .vmem, ⟨31, _⟩ => ⟨S1x1024x256, .bf16⟩
  | .local _ .vmem, ⟨32, _⟩ => ⟨S128x1, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_c : Ref sig .tc := ⟨.hbm, 19, rfl⟩
abbrev main_call0_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_c_0 : Ref sig .tc := ⟨.hbm, 25, rfl⟩
abbrev main_call1_v0 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14_0 : Ref sig .tc := ⟨.hbm, 36, rfl⟩
abbrev main_v14_1 : Ref sig .tc := ⟨.hbm, 37, rfl⟩
abbrev main_v14_2 : Ref sig .tc := ⟨.hbm, 38, rfl⟩
abbrev main_v14_3 : Ref sig .tc := ⟨.hbm, 39, rfl⟩
abbrev main_v14_4 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg19_0 : Ref sig .tc := ⟨.vmem, 28, rfl⟩
abbrev cc0_stg19_1 : Ref sig .tc := ⟨.vmem, 29, rfl⟩
abbrev cc0_stg20_0 : Ref sig .tc := ⟨.vmem, 30, rfl⟩
abbrev cc0_stg20_1 : Ref sig .tc := ⟨.vmem, 31, rfl⟩
abbrev cc0_scratch0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem19_0 : DmaSem sig := 28
abbrev cc0_sem19_1 : DmaSem sig := 29
abbrev cc0_sem20_0 : DmaSem sig := 30
abbrev cc0_sem20_1 : DmaSem sig := 31

abbrev nD : Nat := 1
abbrev τ : Topo := Topo.v7x

variable {F : FTy → Type} [BitOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S512x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S128x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S128x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 1 → Memref sig .tc .vmem S1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 2 → Memref sig .tc .vmem S1x1024x256 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x1024x256 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]
-- ==== Kernel3Ideal.lean ====
variable {F : FTy → Type} [FloatOps F] [Named F]
def κ : String → Option EReal := fun
  | "scale" => some (((Real.sqrt 128)⁻¹ : ℝ) : EReal)
  | _ => none
-- ==== Reference3Ideal.lean ====
abbrev S4x8192x1024 : Shape := ⟨3, ![4, 8192, 1024]⟩
abbrev S4x8192x512 : Shape := ⟨3, ![4, 8192, 512]⟩
abbrev S4x256x512 : Shape := ⟨3, ![4, 256, 512]⟩
abbrev S1024 : Shape := ⟨1, ![1024]⟩
abbrev S512x1024 : Shape := ⟨2, ![512, 1024]⟩
abbrev S1024x1024 : Shape := ⟨2, ![1024, 1024]⟩
abbrev S1024x512 : Shape := ⟨2, ![1024, 512]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x4x128 : Shape := ⟨4, ![4, 8192, 4, 128]⟩
abbrev S4x256x4x128 : Shape := ⟨4, ![4, 256, 4, 128]⟩
abbrev S4x4x8192x256 : Shape := ⟨4, ![4, 4, 8192, 256]⟩
abbrev S4x4x8192 : Shape := ⟨3, ![4, 4, 8192]⟩
abbrev S4x4x8192x1 : Shape := ⟨4, ![4, 4, 8192, 1]⟩
abbrev S4x4x128x8192 : Shape := ⟨4, ![4, 4, 128, 8192]⟩

abbrev nBuf : Space → Nat
  | .hbm => 89
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .bf16⟩
  | .hbm, ⟨2, _⟩ => ⟨S4x8192x512, .bf16⟩
  | .hbm, ⟨3, _⟩ => ⟨S4x8192x1024, .f32⟩
  | .hbm, ⟨4, _⟩ => ⟨S4x8192x1024, .f32⟩
  | .hbm, ⟨5, _⟩ => ⟨S4x256x512, .bf16⟩
  | .hbm, ⟨6, _⟩ => ⟨S4x256x512, .bf16⟩
  | .hbm, ⟨7, _⟩ => ⟨S1024, .f32⟩
  | .hbm, ⟨8, _⟩ => ⟨S1024, .f32⟩
  | .hbm, ⟨9, _⟩ => ⟨S512x1024, .f32⟩
  | .hbm, ⟨10, _⟩ => ⟨S512x1024, .f32⟩
  | .hbm, ⟨11, _⟩ => ⟨S1024x1024, .f32⟩
  | .hbm, ⟨12, _⟩ => ⟨S1024x512, .f32⟩
  | .hbm, ⟨13, _⟩ => ⟨S512x1024, .f32⟩
  | .hbm, ⟨14, _⟩ => ⟨S1024x4, .f32⟩
  | .hbm, ⟨15, _⟩ => ⟨S4, .f32⟩
  | .hbm, ⟨16, _⟩ => ⟨S1024x32, .f32⟩
  | .hbm, ⟨17, _⟩ => ⟨S32, .f32⟩
  | .hbm, ⟨18, _⟩ => ⟨S4x8192x512, .f32⟩
  | .hbm, ⟨19, _⟩ => ⟨S4x8192x512, .f32⟩
  | .hbm, ⟨20, _⟩ => ⟨S4x256x512, .f32⟩
  | .hbm, ⟨21, _⟩ => ⟨S4x256x512, .f32⟩
  | .hbm, ⟨22, _⟩ => ⟨S4x8192x1024, .f32⟩
  | .hbm, ⟨23, _⟩ => ⟨S4x8192x1024, .f32⟩
  | .hbm, ⟨24, _⟩ => ⟨S_, .f32⟩
  | .hbm, ⟨25, _⟩ => ⟨S4x8192x1024, .f32⟩
  | .hbm, ⟨26, _⟩ => ⟨S4x8192x1024, .f32⟩
  | .hbm, ⟨27, _⟩ => ⟨S_, .f32⟩
  | .hbm, ⟨28, _⟩ => ⟨S4x8192x1024, .f32⟩
  | .hbm, ⟨29, _⟩ => ⟨S4x8192x1024, .f32⟩
  | .hbm, ⟨30, _⟩ => ⟨S4x8192x1024, .f32⟩
  | .hbm, ⟨31, _⟩ => ⟨S4x8192x1024, .f32⟩
  | .hbm, ⟨32, _⟩ => ⟨S4x8192x1024, .f32⟩
  | .hbm, ⟨33, _⟩ => ⟨S4x8192x1024, .f32⟩
  | .hbm, ⟨34, _⟩ => ⟨S_, .f32⟩
  | .hbm, ⟨35, _⟩ => ⟨S4x8192x1024, .f32⟩
  | .hbm, ⟨36, _⟩ => ⟨S4x8192x1024, .f32⟩
  | .hbm, ⟨37, _⟩ => ⟨S_, .f32⟩
  | .hbm, ⟨38, _⟩ => ⟨S4x8192x1024, .f32⟩
  | .hbm, ⟨39, _⟩ => ⟨S4x8192x1024, .f32⟩
  | .hbm, ⟨40, _⟩ => ⟨S4x8192x1024, .f32⟩
  | .hbm, ⟨41, _⟩ => ⟨S4x8192x1024, .f32⟩
  | .hbm, ⟨42, _⟩ => ⟨S4x8192x1024, .f32⟩
  | .hbm, ⟨43, _⟩ => ⟨S4x8192x1024, .f32⟩
  | .hbm, ⟨44, _⟩ => ⟨S4x8192x1024, .f32⟩
  | .hbm, ⟨45, _⟩ => ⟨S4x8192x1024, .f32⟩
  | .hbm, ⟨46, _⟩ => ⟨S_, .f32⟩
  | .hbm, ⟨47, _⟩ => ⟨S4x8192, .f32⟩
  | .hbm, ⟨48, _⟩ => ⟨S4x8192x1, .f32⟩
  | .hbm, ⟨49, _⟩ => ⟨S_, .f32⟩
  | .hbm, ⟨50, _⟩ => ⟨S4x8192x1, .f32⟩
  | .hbm, ⟨51, _⟩ => ⟨S4x8192x1, .f32⟩
  | .hbm, ⟨52, _⟩ => ⟨S_, .f32⟩
  | .hbm, ⟨53, _⟩ => ⟨S4x8192x1, .f32⟩
  | .hbm, ⟨54, _⟩ => ⟨S4x8192x1, .f32⟩
  | .hbm, ⟨55, _⟩ => ⟨S4x8192x1, .f32⟩
  | .hbm, ⟨56, _⟩ => ⟨S4x8192x1024, .f32⟩
  | .hbm, ⟨57, _⟩ => ⟨S4x8192x1024, .f32⟩
  | .hbm, ⟨58, _⟩ => ⟨S1x1x1024, .f32⟩
  | .hbm, ⟨59, _⟩ => ⟨S4x8192x1024, .f32⟩
  | .hbm, ⟨60, _⟩ => ⟨S4x8192x1024, .f32⟩
  | .hbm, ⟨61, _⟩ => ⟨S4x8192x512, .f32⟩
  | .hbm, ⟨62, _⟩ => ⟨S4x8192x4x128, .f32⟩
  | .hbm, ⟨63, _⟩ => ⟨S4x256x4x128, .f32⟩
  | .hbm, ⟨64, _⟩ => ⟨S4x256x4x128, .f32⟩
  | .hbm, ⟨65, _⟩ => ⟨S4x4x8192x256, .f32⟩
  | .hbm, ⟨66, _⟩ => ⟨S_, .f32⟩
  | .hbm, ⟨67, _⟩ => ⟨S_, .f32⟩
  | .hbm, ⟨68, _⟩ => ⟨S4x4x8192x256, .f32⟩
  | .hbm, ⟨69, _⟩ => ⟨S4x4x8192x256, .f32⟩
  | .hbm, ⟨70, _⟩ => ⟨S_, .f32⟩
  | .hbm, ⟨71, _⟩ => ⟨S4x4x8192, .f32⟩
  | .hbm, ⟨72, _⟩ => ⟨S_, .f32⟩
  | .hbm, ⟨73, _⟩ => ⟨S4x4x8192, .f32⟩
  | .hbm, ⟨74, _⟩ => ⟨S4x4x8192, .f32⟩
  | .hbm, ⟨75, _⟩ => ⟨S4x4x8192x1, .f32⟩
  | .hbm, ⟨76, _⟩ => ⟨S4x4x8192x256, .f32⟩
  | .hbm, ⟨77, _⟩ => ⟨S4x4x8192x256, .f32⟩
  | .hbm, ⟨78, _⟩ => ⟨S4x4x8192x256, .f32⟩
  | .hbm, ⟨79, _⟩ => ⟨S_, .f32⟩
  | .hbm, ⟨80, _⟩ => ⟨S4x4x8192, .f32⟩
  | .hbm, ⟨81, _⟩ => ⟨S4x4x8192x1, .f32⟩
  | .hbm, ⟨82, _⟩ => ⟨S4x4x8192x256, .f32⟩
  | .hbm, ⟨83, _⟩ => ⟨S4x4x8192x256, .f32⟩
  | .hbm, ⟨84, _⟩ => ⟨S4x4x128x8192, .f32⟩
  | .hbm, ⟨85, _⟩ => ⟨S4x8192x4x128, .f32⟩
  | .hbm, ⟨86, _⟩ => ⟨S4x8192x512, .f32⟩
  | .hbm, ⟨87, _⟩ => ⟨S4x8192x1024, .f32⟩
  | .hbm, ⟨88, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_cst : Ref sig .tc := ⟨.hbm, 24, rfl⟩
abbrev main_v6 : Ref sig .tc := ⟨.hbm, 25, rfl⟩
abbrev main_v7 : Ref sig .tc := ⟨.hbm, 26, rfl⟩
abbrev main_cst_0 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_1 : Ref sig .tc := ⟨.hbm, 34, rfl⟩
abbrev main_v14 : Ref sig .tc := ⟨.hbm, 35, rfl⟩
abbrev main_v15 : Ref sig .tc := ⟨.hbm, 36, rfl⟩
abbrev main_cst_2 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_3 : Ref sig .tc := ⟨.hbm, 46, rfl⟩
abbrev main_v24 : Ref sig .tc := ⟨.hbm, 47, rfl⟩
abbrev main_v25 : Ref sig .tc := ⟨.hbm, 48, rfl⟩
abbrev main_cst_4 : Ref sig .tc := ⟨.hbm, 49, rfl⟩
abbrev main_v26 : Ref sig .tc := ⟨.hbm, 50, rfl⟩
abbrev main_v27 : Ref sig .tc := ⟨.hbm, 51, rfl⟩
abbrev main_cst_5 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_6 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_7 : Ref sig .tc := ⟨.hbm, 70, rfl⟩
abbrev main_v44 : Ref sig .tc := ⟨.hbm, 71, rfl⟩
abbrev main_cst_8 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_9 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩

abbrev nD : Nat := 1
abbrev τ : Topo := Topo.v7x

variable {F : FTy → Type} [FloatOps F]
-- ==== Proof.Words.lean ====
/-
  The words the gather's pipelined loop carries, and what each address computed from them is. Before trip `k` of its eight
  trips a subcore carries the number of index windows asked for (`k + 1`, at most eight), fetched (`k`), gathered (`k`)
  and written out (`k - 1`), and the position in the grid's first dimension (`k` modulo eight). Every slot an operation
  addresses is one of two by parity, every window the tile's own of that trip.
-/
module

public import proofs.«01_k».proof.Defs
public import proofs.«01_k».proof.Proof.Gen.Kernel
public import proofs.«01_k».proof.Proof.Gen.Kernel.Skeleton

@[expose] public section

namespace Cert.Kernel.Gather

open Cert.Kernel Cert.Kernel.Gen
open Idealize.ShloMosaic

/-- The words carried into trip `k`. -/
def wIn (k : ℕ) : BitVec 32 := BitVec.ofNat 32 (min (k + 1) 8)
def wAt (k : ℕ) : BitVec 32 := BitVec.ofNat 32 k
def wOut (k : ℕ) : BitVec 32 := BitVec.ofNat 32 (k - 1)
def wPos (k : ℕ) : BitVec 32 := BitVec.ofNat 32 (k % 8)

/-- The tile's number, and its windows' first rows. -/
def tileNo (L : grid0.Coords) : ℕ := (L 1).val + 16 * (L 0).val
def base (L : grid0.Coords) (k : ℕ) : ℕ := 128 * (32 * k + tileNo L)

theorem trips_eq : k0_t1_loop.trips = 8 := by decide

theorem cond1_lt : ∀ (L : grid0.Coords) (k : Fin k0_t1_loop.trips), k.val < 7 → k0_cond1 L k (wPos k) = 1#1 := by decide +kernel
theorem cond1_last : ∀ (L : grid0.Coords) (k : Fin k0_t1_loop.trips), ¬ k.val < 7 → ¬ k0_cond1 L k (wPos k) = 1#1 := by decide +kernel
theorem cond2_all : ∀ (L : grid0.Coords) (k : Fin k0_t1_loop.trips), k0_cond2 L k (wPos k) = 1#1 := by decide +kernel
theorem cond5_all : ∀ (L : grid0.Coords) (k : Fin k0_t1_loop.trips), k0_cond5 L k (wPos k) = 1#1 := by decide +kernel
theorem cond7_pos : ∀ (L : grid0.Coords) (k : Fin k0_t1_loop.trips), 0 < k.val → k0_cond7 L k (wPos k) = 1#1 := by decide +kernel
theorem cond7_first : ∀ (L : grid0.Coords) (k : Fin k0_t1_loop.trips), ¬ 0 < k.val → ¬ k0_cond7 L k (wPos k) = 1#1 := by decide +kernel

theorem off2 : ∀ L : grid0.Coords, k0_off2 L = ![0, base L 0] := by decide +kernel
theorem off4 : ∀ k : Fin k0_t1_loop.trips, k.val < 7 → k0_off4 (wIn k) = ![(k.val + 1) % 2, 0, 0] := by decide +kernel
theorem off5 : ∀ (L : grid0.Coords) (k : Fin k0_t1_loop.trips), k.val < 7 → k0_off5 L (wPos k) = ![0, base L (k.val + 1)] := by decide +kernel
theorem off6 : ∀ k : Fin k0_t1_loop.trips, k.val < 7 → k0_off6 (wIn k) = ![(k.val + 1) % 2] := by decide +kernel
theorem off7 : ∀ k : Fin k0_t1_loop.trips, k0_off7 (wAt k) = ![k.val % 2, 0, 0] := by decide +kernel
theorem off8 : ∀ (L : grid0.Coords) (k : Fin k0_t1_loop.trips), k0_off8 L (wPos k) = ![0, base L k] := by decide +kernel
theorem off9 : ∀ k : Fin k0_t1_loop.trips, k0_off9 (wAt k) = ![k.val % 2] := by decide +kernel
theorem off10 : ∀ k : Fin k0_t1_loop.trips, k0_off10 (wAt k) = ![k.val % 2, 0, 0, 0] := by decide +kernel
theorem off11 : ∀ k : Fin k0_t1_loop.trips, k0_off11 (wAt k) = ![k.val % 2, 0, 0] := by decide +kernel
theorem off12 : ∀ k : Fin k0_t1_loop.trips, k0_off12 (wAt k) = ![k.val % 2, 0, 0, 0] := by decide +kernel
theorem off13 : ∀ (L : grid0.Coords) (k : Fin k0_t1_loop.trips), k0_off13 L (wPos k) = ![base L k, 0, 0] := by decide +kernel
theorem off14 : ∀ k : Fin k0_t1_loop.trips, k0_off14 (wAt k) = ![k.val % 2] := by decide +kernel
theorem off15 : ∀ k : Fin k0_t1_loop.trips, 0 < k.val → k0_off15 (wOut k) = ![(k.val + 1) % 2, 0, 0, 0] := by decide +kernel
theorem off16 : ∀ (L : grid0.Coords) (k : Fin k0_t1_loop.trips), 0 < k.val → k0_off16 L (wPos k) = ![base L (k.val - 1), 0, 0] := by decide +kernel
theorem off17 : ∀ k : Fin k0_t1_loop.trips, 0 < k.val → k0_off17 (wOut k) = ![(k.val + 1) % 2] := by decide +kernel
theorem off19 : ∀ L : grid0.Coords, k0_off19 L 0#32 0#32 = ![base L 7, 0, 0] := by decide +kernel
theorem off20 : k0_off20 7#32 = ![1] := by decide +kernel
theorem off21 : k0_off21 7#32 = ![1, 0, 0, 0] := by decide +kernel

theorem base_lt (L : grid0.Coords) (k : ℕ) (hk : k < 8) : base L k + 128 ≤ 32768 := by
  have h0 : (L 0).val < 2 := (L 0).isLt
  have h1 : (L 1).val < 16 := (L 1).isLt
  unfold base tileNo; omega

theorem chk1 : ∀ (L : grid0.Coords) (k : Fin k0_t1_loop.trips), k0_chk1 L k (wIn k) (wAt k) (wAt k) (wOut k) (wPos k) := by decide +kernel
theorem chk2 : ∀ k : Fin k0_t1_loop.trips, k0_chk2 (wAt k) := by decide +kernel
theorem chk3 : ∀ k : Fin k0_t1_loop.trips, k0_chk3 (wAt k) := by decide +kernel
theorem chk4 : k0_chk4 7#32 := by decide +kernel
theorem chk5 : ∀ L : grid0.Coords, k0_chk5 L 0#32 0#32 := by decide +kernel

end Cert.Kernel.Gather

end
-- ==== Proof.Setup.lean ====
/-
  The gather's launch as the SparseCore launch theorem sees it, and the pieces of memory a vector subcore works in. Tile
  `L` of the 2 × 16 grid copies its eight windows of 128 row numbers into two index slots in turn, gathers the rows they
  name out of the table into two row slots in turn, and copies each slot out to its window of the result. Here are the
  slots, the windows, the semaphores' cells and what the result's memory is to hold (`OUT`: row `n` is the table's row
  that the `n`-th index names); and how the index maps of slots and windows read.
-/
module

public import proofs.«01_k».proof.Proof.Words
public import Idealize.ShloMosaic.Lib.SparseCore.Quiescent
public import Idealize.ShloMosaic.Lib.SparseCore.Ops
public import Idealize.ShloMosaic.Lib.SparseCore.Stream
public import Idealize.ShloMosaic.Lib.SparseCore.FromWhole
public import Idealize.ShloMosaic.Lib.StableHlo.Run
public import Idealize.ShloMosaic.Lib.Pipeline.Kit
public import Idealize.ShloMosaic.Lib.ShareLeaves
public import Idealize.ShloMosaic.Lib.ValueLayout
public import Idealize.ShloMosaic.Lib.Tactic

@[expose] public section

noncomputable section

namespace Cert.Kernel.Gather

open Cert.Kernel Cert.Kernel.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The buffers -/

/-- The table, the row numbers and the result, in the device's memory. -/
abbrev tLoc (d : Dev nD) : Loc nD τ sig := (SparseCore.T d).loc main_v0
abbrev iLoc (d : Dev nD) : Loc nD τ sig := (SparseCore.T d).loc main_arg1
abbrev oLoc (d : Dev nD) : Loc nD τ sig := (SparseCore.T d).loc main_v1

local notation "tV" => (Memref.whole Cert.Kernel.main_v0_scv : Memref Cert.Kernel.sig Kind.scVector Space.hbm Cert.Kernel.S90624x2x128 EltTy.i32)
local notation "iV" => (Memref.whole Cert.Kernel.main_arg1_scv : Memref Cert.Kernel.sig Kind.scVector Space.hbm Cert.Kernel.S1x32768 EltTy.i32)
local notation "oV" => (Memref.whole Cert.Kernel.main_v1_scv : Memref Cert.Kernel.sig Kind.scVector Space.hbm Cert.Kernel.S32768x2x128 EltTy.i32)
local notation "bV" => (Memref.whole Cert.Kernel.cc0_scoped0 : Memref Cert.Kernel.sig Kind.scVector Space.vmem Cert.Kernel.S2x1x128 EltTy.i32)
local notation "rV" => (Memref.whole Cert.Kernel.cc0_scoped2 : Memref Cert.Kernel.sig Kind.scVector Space.vmem Cert.Kernel.S2x128x2x128 EltTy.i32)

abbrev TBuf : Type := S90624x2x128.Idx → Elt F .i32
abbrev IBuf : Type := S1x32768.Idx → Elt F .i32

/-- What the gather leaves in its result: at row `n`, the table's row that the `n`-th index names. -/
def OUT (tab : TBuf (F := F)) (ix : IBuf (F := F)) : S32768x2x128.Idx → Elt F .i32 :=
  fun y => tab (ix3 (Fin.ofNat 90624 (ix (ix2 (0 : Fin 1) (y 0))).toNat) (y 1) (y 2))

/-! ## Slots, windows, cells -/

/-- The slot of trip `k`. -/
def par (k : ℕ) : Fin 2 := ⟨k % 2, Nat.mod_lt _ (by decide)⟩

theorem par_add_two (k : ℕ) : par (k + 2) = par k := Fin.ext (by simp [par])

theorem slotI_inb : ∀ b : Fin 2, ∀ a, (![b.val, 0, 0] : Fin 3 → ℕ) a + S1x1x128.size a ≤ S2x1x128.size a := by decide
theorem slotR_inb : ∀ b : Fin 2, ∀ a, (![b.val, 0, 0, 0] : Fin 4 → ℕ) a + S1x128x2x128.size a ≤ S2x128x2x128.size a := by decide
theorem cell_inb : ∀ b : Fin 2, ∀ a, (![b.val] : Fin 1 → ℕ) a + S1.size a ≤ S2.size a := by decide
theorem winI_inb (L : grid0.Coords) (k : ℕ) (hk : k < 8) : ∀ a, (![0, base L k] : Fin 2 → ℕ) a + S1x128.size a ≤ S1x32768.size a := by
  have := base_lt L k hk
  intro a
  match a with
  | 0 => show 0 + 1 ≤ 1; decide
  | 1 => show base L k + 128 ≤ 32768; exact this
theorem winO_inb (L : grid0.Coords) (k : ℕ) (hk : k < 8) : ∀ a, (![base L k, 0, 0] : Fin 3 → ℕ) a + S128x2x128.size a ≤ S32768x2x128.size a := by
  have := base_lt L k hk
  intro a
  match a with
  | 0 => show base L k + 128 ≤ 32768; exact this
  | 1 => show 0 + 2 ≤ 2; decide
  | 2 => show 0 + 128 ≤ 128; decide

abbrev slotI (b : Fin 2) : Memref sig .scVector .vmem S1x128 .i32 :=
  ((bV).slice (Rect.unit (s := S2x1x128) ![b.val, 0, 0] S1x1x128.size (slotI_inb b)) (fun _ => rfl)).squeeze S1x128 squeezes_S1x1x128_S1x128
abbrev slotR (b : Fin 2) : Memref sig .scVector .vmem S128x2x128 .i32 :=
  ((rV).slice (Rect.unit (s := S2x128x2x128) ![b.val, 0, 0, 0] S1x128x2x128.size (slotR_inb b)) (fun _ => rfl)).squeeze S128x2x128
    squeezes_S1x128x2x128_S128x2x128
abbrev winI (L : grid0.Coords) (k : ℕ) (hk : k < 8) : Memref sig .scVector .hbm S1x128 .i32 :=
  (iV).slice (Rect.unit (s := S1x32768) ![0, base L k] S1x128.size (winI_inb L k hk)) (fun _ => rfl)
abbrev winO (L : grid0.Coords) (k : ℕ) (hk : k < 8) : Memref sig .scVector .hbm S128x2x128 .i32 :=
  (oV).slice (Rect.unit (s := S32768x2x128) ![base L k, 0, 0] S128x2x128.size (winO_inb L k hk)) (fun _ => rfl)
/-- The whole table, as the stream names it. -/
abbrev tAll : Memref sig .scVector .hbm S90624x2x128 .i32 :=
  (tV).slice (Rect.unit (s := S90624x2x128) ![0, 0, 0] S90624x2x128.size inb_S90624x2x128_S90624x2x128_0_0_0) (fun _ => rfl)
/-- A slot's 128 row numbers, as the stream reads them. -/
abbrev listI (b : Fin 2) : Memref sig .scVector .vmem S128 .i32 :=
  ((slotI b).slice (Rect.unit (s := S1x128) ![0, 0] S1x128.size inb_S1x128_S1x128_0_0) (fun _ => rfl)).squeeze S128 squeezes_S1x128_S128

abbrev semI (b : Fin 2) : DmaSem sig := ((cc0_scoped1.slice (Rect.unit (s := S2) ![b.val] S1.size (cell_inb b))).squeeze S_ squeezes_S1_S_).sem
abbrev semO (b : Fin 2) : DmaSem sig := ((cc0_scoped3.slice (Rect.unit (s := S2) ![b.val] S1.size (cell_inb b))).squeeze S_ squeezes_S1_S_).sem
abbrev semG : DmaSem sig := cc0_scoped4.sem

/-- The result's elements in the tile's window `k`. -/
def winSet (L : grid0.Coords) (k : ℕ) : Finset S32768x2x128.Idx := Finset.univ.filter fun y => base L k ≤ (y 0).val ∧ (y 0).val < base L k + 128

theorem winO_set (L : grid0.Coords) (k : ℕ) (hk : k < 8) : (winO L k hk).view.set = winSet L k := by
  show ((View.whole (main_v1_scv : Ref sig .scVector)).slice (Rect.unit (s := S32768x2x128) ![base L k, 0, 0] S128x2x128.size (winO_inb L k hk))).set = _
  rw [View.set_slice_whole]
  ext y
  rw [Rect.mem_set_unit]
  simp only [winSet, Finset.mem_filter, Finset.mem_univ, true_and]
  constructor
  · intro h; exact h 0
  · intro h a
    match a with
    | 0 => exact h
    | 1 => exact ⟨Nat.zero_le _, by show (y 1).val < 0 + 2; have := (y 1).isLt; exact lt_of_lt_of_eq this rfl⟩
    | 2 => exact ⟨Nat.zero_le _, by show (y 2).val < 0 + 128; have := (y 2).isLt; exact lt_of_lt_of_eq this rfl⟩

theorem tAll_set : (tAll).view.set = Finset.univ := by
  show ((View.whole (main_v0_scv : Ref sig .scVector)).slice (Rect.unit (s := S90624x2x128) ![0, 0, 0] S90624x2x128.size inb_S90624x2x128_S90624x2x128_0_0_0)).set = _
  rw [View.set_slice_whole]
  ext y
  rw [Rect.mem_set_unit]
  simp only [Finset.mem_univ, iff_true]
  intro a
  match a with
  | 0 => exact ⟨Nat.zero_le _, by show (y 0).val < 0 + 90624; have := (y 0).isLt; exact lt_of_lt_of_eq this rfl⟩
  | 1 => exact ⟨Nat.zero_le _, by show (y 1).val < 0 + 2; have := (y 1).isLt; exact lt_of_lt_of_eq this rfl⟩
  | 2 => exact ⟨Nat.zero_le _, by show (y 2).val < 0 + 128; have := (y 2).isLt; exact lt_of_lt_of_eq this rfl⟩

theorem listI_set (b : Fin 2) : (listI b).view.set = (slotI b).view.set := by
  show (((slotI b).view.slice (Rect.unit (s := S1x128) ![0, 0] S1x128.size inb_S1x128_S1x128_0_0)).reshape S128 squeezes_S1x128_S128.numel_eq).set = _
  rw [View.set_reshape, View.set_slice]
  have h : (Rect.unit (s := S1x128) ![0, 0] S1x128.size inb_S1x128_S1x128_0_0).set = Finset.univ := by
    ext y
    rw [Rect.mem_set_unit]
    simp only [Finset.mem_univ, iff_true]
    intro a
    match a with
    | 0 => exact ⟨Nat.zero_le _, by show (y 0).val < 0 + 1; have := (y 0).isLt; exact lt_of_lt_of_eq this rfl⟩
    | 1 => exact ⟨Nat.zero_le _, by show (y 1).val < 0 + 128; have := (y 1).isLt; exact lt_of_lt_of_eq this rfl⟩
  rw [h]; rfl

/-! ## What the views read -/

/-- A window of the row numbers reads the tile's own 128 of them. -/
theorem read_winI (L : grid0.Coords) (k : ℕ) (hk : k < 8) (ix : IBuf (F := F)) (x : S1x128.Idx) :
    (winI L k hk).view.read (Elt F) ix x = ix (ix2 (0 : Fin 1) (Fin.ofNat 32768 (base L k + (x 1).val))) := by
  rw [View.read_apply]
  refine (cast_eq _ _).trans (congrArg ix (funext fun a => Fin.ext ?_))
  have hb := base_lt L k hk
  have h1 : (x 1).val < 128 := (x 1).isLt
  have h0 : (x 0).val < 1 := (x 0).isLt
  match a with
  | 0 => show 0 + 1 * (x 0).val = 0; omega
  | 1 => show base L k + 1 * (x 1).val = (base L k + (x 1).val) % 32768; omega

/-- The stream reads a slot's row numbers in order. -/
theorem read_listI (b : Fin 2) (f : S2x1x128.Idx → Elt F .i32) (x : S128.Idx) :
    (listI b).view.read (Elt F) f x = (slotI b).view.read (Elt F) f (ix2 (0 : Fin 1) (x 0)) := by
  rw [View.read_apply, View.read_apply]
  refine congrArg (_root_.cast _) (congrArg f ?_)
  show (slotI b).view.emb ((Rect.unit (s := S1x128) ![0, 0] S1x128.size inb_S1x128_S1x128_0_0).emb (Shape.reshapeEquiv squeezes_S1x128_S128.numel_eq x)) = _
  refine congrArg _ ?_
  rw [Shape.reshapeEquiv_eq_of_rowMajor squeezes_S1x128_S128.numel_eq (x := x) (y := ix2 (0 : Fin 1) (x 0)) (by
    rw [Shape.rowMajor_val_two, Shape.rowMajor_val_one]
    show 0 * 128 + (x 0).val = (x 0).val
    omega)]
  funext a
  refine Fin.ext ?_
  match a with
  | 0 => rfl
  | 1 => show 0 + 1 * (x 0).val = (x 0).val; omega

theorem read_tAll (tab : TBuf (F := F)) (x : S90624x2x128.Idx) : (tAll).view.read (Elt F) tab x = tab x := by
  rw [View.read_apply]
  refine (cast_eq _ _).trans (congrArg tab (funext fun a => Fin.ext ?_))
  match a with
  | 0 => show 0 + 1 * (x 0).val = (x 0).val; omega
  | 1 => show 0 + 1 * (x 1).val = (x 1).val; omega
  | 2 => show 0 + 1 * (x 2).val = (x 2).val; omega

/-- The rows the stream brings for a list that holds the window's row numbers are the result's rows of that window. -/
theorem payload_eq (L : grid0.Coords) (k : ℕ) (hk : k < 8) (tab : TBuf (F := F)) (ix : IBuf (F := F)) (g : S90624x2x128.Idx → Elt F .i32) (hg : ∀ x, g x = tab x)
    (l : S128.Idx → Elt F .i32) (hl : ∀ x, l x = ix (ix2 (0 : Fin 1) (Fin.ofNat 32768 (base L k + (x 0).val))))
    (hn : S128.numel = S128x2x128.size gathers_S90624x2x128_S128x2x128.axis')
    (hin : ∀ x, (l x).toNat < S90624x2x128.size gathers_S90624x2x128_S128x2x128.axis) (y : S128x2x128.Idx) :
    SparseCore.gatherPayload gathers_S90624x2x128_S128x2x128 g (SparseCore.rows (F := F) l hn hin) y
      = OUT tab ix (ix3 (Fin.ofNat 32768 (base L k + (y 0).val)) (y 1) (y 2)) := by
  unfold SparseCore.gatherPayload OUT
  rw [hg]
  refine congrArg tab (funext fun a => Fin.ext ?_)
  match a with
  | 0 =>
    have e := Shape.Gathers.idx_axis gathers_S90624x2x128_S128x2x128 (SparseCore.rows (F := F) l hn hin) y
    refine (congrArg Fin.val e).trans ?_
    unfold SparseCore.rows
    have hx : ∀ x : S128.Idx, x 0 = y 0 → (l x).toNat = (ix (ix2 (0 : Fin 1) (Fin.ofNat 32768 (base L k + (y 0).val)))).toNat := fun x h => by rw [hl, h]
    have hb : ∀ x : S128.Idx, (l x).toNat < 90624 := hin
    have hr : (S128.rowMajor.symm ((y gathers_S90624x2x128_S128x2x128.axis').cast hn.symm)) 0 = y 0 := by
      apply Fin.ext
      have := Shape.rowMajor_val_one (S128.rowMajor.symm ((y gathers_S90624x2x128_S128x2x128.axis').cast hn.symm))
      rw [← this, Equiv.apply_symm_apply]; rfl
    show (l _).toNat = (ix _).toNat % 90624
    rw [hx _ hr]
    refine (Nat.mod_eq_of_lt ?_).symm
    have h2 := hb (S128.rowMajor.symm ((y gathers_S90624x2x128_S128x2x128.axis').cast hn.symm))
    rw [hx _ hr] at h2; exact h2
  | 1 => exact Shape.Gathers.idx_of_ne _ _ y 1 (by decide)
  | 2 => exact Shape.Gathers.idx_of_ne _ _ y 2 (by decide)

end Cert.Kernel.Gather

end
-- ==== Proof.Steps.lean ====
/-
  The operations of the gather's loop, each as one step over what the subcore holds: asking for a window of row numbers
  and its arrival, the indirect gather and its completion, sending out a slot of rows and its completion. What a copy in
  flight is to deliver is stated with its contents.
-/
module

public import proofs.«01_k».proof.Proof.Setup

@[expose] public section

noncomputable section

namespace Cert.Kernel.Gather

open Cert.Kernel Cert.Kernel.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "tV" => (Memref.whole Cert.Kernel.main_v0_scv : Memref Cert.Kernel.sig Kind.scVector Space.hbm Cert.Kernel.S90624x2x128 EltTy.i32)
local notation "iV" => (Memref.whole Cert.Kernel.main_arg1_scv : Memref Cert.Kernel.sig Kind.scVector Space.hbm Cert.Kernel.S1x32768 EltTy.i32)
local notation "oV" => (Memref.whole Cert.Kernel.main_v1_scv : Memref Cert.Kernel.sig Kind.scVector Space.hbm Cert.Kernel.S32768x2x128 EltTy.i32)
local notation "bV" => (Memref.whole Cert.Kernel.cc0_scoped0 : Memref Cert.Kernel.sig Kind.scVector Space.vmem Cert.Kernel.S2x1x128 EltTy.i32)
local notation "rV" => (Memref.whole Cert.Kernel.cc0_scoped2 : Memref Cert.Kernel.sig Kind.scVector Space.vmem Cert.Kernel.S2x128x2x128 EltTy.i32)

abbrev cV (L : grid0.Coords) : Fin τ.nSC := (L 0).castLE hcore0
abbrev jV (L : grid0.Coords) : Fin τ.nSub := (L 1).castLE hsub0
/-- The subcore that runs tile `L`. -/
abbrev thr (d : Dev nD) (L : grid0.Coords) : Thread nD τ := V d (cV L) (jV L)

/-- A share's left and right halves. -/
def half (q : PosShare TreeShare) (b : Fin 2) : PosShare TreeShare := if b = 0 then q.left else q.right

/-! ## What the subcore holds -/

section Res

variable (d : Dev nD) (L : grid0.Coords) (tab : TBuf (F := F)) (ix : IBuf (F := F)) (qi : PosShare TreeShare)

/-- An index slot, a row slot, at contents `f`. -/
abbrev slotIPts (b : Fin 2) (f : S2x1x128.Idx → Elt F .i32) : sProp 𝕄 := (slotI b).view.loc (thr d L) ↦[(slotI b).view.set]{fullShare} f
abbrev slotRPts (b : Fin 2) (f : S2x128x2x128.Idx → Elt F .i32) : sProp 𝕄 := (slotR b).view.loc (thr d L) ↦[(slotR b).view.set]{fullShare} f

/-- An index slot out of use: its copy's cell at zero, and the slot's half of the tile's share of the row numbers. -/
def InIdle (b : Fin 2) : sProp 𝕄 :=
  iprop((∃ f, slotIPts d L b f) ∗ semVal (thr d L, SemLoc.dma (semI b)) 0 ∗ (iLoc d ↦{half qi b} ix))

/-- An index slot holding window `k`'s row numbers. -/
def InLanded (b : Fin 2) (k : ℕ) : sProp 𝕄 :=
  iprop((∃ f, ⌜∀ x, (slotI b).view.read (Elt F) f x = ix (ix2 (0 : Fin 1) (Fin.ofNat 32768 (base L k + (x 1).val)))⌝ ∗ slotIPts d L b f)
    ∗ (iLoc d ↦{half qi b} ix))

/-- Window `k`'s row numbers on their way to an index slot. -/
def InFly (b : Fin 2) (k : ℕ) : sProp 𝕄 :=
  Transfers.Flight countersEmb (thr d L) (SemLoc.dma (semI b)) (default : HIx 1) (slotI b).view.dmaCredit (InLanded d L ix qi b k)

/-- A row slot holding the result's rows of window `k`. -/
def RowsIn (b : Fin 2) (k : ℕ) : sProp 𝕄 :=
  iprop(∃ f, ⌜∀ y, (slotR b).view.read (Elt F) f y = OUT tab ix (ix3 (Fin.ofNat 32768 (base L k + (y 0).val)) (y 1) (y 2))⌝ ∗ slotRPts d L b f)

/-- A row slot out of use. -/
def OutIdle (b : Fin 2) : sProp 𝕄 :=
  iprop((∃ f, slotRPts (F := F) d L b f) ∗ semVal (thr d L, SemLoc.dma (semO b)) 0)

/-- The result's window `k`, at contents `f`. -/
abbrev winPts (k : ℕ) (f : S32768x2x128.Idx → Elt F .i32) : sProp 𝕄 := oLoc d ↦[winSet L k]{fullShare} f

/-- Window `k`'s rows on their way out of a row slot. -/
def OutFly (b : Fin 2) (k : ℕ) : sProp 𝕄 :=
  Transfers.Flight countersEmb (thr d L) (SemLoc.dma (semO b)) (default : HIx 1) ((oV).slice (Rect.unit (s := S32768x2x128) ![0, 0, 0] S128x2x128.size (by decide)) (fun _ => rfl)).view.dmaCredit
    iprop(winPts d L k (OUT tab ix) ∗ (∃ f, slotRPts (F := F) d L b f))

end Res

/-! ## The steps -/

variable [FloatOps F]
variable (d : Dev nD) (L : grid0.Coords) (tab : TBuf (F := F)) (ix : IBuf (F := F)) (qi qt : PosShare TreeShare)

/-- What the subcore owes and has waited for. -/
def Ow (O : CellTallies nD τ sig (HIx 1)) (W : Waits sig (HIx 1)) : sProp 𝕄 :=
  iprop(∃ W', ⌜∀ p ∈ W', p ∈ W ∨ p.2 = none⌝ ∗ owes (thr d L) O W')

theorem step_in (b : Fin 2) (k : ℕ) (hk : k < 8) {o5 : Fin 2 → ℕ} {o4 : Fin 3 → ℕ} {o6 : Fin 1 → ℕ}
    (e5 : o5 = ![0, base L k]) (e4 : o4 = ![b.val, 0, 0]) (e6 : o6 = ![b.val])
    (h5 : ∀ a, o5 a + S1x128.size a ≤ S1x32768.size a) (h4 : ∀ a, o4 a + S1x1x128.size a ≤ S2x1x128.size a) (h6 : ∀ a, o6 a + S1.size a ≤ S2.size a)
    (hs hd ht) {Q : PUnit → sProp 𝕄} :
    InIdle d L ix qi b ⊢ iprop((InFly d L ix qi b k -∗ Q ⟨⟩)
      -∗ wp frame (wpE (defs₀ (F := F)) 𝒱₀ (thr d L) none) Set.univ
        (Prog.lift (.enqueueDma ((iV).slice (Rect.unit (s := S1x32768) o5 S1x128.size h5) (fun _ => rfl))
          (.here (((bV).slice (Rect.unit (s := S2x1x128) o4 S1x1x128.size h4) (fun _ => rfl)).squeeze S1x128 squeezes_S1x1x128_S1x128))
          (.dma ((cc0_scoped1.slice (Rect.unit (s := S2) o6 S1.size h6)).squeeze S_ squeezes_S1_S_).sem) hs hd ht)) Q) := by
  subst e5 e4 e6
  unfold InIdle
  iintro ⟨⟨%f, Hs⟩, Hv, Hi⟩ HQ
  unfold Prog.lift
  iapply (Transfers.wp_dmaFromWhole countersEmb 𝒱₀ (thr d L) none (src := winI L k hk) (dst := slotI b) (sm := SemLoc.dma (semI b)) (fs := ix) (fd := f) (q := half qi b)
    (default : HIx 1) (slotI b).view.dmaCredit rfl (View.dmaCredit_pos _ (by decide)) (Finset.Subset.refl _)) $$ [Hs Hv Hi]
  · isplitl [Hi]; · iexact Hi
    isplitl [Hs]; · iexact Hs
    iexact Hv
  iintro Hf
  rw [wp_ret]
  imodintro
  iapply HQ
  unfold InFly InLanded
  iapply (Transfers.Flight_mono countersEmb (thr d L) ?_) $$ Hf
  iintro ⟨Hd, Hi⟩
  isplitl [Hd]
  · iexists _
    isplitr
    swap; · iexact Hd
    ipureintro
    intro x
    rw [View.read_write_univ]
    exact read_winI L k hk ix x
  · iexact Hi

theorem step_wait_in (b : Fin 2) (k : ℕ) {o8 : Fin 2 → ℕ} {o7 : Fin 3 → ℕ} {o9 : Fin 1 → ℕ}
    (e7 : o7 = ![b.val, 0, 0]) (e9 : o9 = ![b.val])
    (h8 : ∀ a, o8 a + S1x128.size a ≤ S1x32768.size a) (h7 : ∀ a, o7 a + S1x1x128.size a ≤ S2x1x128.size a) (h9 : ∀ a, o9 a + S1.size a ≤ S2.size a)
    (hs hd) {O : CellTallies nD τ sig (HIx 1)} {W : Waits sig (HIx 1)} {Q : PUnit → sProp 𝕄} :
    iprop(InFly d L ix qi b k ∗ Ow d L O W ∗ Transfers.MayWaits (thr d L) (default : HIx 1) O)
      ⊢ iprop((InLanded d L ix qi b k ∗ semVal (thr d L, SemLoc.dma (semI b)) 0 ∗ Ow d L O W -∗ Q ⟨⟩)
      -∗ wp frame (wpE (defs₀ (F := F)) 𝒱₀ (thr d L) none) Set.univ
        (Prog.lift (.waitDma2 ((cc0_scoped1.slice (Rect.unit (s := S2) o9 S1.size h9)).squeeze S_ squeezes_S1_S_).sem
          ((iV).slice (Rect.unit (s := S1x32768) o8 S1x128.size h8) (fun _ => rfl))
          (((bV).slice (Rect.unit (s := S2x1x128) o7 S1x1x128.size h7) (fun _ => rfl)).squeeze S1x128 squeezes_S1x1x128_S1x128) hs hd)) Q) := by
  subst e7 e9
  unfold Ow InFly
  iintro ⟨Hf, ⟨%W', %hW', HO⟩, Hmw⟩ HQ
  unfold Prog.lift
  iapply (Transfers.wp_waitLocalO countersEmb 𝒱₀ (thr d L) none (sem := semI b) (default : HIx 1) (rfl : (slotI b).view.dmaCredit = _)) $$ [Hf HO Hmw]
  · isplitl [Hf]; · iexact Hf
    isplitl [HO]; · iexact HO
    iapply (Transfers.MayWaits.elim (SemLoc.dma (semI b))) $$ Hmw
  iintro ⟨HD, Hv, HO⟩
  rw [wp_ret]
  imodintro
  iapply HQ
  isplitl [HD]; · iexact HD
  isplitl [Hv]; · iexact Hv
  iexists _; isplitr
  swap; · iexact HO
  ipureintro; intro p hp
  rcases Finset.mem_insert.mp hp with hp | hp
  · exact .inr (hp ▸ rfl)
  · exact hW' p hp

theorem row_credit : ∀ b : Fin 2, ∀ h : S90624x2x128.Gathers 0 S128x2x128,
    ∑ j, ((slotR b).slice (S128x2x128.rowRect h.axis' j) (S128x2x128.stride_rowRect h.axis' j)).view.dmaCredit = (slotR b).view.dmaCredit := by
  decide +kernel

/-- The indirect gather and its completion. -/
theorem step_gather (hI : ∀ x, (ix x).toNat < 90624) (b : Fin 2) (k : ℕ) (hk : k < 8) {o10 o10' : Fin 4 → ℕ} {o11 : Fin 3 → ℕ}
    (e10 : o10 = ![b.val, 0, 0, 0]) (e10' : o10' = ![b.val, 0, 0, 0]) (e11 : o11 = ![b.val, 0, 0])
    (h10 : ∀ a, o10 a + S1x128x2x128.size a ≤ S2x128x2x128.size a) (h10' : ∀ a, o10' a + S1x128x2x128.size a ≤ S2x128x2x128.size a)
    (h11 : ∀ a, o11 a + S1x1x128.size a ≤ S2x1x128.size a)
    (hn hp hs he hsp hr hs' hd') {α : Type} (kk : PUnit → Prog (TpuEff nD τ sig (Elt F) Λ₀ (thr d L).2) α)
    {O : CellTallies nD τ sig (HIx 1)} {W : Waits sig (HIx 1)} {Q : α → sProp 𝕄} :
    iprop(InLanded d L ix qi b k ∗ (tLoc d ↦{qt} tab) ∗ (∃ f, slotRPts d L b f) ∗ semVal (thr d L, SemLoc.dma semG) 0 ∗ Ow d L O W
        ∗ Transfers.MayWaits (thr d L) (default : HIx 1) O)
      ⊢ iprop(((∃ f, slotIPts d L b f) ∗ (iLoc d ↦{half qi b} ix) ∗ (tLoc d ↦{qt} tab) ∗ RowsIn d L tab ix b k ∗ semVal (thr d L, SemLoc.dma semG) 0 ∗ Ow d L O W
          -∗ wp frame (wpE (defs₀ (F := F)) 𝒱₀ (thr d L) none) Set.univ (kk ⟨⟩) Q)
      -∗ wp frame (wpE (defs₀ (F := F)) 𝒱₀ (thr d L) none) Set.univ
        (SparseCore.enqueueIndirectGather hp tAll
            (((rV).slice (Rect.unit (s := S2x128x2x128) o10 S1x128x2x128.size h10) (fun _ => rfl)).squeeze S128x2x128 squeezes_S1x128x2x128_S128x2x128)
            gathers_S90624x2x128_S128x2x128
            (((((bV).slice (Rect.unit (s := S2x1x128) o11 S1x1x128.size h11) (fun _ => rfl)).squeeze S1x128 squeezes_S1x1x128_S1x128).slice
              (Rect.unit (s := S1x128) ![0, 0] S1x128.size inb_S1x128_S1x128_0_0) (fun _ => rfl)).squeeze S128 squeezes_S1x128_S128)
            hn semG hs he hsp hr >>= fun _ =>
          SparseCore.waitIndirectGather semG tAll
            (((rV).slice (Rect.unit (s := S2x128x2x128) o10' S1x128x2x128.size h10') (fun _ => rfl)).squeeze S128x2x128 squeezes_S1x128x2x128_S128x2x128) hs' hd' >>= kk) Q) := by
  subst e10 e10' e11
  unfold Ow InLanded
  iintro ⟨⟨⟨%f, %hf, Hs⟩, Hi⟩, Ht, ⟨%fr, Hr⟩, Hv, ⟨%W', %hW', HO⟩, Hmw⟩ HQ
  have hl : ∀ x, (listI b).view.read (Elt F) f x = ix (ix2 (0 : Fin 1) (Fin.ofNat 32768 (base L k + (x 0).val))) := fun x => by
    rw [read_listI, hf]
  have hin : ∀ x, ((listI b).view.read (Elt F) f x).toNat < S90624x2x128.size gathers_S90624x2x128_S128x2x128.axis := fun x => by
    rw [hl]; exact hI _
  ihave Hs := (Entails.of_eq (show (slotIPts d L b f : sProp 𝕄) = (listI b).view.loc (thr d L) ↦[(listI b).view.set]{fullShare} f by rw [listI_set])) $$ Hs
  ihave Ht := (Entails.of_eq (show ((tLoc d ↦{qt} tab : sProp 𝕄)) = (tAll).view.loc (thr d L) ↦[(tAll).view.set]{qt} tab by rw [tAll_set])) $$ Ht
  iapply (SparseCore.wp_indirectGatherLocal countersEmb 𝒱₀ (thr d L) none (src := tAll) (dst := slotR b) (offs := listI b) (sem := semG) (fs := tab) (fd := fr) (fo := f)
    (q := qt) (qo := fullShare)
    (default : HIx 1) (slotR b).view.dmaCredit (row_credit b _) (by decide) hin) $$ [Hs Ht Hr Hv]
  · isplitl [Ht]; · iexact Ht
    isplitl [Hr]; · iexact Hr
    isplitl [Hs]; · iexact Hs
    iexact Hv
  iintro Hf
  have hw : ((SparseCore.waitIndirectGather semG tAll (slotR b) hs' hd' : Prog (TpuEff nD τ sig (Elt F) Λ₀ (thr d L).2) PUnit) >>= kk) = .op (.waitDma2 semG tAll (slotR b) hs' hd') kk := rfl
  rw [hw]
  iapply (Transfers.wp_waitLocalO countersEmb 𝒱₀ (thr d L) none (sem := semG) (default : HIx 1) (rfl : (slotR b).view.dmaCredit = _)) $$ [Hf HO Hmw]
  · isplitl [Hf]; · iexact Hf
    isplitl [HO]; · iexact HO
    iapply (Transfers.MayWaits.elim (SemLoc.dma semG)) $$ Hmw
  iintro ⟨⟨Hr, Ht, Hs⟩, Hv, HO⟩
  iapply HQ
  isplitl [Hs]
  · iexists f
    iapply (Entails.of_eq (show (slotIPts d L b f : sProp 𝕄) = (listI b).view.loc (thr d L) ↦[(listI b).view.set]{fullShare} f by rw [listI_set]).symm)
    iexact Hs
  isplitl [Hi]; · iexact Hi
  isplitl [Ht]
  · iapply (Entails.of_eq (show ((tLoc d ↦{qt} tab : sProp 𝕄)) = (tAll).view.loc (thr d L) ↦[(tAll).view.set]{qt} tab by rw [tAll_set]).symm)
    iexact Ht
  isplitl [Hr]
  · unfold RowsIn
    iexists _
    isplitr
    swap; · iexact Hr
    ipureintro
    intro y
    rw [View.read_write_univ]
    exact payload_eq L k hk tab ix _ (read_tAll tab) _ hl _ hin y
  isplitl [Hv]; · iexact Hv
  iexists _; isplitr
  swap; · iexact HO
  ipureintro; intro p hp
  rcases Finset.mem_insert.mp hp with hp | hp
  · exact .inr (hp ▸ rfl)
  · exact hW' p hp

/-- What a copy of window `k`'s rows leaves in the result's window. -/
theorem write_winO (k : ℕ) (hk : k < 8) (f0 : S32768x2x128.Idx → Elt F .i32) (g : S128x2x128.Idx → Elt F .i32)
    (hg : ∀ y, g y = OUT tab ix (ix3 (Fin.ofNat 32768 (base L k + (y 0).val)) (y 1) (y 2))) :
    ∀ z ∈ winSet L k, (winO L k hk).view.write (Elt F) f0 g Finset.univ z = OUT tab ix z := by
  intro z hz
  rw [← winO_set L k hk] at hz
  obtain ⟨y, -, rfl⟩ := Finset.mem_map.mp hz
  rw [View.write_emb_of_mem _ _ (Finset.mem_univ y)]
  refine (cast_eq _ _).trans ((hg y).trans (congrArg (OUT tab ix) (funext fun a => Fin.ext ?_)))
  have hb := base_lt L k hk
  have h0 : (y 0).val < 128 := (y 0).isLt
  match a with
  | 0 => show (base L k + (y 0).val) % 32768 = base L k + 1 * (y 0).val; omega
  | 1 => show (y 1).val = 0 + 1 * (y 1).val; omega
  | 2 => show (y 2).val = 0 + 1 * (y 2).val; omega

theorem step_out (b : Fin 2) (k : ℕ) (hk : k < 8) (f0 : S32768x2x128.Idx → Elt F .i32) {o13 : Fin 3 → ℕ} {o12 : Fin 4 → ℕ} {o14 : Fin 1 → ℕ}
    (e13 : o13 = ![base L k, 0, 0]) (e12 : o12 = ![b.val, 0, 0, 0]) (e14 : o14 = ![b.val])
    (h13 : ∀ a, o13 a + S128x2x128.size a ≤ S32768x2x128.size a) (h12 : ∀ a, o12 a + S1x128x2x128.size a ≤ S2x128x2x128.size a) (h14 : ∀ a, o14 a + S1.size a ≤ S2.size a)
    (hs hd ht) {Q : PUnit → sProp 𝕄} :
    iprop(RowsIn d L tab ix b k ∗ semVal (thr d L, SemLoc.dma (semO b)) 0 ∗ winPts d L k f0) ⊢ iprop((OutFly d L tab ix b k -∗ Q ⟨⟩)
      -∗ wp frame (wpE (defs₀ (F := F)) 𝒱₀ (thr d L) none) Set.univ
        (Prog.lift (.enqueueDma
          (((rV).slice (Rect.unit (s := S2x128x2x128) o12 S1x128x2x128.size h12) (fun _ => rfl)).squeeze S128x2x128 squeezes_S1x128x2x128_S128x2x128)
          (.here ((oV).slice (Rect.unit (s := S32768x2x128) o13 S128x2x128.size h13) (fun _ => rfl)))
          (.dma ((cc0_scoped3.slice (Rect.unit (s := S2) o14 S1.size h14)).squeeze S_ squeezes_S1_S_).sem) hs hd ht)) Q) := by
  subst e13 e12 e14
  unfold RowsIn
  iintro ⟨⟨%f, %hf, Hs⟩, Hv, Ho⟩ HQ
  unfold Prog.lift
  iapply (Transfers.wp_dmaLocal countersEmb 𝒱₀ (thr d L) none (src := slotR b) (dst := winO L k hk) (sm := SemLoc.dma (semO b)) (fs := f) (fd := f0) (q := fullShare)
    (default : HIx 1) (winO L k hk).view.dmaCredit rfl (View.dmaCredit_pos _ (by decide)) (Sd := winSet L k) (winO_set L k hk).subset) $$ [Hs Hv Ho]
  · isplitl [Hs]; · iexact Hs
    isplitl [Ho]; · iexact Ho
    iexact Hv
  iintro Hf
  rw [wp_ret]
  imodintro
  iapply HQ
  unfold OutFly
  iapply (Transfers.Flight_mono countersEmb (thr d L) ?_) $$ Hf
  iintro ⟨Ho, Hs⟩
  isplitl [Ho]
  · iapply (Entails.of_eq (pointsTo_congr (write_winO L tab ix k hk f0 _ hf)))
    iexact Ho
  · iexists f; iexact Hs

theorem step_wait_out (b : Fin 2) (k : ℕ) {o16 : Fin 3 → ℕ} {o15 : Fin 4 → ℕ} {o17 : Fin 1 → ℕ} (e17 : o17 = ![b.val])
    (h16 : ∀ a, o16 a + S128x2x128.size a ≤ S32768x2x128.size a) (h15 : ∀ a, o15 a + S1x128x2x128.size a ≤ S2x128x2x128.size a) (h17 : ∀ a, o17 a + S1.size a ≤ S2.size a)
    (hs hd) {O : CellTallies nD τ sig (HIx 1)} {W : Waits sig (HIx 1)} {Q : PUnit → sProp 𝕄} :
    iprop(OutFly d L tab ix b k ∗ Ow d L O W ∗ Transfers.MayWaits (thr d L) (default : HIx 1) O)
      ⊢ iprop((OutIdle d L b ∗ winPts d L k (OUT tab ix) ∗ Ow d L O W -∗ Q ⟨⟩)
      -∗ wp frame (wpE (defs₀ (F := F)) 𝒱₀ (thr d L) none) Set.univ
        (Prog.lift (.waitDma2 ((cc0_scoped3.slice (Rect.unit (s := S2) o17 S1.size h17)).squeeze S_ squeezes_S1_S_).sem
          (((rV).slice (Rect.unit (s := S2x128x2x128) o15 S1x128x2x128.size h15) (fun _ => rfl)).squeeze S128x2x128 squeezes_S1x128x2x128_S128x2x128)
          ((oV).slice (Rect.unit (s := S32768x2x128) o16 S128x2x128.size h16) (fun _ => rfl)) hs hd)) Q) := by
  subst e17
  unfold Ow OutFly OutIdle
  iintro ⟨Hf, ⟨%W', %hW', HO⟩, Hmw⟩ HQ
  unfold Prog.lift
  iapply (Transfers.wp_waitLocalO countersEmb 𝒱₀ (thr d L) none (sem := semO b) (dstw := (oV).slice (Rect.unit (s := S32768x2x128) o16 S128x2x128.size h16) (fun _ => rfl))
    (default : HIx 1) rfl) $$ [Hf HO Hmw]
  · isplitl [Hf]; · iexact Hf
    isplitl [HO]; · iexact HO
    iapply (Transfers.MayWaits.elim (SemLoc.dma (semO b))) $$ Hmw
  iintro ⟨⟨Ho, Hs⟩, Hv, HO⟩
  rw [wp_ret]
  imodintro
  iapply HQ
  isplitl [Hs Hv]
  · isplitl [Hs]; · iexact Hs
    iexact Hv
  isplitl [Ho]; · iexact Ho
  iexists _; isplitr
  swap; · iexact HO
  ipureintro; intro p hp
  rcases Finset.mem_insert.mp hp with hp | hp
  · exact .inr (hp ▸ rfl)
  · exact hW' p hp

end Cert.Kernel.Gather

end
-- ==== Proof.Tile.lean ====
/-
  One tile's run: the loop's invariant, a trip, and the whole kernel on a vector subcore. Before trip `k` the row numbers of
  window `k` are on their way to slot `k mod 2` and the rows of window `k - 1` on their way out of the other row slot; the
  windows before that hold the result.
-/
module

public import proofs.«01_k».proof.Proof.Steps

@[expose] public section

noncomputable section

namespace Cert.Kernel.Gather

open Cert.Kernel Cert.Kernel.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "tV" => (Memref.whole Cert.Kernel.main_v0_scv : Memref Cert.Kernel.sig Kind.scVector Space.hbm Cert.Kernel.S90624x2x128 EltTy.i32)
local notation "iV" => (Memref.whole Cert.Kernel.main_arg1_scv : Memref Cert.Kernel.sig Kind.scVector Space.hbm Cert.Kernel.S1x32768 EltTy.i32)
local notation "oV" => (Memref.whole Cert.Kernel.main_v1_scv : Memref Cert.Kernel.sig Kind.scVector Space.hbm Cert.Kernel.S32768x2x128 EltTy.i32)
local notation "bV" => (Memref.whole Cert.Kernel.cc0_scoped0 : Memref Cert.Kernel.sig Kind.scVector Space.vmem Cert.Kernel.S2x1x128 EltTy.i32)
local notation "rV" => (Memref.whole Cert.Kernel.cc0_scoped2 : Memref Cert.Kernel.sig Kind.scVector Space.vmem Cert.Kernel.S2x128x2x128 EltTy.i32)

variable [FloatOps F]
variable (d : Dev nD) (L : grid0.Coords) (tab : TBuf (F := F)) (ix : IBuf (F := F)) (qi qt : PosShare TreeShare)
variable (o0 : S32768x2x128.Idx → Elt F .i32) (O : CellTallies nD τ sig (HIx 1)) (W : Waits sig (HIx 1))

/-! ## The invariant -/

/-- The words carried into trip `k`. -/
def words (k : ℕ) : BitVec 32 × BitVec 32 × BitVec 32 × BitVec 32 × BitVec 32 × BitVec 32 := (wIn k, wAt k, wAt k, wOut k, wPos k, 0#32)

/-- The tile's number as the kernel computes it. -/
def tileWord : BitVec 32 := Scalar.muli (Scalar.addi (Scalar.addi 0#32 (Scalar.muli (BitVec.ofNat 32 (L 1).val) 1#32)) (Scalar.muli (BitVec.ofNat 32 (L 0).val) 16#32)) 1#32

/-- The slot trip `k` reads its row numbers in; the slot that the trip before sends out. -/
def InPart (k : ℕ) : sProp 𝕄 := if k < 8 then InFly d L ix qi (par k) k else InIdle d L ix qi (par k)
def OutPart (k : ℕ) : sProp 𝕄 := if 0 < k then OutFly d L tab ix (par (k + 1)) (k - 1) else OutIdle d L (par (k + 1))

def Done (k : ℕ) : sProp 𝕄 := bigSep (Finset.range (k - 1)) fun j => winPts d L j (OUT tab ix)
def Todo (k : ℕ) : sProp 𝕄 := bigSep (Finset.Ico k 8) fun j => winPts d L j o0

/-- What the subcore holds before trip `k`. -/
def Hold (k : ℕ) : sProp 𝕄 :=
  iprop(InPart d L ix qi k ∗ InIdle d L ix qi (par (k + 1)) ∗ (tLoc d ↦{qt} tab) ∗ semVal (thr d L, SemLoc.dma semG) 0
    ∗ OutIdle d L (par k) ∗ OutPart d L tab ix k ∗ Done d L tab ix k ∗ Todo d L o0 k)

def Inv (k : ℕ) (ws : BitVec 32 × BitVec 32 × BitVec 32 × BitVec 32 × BitVec 32 × BitVec 32) : sProp 𝕄 :=
  iprop(⌜ws = words k⌝ ∗ Transfers.MayWaits (thr d L) (default : HIx 1) O ∗ Ow d L O W ∗ Hold d L tab ix qi qt o0 k)

/-! ## A trip -/

section Prog

variable {c : Thread nD τ} {bd : Option 𝒱₀.V} {α : Type}

theorem wp_check {P : Prop} {dP : Decidable P} (h : P) {Q : PLift P → sProp 𝕄} :
    wp frame (wpE (defs₀ (F := F)) 𝒱₀ c bd) Set.univ (Prog.lift (.assume P dP)) Q = iprop(|={Set.univ}[frame]=> Q ⟨h⟩) := by
  unfold Prog.lift
  rw [wp_assume_of _ _ _ _ h, wp_ret]

/-- A conditional operation before the rest, the rest written once. -/
theorem cond_bind {β : Type} {C : Prop} {dC : Decidable C} {e : C → Prog (TpuEff nD τ sig (Elt F) Λ₀ c.2) β} {rest : Prog (TpuEff nD τ sig (Elt F) Λ₀ c.2) α} :
    (if h : C then e h >>= fun _ => rest else rest) = ((if h : C then (e h >>= fun _ => pure ⟨⟩) else pure ⟨⟩ : Prog (TpuEff nD τ sig (Elt F) Λ₀ c.2) PUnit) >>= fun _ => rest) := by
  by_cases h : C
  · rw [dif_pos h, dif_pos h]; simp only [bind_assoc, pure_bind]
  · rw [dif_neg h, dif_neg h]; rfl

end Prog

theorem par_val (k : ℕ) : (par k).val = k % 2 := rfl

theorem Todo_step (k : ℕ) (hk : k < 8) : (Todo d L o0 k : sProp 𝕄) ⊢ iprop(winPts d L k o0 ∗ Todo d L o0 (k + 1)) := by
  unfold Todo
  rw [← Finset.insert_Ico_add_one_left_eq_Ico hk]
  exact Entails.of_eq (SparseCore.bigSep_insert' (by simp))

theorem Done_step (k : ℕ) : (iprop(winPts d L k (OUT tab ix) ∗ Done d L tab ix (k + 1)) : sProp 𝕄) ⊢ Done d L tab ix (k + 2) := by
  unfold Done
  rw [show k + 2 - 1 = k + 1 from rfl, show k + 1 - 1 = k from rfl, Finset.range_add_one]
  rw [SparseCore.bigSep_insert' Finset.notMem_range_self]

set_option maxHeartbeats 4000000 in
theorem trip (hI : ∀ x, (ix x).toNat < 90624) (x1 x2 : BitVec 32) (x3 : BitVec 1) (x4 : BitVec 32) (k : Fin k0_t1_loop.trips) :
    iprop(Transfers.MayWaits (thr d L) (default : HIx 1) O ∗ Ow d L O W ∗ Hold d L tab ix qi qt o0 k.val)
      ⊢ wp frame (wpE (defs₀ (F := F)) 𝒱₀ (thr d L) none) Set.univ
          (k0_t1_body L tV (Memref.isWhole_whole _) iV (Memref.isWhole_whole _) oV (Memref.isWhole_whole _)
            bV (Memref.isWhole_whole _) cc0_scoped1 rV (Memref.isWhole_whole _) cc0_scoped3 cc0_scoped4 (tileWord L) x1 x2 x3 x4 k (words k.val))
          (Inv d L tab ix qi qt o0 O W (k.val + 1)) := by
  have hk : k.val < 8 := lt_of_lt_of_eq k.isLt trips_eq
  unfold k0_t1_body words
  dsimp only
  simp only [ite_self]
  unfold Hold
  iintro ⟨#Hmw, HO, HIn, HIdle, Ht, HvG, HOut, HFly, HDone, HTodo⟩
  rw [wp_bind, k0_part1_eq_skeleton]
  unfold k0_part1_skel
  dsimp only
  rw [wp_bind, wp_check (chk3 k)]
  imodintro
  rw [wp_bind, wp_check (chk2 k)]
  imodintro
  rw [wp_bind, wp_check (chk1 L k)]
  imodintro
  rw [wp_pure]
  imodintro
  dsimp only
  rw [wp_bind, k0_part2_eq_skeleton]
  unfold k0_part2_skel
  dsimp only
  rw [cond_bind (c := thr d L), wp_bind]
  iapply (wp_wand_r _ _ _ (Q := fun _ => InPart d L ix qi (k.val + 1)))
  isplitl [HIdle]
  · by_cases h7 : k.val < 7
    · rw [dif_pos (cond1_lt L k h7), wp_bind]
      iapply (step_in d L ix qi (par (k.val + 1)) (k.val + 1) (by omega) (off5 L k h7) (off4 k h7) (off6 k h7)) $$ HIdle
      iintro H
      rw [wp_pure]
      imodintro
      unfold InPart
      rw [if_pos (by omega)]
      iexact H
    · rw [dif_neg (cond1_last L k h7), wp_pure]
      imodintro
      unfold InPart
      rw [if_neg (by omega)]
      iexact HIdle
  iintro %_ HIn'
  rw [dif_pos (cond2_all L k), wp_bind]
  ihave HIn := (Entails.of_eq (show (InPart d L ix qi k.val : sProp 𝕄) = InFly d L ix qi (par k.val) k.val by unfold InPart; rw [if_pos hk])) $$ HIn
  iapply (step_wait_in d L ix qi (par k.val) k.val (off7 k) (off9 k)) $$ [HIn HO]
  · isplitl [HIn]; · iexact HIn
    isplitl [HO]; · iexact HO
    iexact Hmw
  iintro ⟨HIn, HvI, HO⟩
  rw [wp_pure]
  imodintro
  dsimp only
  rw [wp_bind, k0_part3_eq_skeleton]
  unfold k0_part3_skel
  simp only [ite_self]
  unfold OutIdle
  icases HOut with ⟨HR, HvO⟩
  iapply (step_gather d L tab ix qi qt hI (par k.val) k.val hk (off10 k) (off10 k) (off11 k)) $$ [HIn Ht HR HvG HO]
  · isplitl [HIn]; · iexact HIn
    isplitl [Ht]; · iexact Ht
    isplitl [HR]; · iexact HR
    isplitl [HvG]; · iexact HvG
    isplitl [HO]; · iexact HO
    iexact Hmw
  iintro ⟨HsI, HiI, Ht, HRows, HvG, HO⟩
  rw [wp_pure]
  imodintro
  rw [dif_pos (cond5_all L k), wp_bind]
  ihave HTodo := (Todo_step d L o0 k.val hk) $$ HTodo
  icases HTodo with ⟨Hw, HTodo⟩
  iapply (step_out d L tab ix (par k.val) k.val hk o0 (off13 L k) (off12 k) (off14 k)) $$ [HRows HvO Hw]
  · isplitl [HRows]; · iexact HRows
    isplitl [HvO]; · iexact HvO
    iexact Hw
  iintro HFly'
  rw [cond_bind (c := thr d L), wp_bind]
  iapply (wp_wand_r _ _ _ (Q := fun _ => iprop(OutIdle d L (par (k.val + 1)) ∗ Done d L tab ix (k.val + 1) ∗ Ow d L O W)))
  isplitl [HFly HDone HO]
  · by_cases h0 : 0 < k.val
    · rw [dif_pos (cond7_pos L k h0), wp_bind]
      ihave HFly := (Entails.of_eq (show (OutPart d L tab ix k.val : sProp 𝕄) = OutFly d L tab ix (par (k.val + 1)) (k.val - 1) by unfold OutPart; rw [if_pos h0])) $$ HFly
      iapply (step_wait_out d L tab ix (par (k.val + 1)) (k.val - 1) (off17 k h0)) $$ [HFly HO]
      · isplitl [HFly]; · iexact HFly
        isplitl [HO]; · iexact HO
        iexact Hmw
      iintro ⟨HOI, Hw, HO⟩
      rw [wp_pure]
      imodintro
      isplitl [HOI]; · iexact HOI
      isplitl [HDone Hw]
      · obtain ⟨j, hj⟩ : ∃ j, k.val = j + 1 := ⟨k.val - 1, by omega⟩
        rw [hj]
        iapply (Done_step d L tab ix j)
        isplitl [Hw]; · iexact Hw
        iexact HDone
      iexact HO
    · rw [dif_neg (cond7_first L k h0), wp_pure]
      imodintro
      have hz : k.val = 0 := by omega
      isplitl [HFly]
      · iapply (Entails.of_eq (show (OutPart d L tab ix k.val : sProp 𝕄) = OutIdle d L (par (k.val + 1)) by unfold OutPart; rw [if_neg h0]))
        iexact HFly
      isplitl [HDone]
      · rw [hz]
        iexact HDone
      iexact HO
  iintro %_ ⟨HOI, HDone, HO⟩
  rw [wp_pure]
  imodintro
  unfold Inv Hold
  isplitr
  · ipureintro
    clear * -
    revert L k
    unfold words
    decide +kernel
  isplitr
  · iexact Hmw
  isplitl [HO]; · iexact HO
  isplitl [HIn']; · iexact HIn'
  isplitl [HsI HiI HvI]
  · rw [show k.val + 1 + 1 = k.val + 2 from rfl, par_add_two]
    unfold InIdle
    isplitl [HsI]; · iexact HsI
    isplitl [HvI]; · iexact HvI
    iexact HiI
  isplitl [Ht]; · iexact Ht
  isplitl [HvG]; · iexact HvG
  isplitl [HOI]; · iexact HOI
  isplitl [HFly']
  · unfold OutPart
    rw [if_pos (Nat.succ_pos _), show k.val + 1 + 1 = k.val + 2 from rfl, par_add_two, Nat.add_sub_cancel]
    iexact HFly'
  isplitl [HDone]; · iexact HDone
  iexact HTodo

end Cert.Kernel.Gather

end
-- ==== Proof.Body.lean ====
/-
  The whole kernel on a vector subcore: the first window's row numbers asked for, the eight trips, the last window's wait;
  over what the subcore is given at its start and gives back at its end.
-/
module

public import proofs.«01_k».proof.Proof.Tile

@[expose] public section

noncomputable section

namespace Cert.Kernel.Gather

open Cert.Kernel Cert.Kernel.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "tV" => (Memref.whole Cert.Kernel.main_v0_scv : Memref Cert.Kernel.sig Kind.scVector Space.hbm Cert.Kernel.S90624x2x128 EltTy.i32)
local notation "iV" => (Memref.whole Cert.Kernel.main_arg1_scv : Memref Cert.Kernel.sig Kind.scVector Space.hbm Cert.Kernel.S1x32768 EltTy.i32)
local notation "oV" => (Memref.whole Cert.Kernel.main_v1_scv : Memref Cert.Kernel.sig Kind.scVector Space.hbm Cert.Kernel.S32768x2x128 EltTy.i32)
local notation "bV" => (Memref.whole Cert.Kernel.cc0_scoped0 : Memref Cert.Kernel.sig Kind.scVector Space.vmem Cert.Kernel.S2x1x128 EltTy.i32)
local notation "rV" => (Memref.whole Cert.Kernel.cc0_scoped2 : Memref Cert.Kernel.sig Kind.scVector Space.vmem Cert.Kernel.S2x128x2x128 EltTy.i32)

/-! ## The slots in their buffers -/

theorem slotI_set (b : Fin 2) : (slotI b).view.set = Finset.univ.filter fun y : S2x1x128.Idx => (y 0).val = b.val := by
  show (((bV).view.slice (Rect.unit (s := S2x1x128) ![b.val, 0, 0] S1x1x128.size (slotI_inb b))).reshape S1x128 squeezes_S1x1x128_S1x128.numel_eq).set = _
  rw [View.set_reshape]
  show ((View.whole (cc0_scoped0 : Ref sig .scVector)).slice (Rect.unit (s := S2x1x128) ![b.val, 0, 0] S1x1x128.size (slotI_inb b))).set = _
  rw [View.set_slice_whole]
  ext y
  rw [Rect.mem_set_unit]
  simp only [Finset.mem_filter, Finset.mem_univ, true_and]
  constructor
  · intro h
    have h0 : b.val ≤ (y 0).val ∧ (y 0).val < b.val + 1 := h 0
    omega
  · intro h a
    match a with
    | 0 => show b.val ≤ (y 0).val ∧ (y 0).val < b.val + 1; omega
    | 1 => exact ⟨Nat.zero_le _, by show (y 1).val < 0 + 1; have := (y 1).isLt; exact lt_of_lt_of_eq this rfl⟩
    | 2 => exact ⟨Nat.zero_le _, by show (y 2).val < 0 + 128; have := (y 2).isLt; exact lt_of_lt_of_eq this rfl⟩

theorem slotR_set (b : Fin 2) : (slotR b).view.set = Finset.univ.filter fun y : S2x128x2x128.Idx => (y 0).val = b.val := by
  show (((rV).view.slice (Rect.unit (s := S2x128x2x128) ![b.val, 0, 0, 0] S1x128x2x128.size (slotR_inb b))).reshape S128x2x128 squeezes_S1x128x2x128_S128x2x128.numel_eq).set = _
  rw [View.set_reshape]
  show ((View.whole (cc0_scoped2 : Ref sig .scVector)).slice (Rect.unit (s := S2x128x2x128) ![b.val, 0, 0, 0] S1x128x2x128.size (slotR_inb b))).set = _
  rw [View.set_slice_whole]
  ext y
  rw [Rect.mem_set_unit]
  simp only [Finset.mem_filter, Finset.mem_univ, true_and]
  constructor
  · intro h
    have h0 : b.val ≤ (y 0).val ∧ (y 0).val < b.val + 1 := h 0
    omega
  · intro h a
    match a with
    | 0 => show b.val ≤ (y 0).val ∧ (y 0).val < b.val + 1; omega
    | 1 => exact ⟨Nat.zero_le _, by show (y 1).val < 0 + 128; have := (y 1).isLt; exact lt_of_lt_of_eq this rfl⟩
    | 2 => exact ⟨Nat.zero_le _, by show (y 2).val < 0 + 2; have := (y 2).isLt; exact lt_of_lt_of_eq this rfl⟩
    | 3 => exact ⟨Nat.zero_le _, by show (y 3).val < 0 + 128; have := (y 3).isLt; exact lt_of_lt_of_eq this rfl⟩

theorem slotI_disj : Disjoint (slotI 0).view.set (slotI 1).view.set := by
  rw [slotI_set, slotI_set, Finset.disjoint_left]
  intro y h0 h1
  have h0 : (y 0).val = 0 := (Finset.mem_filter.mp h0).2
  have h1 : (y 0).val = 1 := (Finset.mem_filter.mp h1).2
  omega
theorem slotR_disj : Disjoint (slotR 0).view.set (slotR 1).view.set := by
  rw [slotR_set, slotR_set, Finset.disjoint_left]
  intro y h0 h1
  have h0 : (y 0).val = 0 := (Finset.mem_filter.mp h0).2
  have h1 : (y 0).val = 1 := (Finset.mem_filter.mp h1).2
  omega
theorem slotI_cover : (slotI 0).view.set ∪ (slotI 1).view.set = Finset.univ := by
  rw [slotI_set, slotI_set]
  ext y
  have : (y 0).val < 2 := (y 0).isLt
  simp only [Finset.mem_union, Finset.mem_filter, Finset.mem_univ, true_and, iff_true]
  show (y 0).val = 0 ∨ (y 0).val = 1
  omega
theorem slotR_cover : (slotR 0).view.set ∪ (slotR 1).view.set = Finset.univ := by
  rw [slotR_set, slotR_set]
  ext y
  have : (y 0).val < 2 := (y 0).isLt
  simp only [Finset.mem_union, Finset.mem_filter, Finset.mem_univ, true_and, iff_true]
  show (y 0).val = 0 ∨ (y 0).val = 1
  omega

variable (d : Dev nD) (L : grid0.Coords)

theorem bufI_split (f : S2x1x128.Idx → Elt F .i32) :
    ((thr d L).loc cc0_scoped0 ↦{fullShare} f : sProp 𝕄) ⊢ iprop(slotIPts d L 0 f ∗ slotIPts d L 1 f) := by
  refine Entails.trans (Entails.of_eq ?_) (pointsTo_union slotI_disj).1
  rw [slotI_cover]
theorem bufI_join :
    iprop((∃ f, slotIPts d L 0 f) ∗ (∃ f, slotIPts d L 1 f)) ⊢ (iprop(∃ f, (thr d L).loc cc0_scoped0 ↦{fullShare} f) : sProp 𝕄) := by
  iintro ⟨⟨%f, H0⟩, ⟨%g, H1⟩⟩
  iexists _
  ihave H := (pointsTo_join (f := f) (g := g) (q := fullShare) (ℓ := (thr d L).loc cc0_scoped0) slotI_disj) $$ [H0 H1]
  · isplitl [H0]; · iexact H0
    iexact H1
  rw [slotI_cover]
  iexact H
theorem bufR_split (f : S2x128x2x128.Idx → Elt F .i32) :
    ((thr d L).loc cc0_scoped2 ↦{fullShare} f : sProp 𝕄) ⊢ iprop(slotRPts d L 0 f ∗ slotRPts d L 1 f) := by
  refine Entails.trans (Entails.of_eq ?_) (pointsTo_union slotR_disj).1
  rw [slotR_cover]
theorem bufR_join :
    iprop((∃ f, slotRPts d L 0 f) ∗ (∃ f, slotRPts d L 1 f)) ⊢ (iprop(∃ f, (thr d L).loc cc0_scoped2 ↦{fullShare} f) : sProp 𝕄) := by
  iintro ⟨⟨%f, H0⟩, ⟨%g, H1⟩⟩
  iexists _
  ihave H := (pointsTo_join (f := f) (g := g) (q := fullShare) (ℓ := (thr d L).loc cc0_scoped2) slotR_disj) $$ [H0 H1]
  · isplitl [H0]; · iexact H0
    iexact H1
  rw [slotR_cover]
  iexact H

/-! ## The subcore's own buffers and cells -/

abbrev cell (s : DmaSem sig) : GSem nD τ sig := (thr d L, SemLoc.dma s)

theorem cells_ne : semI 0 ≠ semI 1 ∧ semI 0 ≠ semO 0 ∧ semI 0 ≠ semO 1 ∧ semI 0 ≠ semG ∧ semI 1 ≠ semO 0 ∧ semI 1 ≠ semO 1 ∧ semI 1 ≠ semG
    ∧ semO 0 ≠ semO 1 ∧ semO 0 ≠ semG ∧ semO 1 ≠ semG := by decide

theorem cell_ne {s t : DmaSem sig} (h : s ≠ t) : cell d L t ≠ cell d L s := fun e => h (by
  have := congrArg Prod.snd e
  exact (SemLoc.dma.inj this).symm)

theorem cell_mem {s : DmaSem sig} (h : (SemLoc.dma s : SemLoc sig).isScoped .scVector = true) : cell d L s ∈ ownCells (thr d L) :=
  mem_ownCells.mpr ⟨rfl, h⟩

theorem ownSems0_V :
    (ownSems0 (thr d L) : sProp 𝕄)
      = iprop(semVal (cell d L (semI 0)) 0 ∗ semVal (cell d L (semI 1)) 0 ∗ semVal (cell d L (semO 0)) 0 ∗ semVal (cell d L (semO 1)) 0 ∗ semVal (cell d L semG) 0
          ∗ bigSep ((((((ownCells (thr d L)).erase (cell d L (semI 0))).erase (cell d L (semI 1))).erase (cell d L (semO 0))).erase (cell d L (semO 1))).erase (cell d L semG))
              fun g => semVal g 0) := by
  obtain ⟨h1, h2, h3, h4, h5, h6, h7, h8, h9, h10⟩ := cells_ne
  unfold SparseCore.Cfg.ownSems0
  rw [SparseCore.bigSep_erase' (cell_mem d L (s := semI 0) (by decide)),
    SparseCore.bigSep_erase' (Finset.mem_erase.mpr ⟨cell_ne d L h1, cell_mem d L (s := semI 1) (by decide)⟩),
    SparseCore.bigSep_erase' (Finset.mem_erase.mpr ⟨cell_ne d L h5, Finset.mem_erase.mpr ⟨cell_ne d L h2, cell_mem d L (s := semO 0) (by decide)⟩⟩),
    SparseCore.bigSep_erase' (Finset.mem_erase.mpr ⟨cell_ne d L h8, Finset.mem_erase.mpr ⟨cell_ne d L h6, Finset.mem_erase.mpr ⟨cell_ne d L h3,
      cell_mem d L (s := semO 1) (by decide)⟩⟩⟩),
    SparseCore.bigSep_erase' (Finset.mem_erase.mpr ⟨cell_ne d L h10, Finset.mem_erase.mpr ⟨cell_ne d L h9, Finset.mem_erase.mpr ⟨cell_ne d L h7,
      Finset.mem_erase.mpr ⟨cell_ne d L h4, cell_mem d L (s := semG) (by decide)⟩⟩⟩⟩)]

theorem ownBufs_V :
    (ownBufs (thr d L) : sProp 𝕄)
      = iprop((∃ f, (thr d L).loc cc0_scoped0 ↦{fullShare} f) ∗ (∃ f, (thr d L).loc cc0_scoped2 ↦{fullShare} f)
          ∗ bigSep (((ownRefs (τ := τ) (.scVector (cV L) (jV L))).erase ((Proc.scVector (cV L) (jV L)).devRef cc0_scoped0)).erase
              ((Proc.scVector (cV L) (jV L)).devRef cc0_scoped2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scoped0) rfl)).trans ?_
  rw [SparseCore.bigSep_erase' (Finset.mem_erase.mpr ⟨fun e => absurd (Proc.devRef_injective _ e) (show (cc0_scoped2 : Ref sig .scVector) ≠ cc0_scoped0 by decide),
    SparseCore.Cfg.mem_ownRefs_of_owner (p := Proc.scVector (cV L) (jV L)) (b := (Proc.scVector (cV L) (jV L)).devRef cc0_scoped2) rfl⟩)]

/-! ## The run -/

variable [FloatOps F]
variable (tab : TBuf (F := F)) (ix : IBuf (F := F)) (qi qt : PosShare TreeShare)
variable (o0 : S32768x2x128.Idx → Elt F .i32) (O : CellTallies nD τ sig (HIx 1)) (W : Waits sig (HIx 1))

/-- The tile's windows of the result, at contents `f`. -/
abbrev Wins (f : S32768x2x128.Idx → Elt F .i32) : sProp 𝕄 := bigSep (Finset.range 8) fun j => winPts d L j f

/-- What the tile is given: its shares of the row numbers and the table, its windows. -/
abbrev Given (f : S32768x2x128.Idx → Elt F .i32) : sProp 𝕄 := iprop((iLoc d ↦{qi} ix) ∗ (tLoc d ↦{qt} tab) ∗ Wins d L f)

theorem words_first : words 0 = (Scalar.addi 0#32 1#32, 0#32, 0#32, 0#32, 0#32, 0#32) := by decide +kernel
theorem words_last : words 8 = (8#32, 8#32, 8#32, 7#32, 0#32, 0#32) := by decide +kernel

set_option maxHeartbeats 4000000 in
theorem tile_body (hF : (K (F := F)).Facts) (hI : ∀ x, (ix x).toNat < 90624) (hO : ∀ g, O g none = 0) :
    iprop(levAts (K (F := F)).L (K (F := F)).lev ∗ emp ∗ Given d L tab ix qi qt o0
        ∗ scopedBufs (thr d L) ∗ scopedSems0 (thr d L) ∗ owes (thr d L) O W)
      ⊢ wp frame (wpE (defs₀ (F := F)) 𝒱₀ (thr d L) none) Set.univ
          (cc0_gather_kernel L tV (Memref.isWhole_whole _) iV (Memref.isWhole_whole _) oV (Memref.isWhole_whole _)
            bV (Memref.isWhole_whole _) cc0_scoped1 rV (Memref.isWhole_whole _) cc0_scoped3 cc0_scoped4)
          fun _ => iprop(Given d L tab ix qi qt (OUT tab ix)
            ∗ scopedBufs (thr d L) ∗ scopedSems0 (thr d L)
            ∗ ∃ W', ⌜∀ p ∈ W', p ∈ W ∨ p.2 = none⌝ ∗ owes (thr d L) O W') := by
  have hbody : ∀ (k : Fin k0_t1_loop.trips) (acc : BitVec 32 × BitVec 32 × BitVec 32 × BitVec 32 × BitVec 32 × BitVec 32),
      Inv d L tab ix qi qt o0 O W k.val acc ⊢ wp frame (wpE (defs₀ (F := F)) 𝒱₀ (thr d L) none) Set.univ
        (k0_t1_body L tV (Memref.isWhole_whole _) iV (Memref.isWhole_whole _) oV (Memref.isWhole_whole _)
          bV (Memref.isWhole_whole _) cc0_scoped1 rV (Memref.isWhole_whole _) cc0_scoped3 cc0_scoped4 (tileWord L) (Scalar.addi 0#32 (tileWord L))
          (Scalar.select (Scalar.cmpi .eq (Scalar.select (Scalar.cmpi .eq (Scalar.select 1#1 1#32 0#32) 1#32) 1#32 0#32) 8#32) 0#32
            (Scalar.select (Scalar.cmpi .eq (Scalar.select 1#1 1#32 0#32) 1#32) 1#32 0#32))
          (Scalar.cmpi .eq (Scalar.select 1#1 1#32 0#32) 1#32) 1#32 k acc)
        (Inv d L tab ix qi qt o0 O W (k.val + 1)) := fun k acc => by
    unfold Inv
    iintro ⟨%h, Hmw, HO, HH⟩
    subst h
    iapply (trip d L tab ix qi qt o0 O W hI _ _ _ _ k)
    isplitl [Hmw]; · iexact Hmw
    isplitl [HO]; · iexact HO
    iexact HH
  rw [cc0_gather_kernel_eq_skeleton]
  unfold cc0_gather_kernel_skel
  rw [(K (F := F)).scopedBufs_V hF d (cV L) (jV L), SparseCore.Cfg.scopedSems0_V (Val := Elt F) d (cV L) (jV L), ownSems0_V, ownBufs_V]
  iintro ⟨#Hlv, -, ⟨Hi, Ht, Hw⟩, ⟨⟨%fs, Hs⟩, ⟨%fr, Hr⟩, Hbufs⟩, ⟨HvI0, HvI1, HvO0, HvO1, HvG, Hsems⟩, HO⟩
  ihave #Hmw := (show levAts (K (F := F)).L (K (F := F)).lev ⊢ Transfers.MayWaits (thr d L) (default : HIx 1) O from
    (K (F := F)).mayWaits_none (thr := thr d L) hO) $$ Hlv
  ihave Hs := (bufI_split d L fs) $$ Hs
  icases Hs with ⟨Hs0, Hs1⟩
  ihave Hr := (bufR_split d L fr) $$ Hr
  icases Hr with ⟨Hr0, Hr1⟩
  ihave Hi := (pointsTo_share (PosShare.mem_left_op_right qi)).1 $$ Hi
  icases Hi with ⟨Hi0, Hi1⟩
  dsimp only
  rw [wp_bind, k0_part4_eq_skeleton]
  unfold k0_part4_skel
  dsimp only
  rw [wp_pure]
  imodintro
  dsimp only
  rw [wp_bind, k0_part5_eq_skeleton]
  unfold k0_part5_skel
  dsimp only
  rw [wp_bind]
  iapply (step_in d L ix qi 0 0 (by decide) (off2 L) (show k0_off1 = _ by decide) (show k0_off3 = _ by decide)) $$ [Hs0 HvI0 Hi0]
  · unfold InIdle
    isplitl [Hs0]; · iexists fs; iexact Hs0
    isplitl [HvI0]; · iexact HvI0
    iexact Hi0
  iintro HIn
  rw [wp_bind]
  iapply (Scf.wp_for _ _ _ _ _ _ k0_t1_ok _ _ (Inv d L tab ix qi qt o0 O W) hbody)
  isplitl [HIn Hs1 HvI1 Hi1 Ht HvG Hr0 HvO0 Hr1 HvO1 Hw HO]
  · unfold Inv Hold
    isplitr
    · ipureintro; exact words_first.symm
    isplitr
    · iexact Hmw
    isplitl [HO]
    · unfold Ow
      iexists W
      isplitr
      · ipureintro; exact fun p hp => .inl hp
      iexact HO
    isplitl [HIn]
    · unfold InPart; rw [if_pos (by decide)]; iexact HIn
    isplitl [Hs1 HvI1 Hi1]
    · unfold InIdle
      isplitl [Hs1]; · iexists fs; iexact Hs1
      isplitl [HvI1]; · iexact HvI1
      iexact Hi1
    isplitl [Ht]; · iexact Ht
    isplitl [HvG]; · iexact HvG
    isplitl [Hr0 HvO0]
    · unfold OutIdle
      isplitl [Hr0]; · iexists fr; iexact Hr0
      iexact HvO0
    isplitl [Hr1 HvO1]
    · unfold OutPart; rw [if_neg (by decide)]
      unfold OutIdle
      isplitl [Hr1]; · iexists fr; iexact Hr1
      iexact HvO1
    isplitr
    · unfold Done
      rw [show Finset.range (0 - 1) = ∅ from rfl, bigSep_empty]
      iempintro
    unfold Todo
    rw [show Finset.Ico 0 8 = Finset.range 8 by decide]
    iexact Hw
  iintro %acc HInv
  rw [show Scf.trips k0_t1_loop.lb k0_t1_loop.ub k0_t1_loop.st = 8 from trips_eq]
  unfold Inv Hold
  icases HInv with ⟨%hacc, -, HO, HIn, HIdle, Ht, HvG, HOut, HFly, HDone, HTodo⟩
  rw [words_last] at hacc
  subst hacc
  dsimp only
  rw [wp_bind, wp_check (chk5 L)]
  imodintro
  rw [wp_bind, wp_check chk4]
  imodintro
  rw [wp_pure]
  imodintro
  dsimp only
  rw [wp_bind, k0_part6_eq_skeleton]
  unfold k0_part6_skel
  dsimp only
  rw [wp_pure]
  imodintro
  rw [wp_bind]
  ihave HFly := (Entails.of_eq (show (OutPart d L tab ix 8 : sProp 𝕄) = OutFly d L tab ix 1 7 by unfold OutPart; rw [if_pos (by decide)]; rfl)) $$ HFly
  iapply (step_wait_out d L tab ix 1 7 off20) $$ [HFly HO]
  · isplitl [HFly]; · iexact HFly
    isplitl [HO]; · iexact HO
    iexact Hmw
  iintro ⟨HOI, Hw, HO⟩
  rw [wp_pure]
  imodintro
  ihave HIn := (Entails.of_eq (show (InPart d L ix qi 8 : sProp 𝕄) = InIdle d L ix qi 0 by unfold InPart; rw [if_neg (by decide)]; rfl)) $$ HIn
  ihave HIdle := (Entails.of_eq (show (InIdle d L ix qi (par (8 + 1)) : sProp 𝕄) = InIdle d L ix qi 1 from rfl)) $$ HIdle
  ihave HOut := (Entails.of_eq (show (OutIdle d L (par 8) : sProp 𝕄) = OutIdle d L 0 from rfl)) $$ HOut
  unfold InIdle OutIdle
  icases HIn with ⟨Hs0, HvI0, Hi0⟩
  icases HIdle with ⟨Hs1, HvI1, Hi1⟩
  icases HOut with ⟨Hr0, HvO0⟩
  icases HOI with ⟨Hr1, HvO1⟩
  isplitl [Hi0 Hi1 Ht Hw HDone]
  · isplitl [Hi0 Hi1]
    · iapply (pointsTo_share (PosShare.mem_left_op_right qi)).2
      isplitl [Hi0]; · iexact Hi0
      iexact Hi1
    isplitl [Ht]; · iexact Ht
    ihave H := (Done_step d L tab ix 7) $$ [Hw HDone]
    · isplitl [Hw]; · iexact Hw
      iexact HDone
    unfold Done
    iexact H
  isplitl [Hs0 Hs1 Hr0 Hr1 Hbufs]
  · isplitl [Hs0 Hs1]
    · iapply (bufI_join d L)
      isplitl [Hs0]; · iexact Hs0
      iexact Hs1
    isplitl [Hr0 Hr1]
    · iapply (bufR_join d L)
      isplitl [Hr0]; · iexact Hr0
      iexact Hr1
    iexact Hbufs
  isplitl [HvI0 HvI1 HvO0 HvO1 HvG Hsems]
  · isplitl [HvI0]; · iexact HvI0
    isplitl [HvI1]; · iexact HvI1
    isplitl [HvO0]; · iexact HvO0
    isplitl [HvO1]; · iexact HvO1
    isplitl [HvG]; · iexact HvG
    iexact Hsems
  unfold Ow
  iexact HO

end Cert.Kernel.Gather

end
-- ==== Proof.Launch.lean ====
/-
  The gather's launch: what the two SparseCores and their sixteen tiles each are handed, the tiles' obligation, and
  @main, which reshapes the table, makes the call and reshapes the rows; to the run of the whole program.
-/
module

public import proofs.«01_k».proof.Proof.Body

@[expose] public section

noncomputable section

namespace Cert.Kernel.Gather

open Cert.Kernel Cert.Kernel.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ShareLeaves
open Idealize.ShloMosaic.StableHlo (held wp_hlo_within)
open Idealize.ShloMosaic.Tactic

variable {F : FTy → Type}

local notation "𝕄" => MT nD τ sig (HIx 1) (Elt F) ℕ UU ℕ
local notation "tV" => (Memref.whole Cert.Kernel.main_v0_scv : Memref Cert.Kernel.sig Kind.scVector Space.hbm Cert.Kernel.S90624x2x128 EltTy.i32)
local notation "iV" => (Memref.whole Cert.Kernel.main_arg1_scv : Memref Cert.Kernel.sig Kind.scVector Space.hbm Cert.Kernel.S1x32768 EltTy.i32)
local notation "oV" => (Memref.whole Cert.Kernel.main_v1_scv : Memref Cert.Kernel.sig Kind.scVector Space.hbm Cert.Kernel.S32768x2x128 EltTy.i32)
local notation "bV" => (Memref.whole Cert.Kernel.cc0_scoped0 : Memref Cert.Kernel.sig Kind.scVector Space.vmem Cert.Kernel.S2x1x128 EltTy.i32)
local notation "rV" => (Memref.whole Cert.Kernel.cc0_scoped2 : Memref Cert.Kernel.sig Kind.scVector Space.vmem Cert.Kernel.S2x128x2x128 EltTy.i32)

/-! ## The shares and the windows of the two by sixteen tiles -/

/-- Tile `i` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- The tile's share of an array that every tile reads. -/
def shareV (c : Fin 2) (i : Fin 16) : PosShare TreeShare := leaf 4 (leaf 1 fullShare c) i

theorem pts_shares {ℓ : Loc nD τ sig} (f : Buf (Elt F) ℓ) :
    (ℓ ↦{fullShare} f : sProp 𝕄) = bigSep Finset.univ fun c : Fin 2 => bigSep Finset.univ fun i : Fin 16 => ℓ ↦{shareV c i} f :=
  (pointsTo_leaves Finset.univ f 1 fullShare).trans (bigSep_congr fun c _ => pointsTo_leaves Finset.univ f 4 (leaf 1 fullShare c))

/-- The result's elements in the tile's windows, and in the SparseCore's. -/
def tileSet (c : Fin 2) (i : Fin 16) : Finset S32768x2x128.Idx := Finset.univ.filter fun y => (y 0).val / 128 % 32 = i.val + 16 * c.val
def coreSet (c : Fin 2) : Finset S32768x2x128.Idx := Finset.univ.filter fun y => (y 0).val / 128 % 32 / 16 = c.val

theorem mem_winSet (c : Fin 2) (i : Fin 16) (k : ℕ) (y : S32768x2x128.Idx) :
    y ∈ winSet (coordsV c i) k ↔ (y 0).val / 128 = 32 * k + (i.val + 16 * c.val) := by
  simp only [winSet, Finset.mem_filter, Finset.mem_univ, true_and]
  show 128 * (32 * k + (i.val + 16 * c.val)) ≤ (y 0).val ∧ (y 0).val < 128 * (32 * k + (i.val + 16 * c.val)) + 128 ↔ _
  omega
theorem mem_tileSet (c : Fin 2) (i : Fin 16) (y : S32768x2x128.Idx) : y ∈ tileSet c i ↔ (y 0).val / 128 % 32 = i.val + 16 * c.val := by
  simp only [tileSet, Finset.mem_filter, Finset.mem_univ, true_and]
theorem mem_coreSet (c : Fin 2) (y : S32768x2x128.Idx) : y ∈ coreSet c ↔ (y 0).val / 128 % 32 / 16 = c.val := by
  simp only [coreSet, Finset.mem_filter, Finset.mem_univ, true_and]

theorem wins_cover (c : Fin 2) (i : Fin 16) : (Finset.range 8).biUnion (winSet (coordsV c i)) = tileSet c i := by
  ext y
  rw [Finset.mem_biUnion, mem_tileSet]
  simp only [mem_winSet, Finset.mem_range]
  have hy : (y 0).val < 32768 := (y 0).isLt
  have hc := c.isLt
  have hi := i.isLt
  constructor
  · rintro ⟨k, -, e⟩; omega
  · intro e; exact ⟨(y 0).val / 4096, by omega, by omega⟩
theorem tiles_cover (c : Fin 2) : (Finset.univ : Finset (Fin 16)).biUnion (tileSet c) = coreSet c := by
  ext y
  rw [Finset.mem_biUnion, mem_coreSet]
  simp only [mem_tileSet, Finset.mem_univ, true_and]
  have hc := c.isLt
  constructor
  · rintro ⟨i, e⟩; have := i.isLt; omega
  · intro e; exact ⟨⟨(y 0).val / 128 % 32 % 16, Nat.mod_lt _ (by decide)⟩, by show _ = (y 0).val / 128 % 32 % 16 + _; omega⟩
theorem cores_cover : (Finset.univ : Finset (Fin 2)).biUnion coreSet = Finset.univ := by
  ext y
  rw [Finset.mem_biUnion]
  simp only [mem_coreSet, Finset.mem_univ, true_and, iff_true]
  exact ⟨⟨(y 0).val / 128 % 32 / 16, by omega⟩, rfl⟩

theorem wins_disjoint (c : Fin 2) (i : Fin 16) :
    ∀ k ∈ Finset.range 8, ∀ j ∈ Finset.range 8, k ≠ j → Disjoint (winSet (coordsV c i) k) (winSet (coordsV c i) j) := fun k _ j _ h =>
  Finset.disjoint_left.2 fun y hk hj => by rw [mem_winSet] at hk hj; omega
theorem tiles_disjoint (c : Fin 2) :
    ∀ i ∈ (Finset.univ : Finset (Fin 16)), ∀ j ∈ (Finset.univ : Finset (Fin 16)), i ≠ j → Disjoint (tileSet c i) (tileSet c j) := fun i _ j _ h =>
  Finset.disjoint_left.2 fun y hi hj => h (Fin.ext (by rw [mem_tileSet] at hi hj; omega))
theorem cores_disjoint :
    ∀ i ∈ (Finset.univ : Finset (Fin 2)), ∀ j ∈ (Finset.univ : Finset (Fin 2)), i ≠ j → Disjoint (coreSet i) (coreSet j) := fun i _ j _ h =>
  Finset.disjoint_left.2 fun y hi hj => h (Fin.ext (by rw [mem_coreSet] at hi hj; omega))

theorem oPts_wins (d : Dev nD) (f : S32768x2x128.Idx → Elt F .i32) :
    (oLoc d ↦{fullShare} f : sProp 𝕄) = bigSep Finset.univ fun c : Fin 2 => bigSep Finset.univ fun i : Fin 16 => Wins d (coordsV c i) f := by
  have h1 : (oLoc d ↦{fullShare} f : sProp 𝕄) = bigSep Finset.univ fun c : Fin 2 => oLoc d ↦[coreSet c]{fullShare} f := by
    rw [← pointsTo_biUnion Finset.univ (ℓ := oLoc d) coreSet cores_disjoint, cores_cover]; try rfl
  rw [h1]
  refine bigSep_congr fun c _ => ?_
  rw [← tiles_cover, pointsTo_biUnion Finset.univ (ℓ := oLoc d) (tileSet c) (tiles_disjoint c)]
  refine bigSep_congr fun i _ => ?_
  rw [← wins_cover, pointsTo_biUnion (Finset.range 8) (ℓ := oLoc d) (winSet (coordsV c i)) (wins_disjoint c i)]

/-- The three arrays whole are what the tiles are given, all together. -/
theorem given_all (d : Dev nD) (tab : TBuf (F := F)) (ix : IBuf (F := F)) (f : S32768x2x128.Idx → Elt F .i32) :
    (iprop((iLoc d ↦{fullShare} ix) ∗ (tLoc d ↦{fullShare} tab) ∗ oLoc d ↦{fullShare} f) : sProp 𝕄)
      = bigSep Finset.univ fun c : Fin 2 => bigSep Finset.univ fun i : Fin 16 => Given d (coordsV c i) tab ix (shareV c i) (shareV c i) f := by
  rw [pts_shares (ℓ := iLoc d), pts_shares (ℓ := tLoc d), oPts_wins, ← bigSep_sep', ← bigSep_sep']
  refine bigSep_congr fun c _ => ?_
  rw [← bigSep_sep', ← bigSep_sep']

/-! ## What the launch hands out -/

section Launch

variable [FloatOps F] (m : (ℓ : Loc nD τ sig) → Buf (Elt F) ℓ) (ρ : Dev nD → PrngReg)

/-- The table and the result as the arguments' and the last array's shapes have them. -/
abbrev aLoc (d : Dev nD) : Loc nD τ sig := (SparseCore.T d).loc main_arg0
abbrev rLoc (d : Dev nD) : Loc nD τ sig := (SparseCore.T d).loc main_v2

/-- Every row number lies in the table. -/
def PreOK : Prop := ∀ (d : Dev nD) (x : S1x32768.Idx), ((m (iLoc d) : IBuf (F := F)) x).toNat < 90624

/-- The table as the gather reads it, the rows gathered, and the rows as the program returns them. -/
def TAB (d : Dev nD) : TBuf (F := F) := shapeCast S90624x2x128 (m (aLoc d) : S90624x256.Idx → Elt F .i32) shapeCasts_S90624x256_S90624x2x128
def GOT (d : Dev nD) : S32768x2x128.Idx → Elt F .i32 := OUT (TAB m d) (m (iLoc d))
def RES (d : Dev nD) : S32768x256.Idx → Elt F .i32 := shapeCast S32768x256 (GOT m d) shapeCasts_S32768x2x128_S32768x256

/-- The tile's part of the arrays, the result's windows at `f`. -/
abbrev Part (d : Dev nD) (c : Fin 2) (i : Fin 16) (f : S32768x2x128.Idx → Elt F .i32) : sProp 𝕄 :=
  Given d (coordsV c i) (TAB m d) (m (iLoc d)) (shareV c i) (shareV c i) f

def P : (K (F := F)).Pay (nD := nD) (Val := Elt F) (Name := ℕ) (U := UU) where
  st q d c := match q with | 0 => bigSep Finset.univ fun i : Fin 16 => Part m d (Fin.cast nCore_zero c) i (m (oLoc d))
  dn q d c := match q with | 0 => bigSep Finset.univ fun i : Fin 16 => Part m d (Fin.cast nCore_zero c) i (GOT m d)
  go q d c i := match q with | 0 => Part m d (Fin.cast nCore_zero c) (Fin.cast nSub_zero i) (m (oLoc d))
  td q d c i := match q with | 0 => Part m d (Fin.cast nCore_zero c) (Fin.cast nSub_zero i) (GOT m d)
  x _ _ := iprop(emp)

instance P_storable : (P (F := F) m).IsStorable where
  st q d c := match q with | 0 => (inferInstance : BI.Storable (upEmb : UEmb _ 𝕄) (bigSep Finset.univ fun i : Fin 16 => Part m d (Fin.cast nCore_zero c) i (m (oLoc d))))
  dn q d c := match q with | 0 => (inferInstance : BI.Storable (upEmb : UEmb _ 𝕄) (bigSep Finset.univ fun i : Fin 16 => Part m d (Fin.cast nCore_zero c) i (GOT m d)))
  go q d c i := match q with | 0 => (inferInstance : BI.Storable (upEmb : UEmb _ 𝕄) (Part m d (Fin.cast nCore_zero c) (Fin.cast nSub_zero i) (m (oLoc d))))
  td q d c i := match q with | 0 => (inferInstance : BI.Storable (upEmb : UEmb _ 𝕄) (Part m d (Fin.cast nCore_zero c) (Fin.cast nSub_zero i) (GOT m d)))

/-! ## The tiles' obligation -/

theorem defs₀_vector (c : Fin τ.nSC) (s : Fin τ.nSub) :
    defs₀ (F := F) (.scVector c s) 0 ()
      = SparseCore.onTile hcore0 hsub0 (fun c s => cc0_gather_kernel (coordsV c s)
          tV (Memref.isWhole_whole _) iV (Memref.isWhole_whole _) oV (Memref.isWhole_whole _)
          bV (Memref.isWhole_whole _) cc0_scoped1 rV (Memref.isWhole_whole _) cc0_scoped3 cc0_scoped4) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (TAB m d) (m (iLoc d)) _ _ (m (oLoc d)) O W facts (hpre d) hO).trans (wp_mono frame _ _ fun _ => obl_post)

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A sequencer hands its tiles what it was handed, and hands back what they do. -/
theorem vecSplit : (K (F := F)).VecSplit' (P m) 0 := by
  intro d c
  show (bigSep Finset.univ fun i : Fin 16 => Part m d (Fin.cast nCore_zero c) i (m (oLoc d))) ⊢ |={Set.univ}=> iprop(
      (bigSep Finset.univ fun i : Fin ((K (F := F)).nSub 0) => Part m d (Fin.cast nCore_zero c) (Fin.cast nSub_zero i) (m (oLoc d)))
      ∗ ((bigSep Finset.univ fun i : Fin ((K (F := F)).nSub 0) => Part m d (Fin.cast nCore_zero c) (Fin.cast nSub_zero i) (GOT m d))
          -∗ bigSep Finset.univ fun i : Fin 16 => Part m d (Fin.cast nCore_zero c) i (GOT m d)))
  rw [bigSep_tasks (F := F) (fun i => Part m d (Fin.cast nCore_zero c) i (m (oLoc d))), bigSep_tasks (F := F) (fun i => Part m d (Fin.cast nCore_zero c) i (GOT m d))]
  iintro H; imodintro
  isplitl [H]; · iexact H
  iintro H; iexact H

/-! ## The launch element of the ghost state -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

abbrev a' : DevRef τ sig := Proc.devRef .tc (main_arg0 : Ref sig .tc)
abbrev t' : DevRef τ sig := Proc.devRef .tc (main_v0 : Ref sig .tc)
abbrev o' : DevRef τ sig := Proc.devRef .tc (main_v1 : Ref sig .tc)
abbrev r' : DevRef τ sig := Proc.devRef .tc (main_v2 : Ref sig .tc)
abbrev opT : HloOp τ sig (Elt F) := StableHlo.reshape main_arg0 main_v0 (rfl : (.i32 : EltTy) = .i32) shapeCasts_S90624x256_S90624x2x128
abbrev opR : HloOp τ sig (Elt F) := StableHlo.reshape main_v1 main_v2 (rfl : (.i32 : EltTy) = .i32) shapeCasts_S32768x2x128_S32768x256

theorem unscopedBufs_eq (d : Dev nD) (W : (b : Ref sig .tc) → Buf (Elt F) ((d.tc : Thread nD τ).loc b)) :
    (unscopedBufs d W : sProp 𝕄)
      = iprop((aLoc d ↦{fullShare} W main_arg0) ∗ (iLoc d ↦{fullShare} W main_arg1) ∗ (tLoc d ↦{fullShare} W main_v0)
          ∗ (oLoc d ↦{fullShare} W main_v1) ∗ rLoc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

theorem held_T (d : Dev nD) (W : Valuation τ sig (Elt F)) :
    (held (T d) {a', t'} W : sProp 𝕄) = iprop((aLoc d ↦{fullShare} W a') ∗ tLoc d ↦{fullShare} W t') := by
  unfold held; rw [SparseCore.bigSep_insert' (by decide), bigSep_singleton]
theorem held_R (d : Dev nD) (W : Valuation τ sig (Elt F)) :
    (held (T d) {o', r'} W : sProp 𝕄) = iprop((oLoc d ↦{fullShare} W o') ∗ rLoc d ↦{fullShare} W r') := by
  unfold held; rw [SparseCore.bigSep_insert' (by decide), bigSep_singleton]

/-- The contents at launch, and with the rows gathered. -/
def V0 (d : Dev nD) : Valuation τ sig (Elt F) := fun b => m (d, b)
def V1 (d : Dev nD) : Valuation τ sig (Elt F) := Function.update (V0 m d) o' (GOT m d)

theorem V1_o (d : Dev nD) : V1 m d o' = GOT m d := Function.update_self _ _ _
theorem V1_r (d : Dev nD) : V1 m d r' = m (rLoc d) := Function.update_of_ne (show r' ≠ o' by decide) _ _

theorem held_T0 (d : Dev nD) : (held (T d) {a', t'} (V0 m d) : sProp 𝕄) = iprop((aLoc d ↦{fullShare} m (aLoc d)) ∗ tLoc d ↦{fullShare} m (tLoc d)) :=
  held_T d _
theorem held_T1 (d : Dev nD) :
    (held (T d) {a', t'} ((opT (F := F)).result (V0 m d)) : sProp 𝕄) = iprop((aLoc d ↦{fullShare} m (aLoc d)) ∗ tLoc d ↦{fullShare} TAB m d) := by
  rw [held_T, (opT (F := F)).result_of_not_mem _ (show a' ∉ ({t'} : Finset (DevRef τ sig)) by decide),
    show (opT (F := F)).result (V0 m d) t' = TAB m d from StableHlo.reshape_result _ _ _ _ _ _ _]
  rfl
theorem held_R0 (d : Dev nD) : (held (T d) {o', r'} (V1 m d) : sProp 𝕄) = iprop((oLoc d ↦{fullShare} GOT m d) ∗ rLoc d ↦{fullShare} m (rLoc d)) := by
  rw [held_R, V1_o, V1_r]
theorem held_R1 (d : Dev nD) :
    (held (T d) {o', r'} ((opR (F := F)).result (V1 m d)) : sProp 𝕄) = iprop((oLoc d ↦{fullShare} GOT m d) ∗ rLoc d ↦{fullShare} RES m d) := by
  rw [held_R, (opR (F := F)).result_of_not_mem _ (show o' ∉ ({r'} : Finset (DevRef τ sig)) by decide), V1_o,
    show (opR (F := F)).result (V1 m d) r' = RES m d from (StableHlo.reshape_result _ _ _ _ _ _ _).trans (by rw [V1_o]; rfl)]

theorem st0_eq (d : Dev nD) : (bigSep Finset.univ fun c : Fin ((K (F := F)).nCore 0) => (P m).st 0 d c)
    = iprop((iLoc d ↦{fullShare} m (iLoc d)) ∗ (tLoc d ↦{fullShare} TAB m d) ∗ oLoc d ↦{fullShare} m (oLoc d)) :=
  (bigSep_cores (F := F) fun c => bigSep Finset.univ fun i : Fin 16 => Part m d c i (m (oLoc d))).trans (given_all d _ _ _).symm
theorem dn0_eq (d : Dev nD) : (bigSep Finset.univ fun c : Fin ((K (F := F)).nCore 0) => (P m).dn 0 d c)
    = iprop((iLoc d ↦{fullShare} m (iLoc d)) ∗ (tLoc d ↦{fullShare} TAB m d) ∗ oLoc d ↦{fullShare} GOT m d) :=
  (bigSep_cores (F := F) fun c => bigSep Finset.univ fun i : Fin 16 => Part m d c i (GOT m d)).trans (given_all d _ _ _).symm

theorem hT : (opT (F := F)).bufs ⊆ {a', t'} := show ({a', t'} : Finset (DevRef τ sig)) ⊆ {a', t'} by decide
theorem hR : (opR (F := F)).bufs ⊆ {o', r'} := show ({o', r'} : Finset (DevRef τ sig)) ⊆ {o', r'} by decide

/-- What @main leaves: the arguments as they were, the rows in the result. -/
abbrev FIN (d : Dev nD) : sProp 𝕄 :=
  iprop((aLoc d ↦{fullShare} m (aLoc d)) ∗ (iLoc d ↦{fullShare} m (iLoc d)) ∗ rLoc d ↦{fullShare} RES m d)

/-- @main on a device's TensorCore: the table reshaped, the call, its result reshaped. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Ha, Hi, Ht, Ho, Hr⟩, Hts, -⟩, -⟩
  iapply (wp_hlo_within 𝒱 (SparseCore.T d) none Set.univ (op := opT) (S := {a', t'}) hT (V := V0 m d)) $$ [Hb Ha Ht]
  · isplitl [Hb]; · iexact Hb
    rw [held_T0]
    isplitl [Ha]; · iexact Ha
    iexact Ht
  iintro ⟨Hb, Hheld⟩
  ihave Hh := (Entails.of_eq (held_T1 m d)) $$ Hheld
  icases Hh with ⟨Ha, Ht⟩
  rw [wp_ret]; imodintro
  iapply ((K (F := F)).wp_run (D (F := F)) 𝒱 (EH := EH) (P := P m) κ d 0) $$ [Hst Ha Hi Ht Ho Hr Hb Hts]
  isplitr; · iexact Hctx
  isplitl [Hst]; · iexact Hst
  isplitl [Hi Ht Ho]
  · rw [st0_eq]
    isplitl [Hi]; · iexact Hi
    isplitl [Ht]; · iexact Ht
    iexact Ho
  iintro ⟨Hst, Hdn⟩
  ihave Hdn' := (Entails.of_eq (dn0_eq m d)) $$ Hdn
  icases Hdn' with ⟨Hi, Ht, Ho⟩
  iapply (wp_hlo_within 𝒱 (SparseCore.T d) none Set.univ (op := opR) (S := {o', r'}) hR (V := V1 m d)) $$ [Hb Ho Hr]
  · isplitl [Hb]; · iexact Hb
    rw [held_R0]
    isplitl [Ho]; · iexact Ho
    iexact Hr
  iintro ⟨Hb, Hheld⟩
  ihave Hh := (Entails.of_eq (held_R1 m d)) $$ Hheld
  icases Hh with ⟨-, Hr⟩
  rw [wp_ret]; imodintro; imodintro
  isplitl [Hst]; · iexact Hst
  isplitr [Hb Hts]
  · isplitl [Ha]; · iexact Ha
    isplitl [Hi]; · iexact Hi
    iexact Hr
  isplitl [Hb] <;> iassumption

def fq (d : Dev nD) (s' : Phys nD τ sig (Elt F)) : Prop :=
  s'.mem.mem (rLoc d) = RES m d ∧ s'.mem.mem (aLoc d) = m (aLoc d) ∧ s'.mem.mem (iLoc d) = m (iLoc d)

set_option maxRecDepth 16384 in
theorem hfin (d : Dev nD) (s' : Phys nD τ sig (Elt F)) : iprop(FIN m d ∗ SI s') ⊢ (⌜fq m d s'⌝ : sProp 𝕄) := by
  iintro ⟨⟨Ha, Hi, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := iLoc d) (I := Finset.univ) (q := fullShare) (f := m (iLoc d)))) $$ [HSI Hi]
  · isplitl [HSI] <;> iassumption
  icases H with ⟨%h2, HSI, -⟩
  ihave H := (SI_pointsTo_agree (st := s') (ℓ := rLoc d) (I := Finset.univ) (q := fullShare) (f := RES m d)) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

def QC : PUnit × MemSt nD τ sig (Elt F) → Prop := fun r =>
  (∀ c : Dev nD, r.2.mem (rLoc c) = RES m c ∧ r.2.mem (aLoc c) = m (aLoc c) ∧ r.2.mem (iLoc c) = m (iLoc c)) ∧ r.2.sem = fun _ => 0

theorem run_main [∀ e, Nonempty (Elt F e)] (hpre : PreOK m) :
    θ_run (Cert.Kernel.defs (F := F)) (Cert.Kernel.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Launch

end Cert.Kernel.Gather

end
-- ==== Proof.Ref.lean ====
/-
  The reference's run: @main is a straight line of ten operations over whole arrays, the last of which picks from the
  table the rows the row numbers name. Where every row number lies in the table, element `(n, c)` of its result is the
  table's element `c` of the row that the `n`-th number names (`picked`).
-/
module

public import proofs.«01_k».proof.Proof.Gen.Reference
public import Idealize.ShloMosaic.Lib.StableHlo.Run
public import Idealize.ShloMosaic.Lib.Pipeline.Value
public import Idealize.ShloMosaic.Lib.ValueLayout

@[expose] public section

noncomputable section

namespace Cert.Reference.Rows

open Cert.Reference Cert.Reference.Gen
open Idealize.ShloMosaic Idealize.ShloMosaic.ValueIdx Idealize.ShloMosaic.TcCoe Idealize.ShloMosaic.StableHlo Idealize.SL.Sem

variable {F : FTy → Type}

/-- Row `n` of the result: the table's row that the `n`-th number names. -/
def picked (tab : S90624x256.Idx → Elt F .i32) (ix : S1x32768.Idx → Elt F .i32) : S32768x256.Idx → Elt F .i32 :=
  fun y => tab (ix2 (Fin.ofNat 90624 (ix (ix2 (0 : Fin 1) (y 0))).toNat) (y 1))

/-- The gather of rows, read at an element: the start index, signed and held within the table. -/
theorem gather_apply (x : S90624x256.Idx → BitVec 32) (idx : IVec S32768x1 32) (y : S32768x256.Idx) :
    Host.gather gather_S90624x256_S32768x1_S32768x256_1_0_n_n_0_1_1256 x idx y
      = x (ix2 ⟨min (idx (ix2 (y 0) (0 : Fin 1))).toInt.toNat 90623, by omega⟩ (y 1)) := by
  unfold Host.gather
  congr 1
  funext a
  refine Fin.ext ?_
  show gather_S90624x256_S32768x1_S32768x256_1_0_n_n_0_1_1256.start y idx a
    + gather_S90624x256_S32768x1_S32768x256_1_0_n_n_0_1_1256.batchCoord y a
    + gather_S90624x256_S32768x1_S32768x256_1_0_n_n_0_1_1256.offCoord y a = _
  rw [GatherDims.batchCoord_eq_zero _ _ _ (show a ∉ ([] : List (Fin 2)) from List.not_mem_nil), Nat.add_zero]
  match a with
  | 0 =>
    rw [GatherDims.offCoord_eq_zero _ _ _ (fun h => ((GatherDims.mem_sKept _ _).mp h).1 (List.mem_singleton.mpr rfl)), Nat.add_zero]
    unfold GatherDims.start
    rw [dif_pos (show (0 : Fin 2) ∈ gather_S90624x256_S32768x1_S32768x256_1_0_n_n_0_1_1256.startIndexMap from List.mem_singleton.mpr rfl)]
    refine congrArg (fun v : BitVec 32 => min v.toInt.toNat 90623) (congrArg idx (funext fun b => Fin.ext ?_))
    match b with
    | 0 => rfl
    | 1 => rfl
  | 1 =>
    unfold GatherDims.start
    rw [dif_neg (show (1 : Fin 2) ∉ gather_S90624x256_S32768x1_S32768x256_1_0_n_n_0_1_1256.startIndexMap from (show (1 : Fin 2) ∉ ([0] : List (Fin 2)) by decide)), Nat.zero_add]
    rfl

variable [FloatOps F]

/-- @main's operations, in order. -/
abbrev ops : List (HloOp τ sig (Elt F)) :=
  [ reshape main_arg1 main_v0 (rfl : (.i32 : EltTy) = .i32) shapeCasts_S1x32768_S32768,
    nullary main_c (constantI S_ 32 0#32),
    unary main_c main_v1 (broadcastInDim S32768 ![] bcast_S_S32768),
    binary main_v0 main_v1 main_v2 (cmpi .slt),
    nullary main_c_0 (constantI S_ 32 90624#32),
    unary main_c_0 main_v3 (broadcastInDim S32768 ![] bcast_S_S32768),
    binary main_v0 main_v3 main_v4 addi,
    ternary main_v2 main_v4 main_v0 main_v5 select,
    unary main_v5 main_v6 (broadcastInDim S32768x1 ![0] bcast_S32768_S32768x1_0),
    binary main_arg0 main_v6 main_v7 (fun x i => Host.gather gather_S90624x256_S32768x1_S32768x256_1_0_n_n_0_1_1256 x i) ]

theorem main_eq (c : Dev nD) : main (F := F) c = seq ops := rfl

/-- The row numbers in one line, a negative one counted from the table's end; as the gather takes them. -/
def flat (ix : S1x32768.Idx → BitVec 32) : S32768.Idx → BitVec 32 := shapeCast S32768 ix shapeCasts_S1x32768_S32768
def starts (ix : S1x32768.Idx → BitVec 32) : S32768x1.Idx → BitVec 32 :=
  broadcastInDim S32768x1 ![0] bcast_S32768_S32768x1_0
    (select (cmpi .slt (flat ix) (broadcastInDim S32768 ![] bcast_S_S32768 (constantI S_ 32 0#32)))
      (addi (flat ix) (broadcastInDim S32768 ![] bcast_S_S32768 (constantI S_ 32 90624#32))) (flat ix))

theorem flat_apply (ix : S1x32768.Idx → BitVec 32) (x : S32768.Idx) : flat ix x = ix (ix2 (0 : Fin 1) (x 0)) :=
  shapeCast_apply _ _ _ _ (by
    rw [Shape.rowMajor_val_two, Shape.rowMajor_val_one]
    show 0 * 32768 + (x 0).val = (x 0).val
    omega)

/-- Wrapping leaves a row number of the table as it is. -/
theorem wrap_eq (v : BitVec 32) (h : v.toNat < 90624) : (if IntOp.cmpi .slt v 0#32 = 1#1 then IntOp.addi v 90624#32 else v) = v := by
  have ofBool_eq_one (p : Bool) : (BitVec.ofBool p = 1#1) ↔ p = true := by cases p <;> decide
  refine if_neg ?_
  simp only [IntOp.cmpi, ofBool_eq_one, BitVec.slt_eq_decide, decide_eq_true_eq, BitVec.toInt_eq_toNat_cond, BitVec.toNat_ofNat,
    Nat.reducePow, Nat.reduceMod]
  omega

theorem starts_apply (ix : S1x32768.Idx → BitVec 32) (h : ∀ x, (ix x).toNat < 90624) (y : S32768x1.Idx) :
    starts ix y = ix (ix2 (0 : Fin 1) (y 0)) := by
  refine Eq.trans ?_ (wrap_eq _ (h (ix2 (0 : Fin 1) (y 0))))
  rw [← flat_apply ix (ix1 (y 0))]
  rfl

theorem out_eq (V : Valuation τ sig (Elt F)) :
    after ops V (main_v7 : DevRef τ sig)
      = Host.gather gather_S90624x256_S32768x1_S32768x256_1_0_n_n_0_1_1256 (V (main_arg0 : DevRef τ sig)) (starts (V (main_arg1 : DevRef τ sig))) := by
  after_results
  rfl
theorem arg0_eq (V : Valuation τ sig (Elt F)) : after ops V (main_arg0 : DevRef τ sig) = V (main_arg0 : DevRef τ sig) := by
  after_results
theorem arg1_eq (V : Valuation τ sig (Elt F)) : after ops V (main_arg1 : DevRef τ sig) = V (main_arg1 : DevRef τ sig) := by
  after_results

theorem gather_picked (x : S90624x256.Idx → Elt F .i32) (ix : S1x32768.Idx → Elt F .i32) (h : ∀ x, (ix x).toNat < 90624) :
    Host.gather gather_S90624x256_S32768x1_S32768x256_1_0_n_n_0_1_1256 x (starts ix) = picked x ix := by
  funext y
  refine (gather_apply x (starts ix) y).trans ?_
  unfold picked
  refine congrArg x (congrArg (fun r => ix2 r (y 1)) (Fin.ext ?_))
  show min (starts ix (ix2 (y 0) (0 : Fin 1))).toInt.toNat 90623 = (ix (ix2 (0 : Fin 1) (y 0))).toNat % 90624
  rw [starts_apply ix h]
  have hb := h (ix2 (0 : Fin 1) (y 0))
  show min (ix (ix2 (0 : Fin 1) (y 0))).toInt.toNat 90623 = _
  have e : (ix (ix2 (0 : Fin 1) (y 0))).toInt = ((ix (ix2 (0 : Fin 1) (y 0))).toNat : Int) := by
    rw [BitVec.toInt_eq_toNat_cond]; exact if_pos (by omega)
  rw [e, Int.toNat_natCast]
  omega

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨reshape_bufs_sub .., nullary_bufs_sub .., unary_bufs_sub .., binary_bufs_sub .., nullary_bufs_sub .., unary_bufs_sub ..,
    binary_bufs_sub .., ternary_bufs_sub .., unary_bufs_sub .., binary_bufs_sub ..⟩

/-- Every execution ends with the gather's value in the result and the arguments as they were. -/
theorem run_main (m : (ℓ : Loc nD τ sig) → Buf (Elt F) ℓ) (ρ : Dev nD → PrngReg) :
    θ_run defs (onTc (τ := τ) (main (F := F))) ⟨m, fun _ => 0, ρ⟩ fun r =>
      ∀ c : Dev nD, r.2.mem ((c.tc : Thread nD τ).loc main_v7)
          = Host.gather gather_S90624x256_S32768x1_S32768x256_1_0_n_n_0_1_1256 (m ((c.tc : Thread nD τ).loc main_arg0)) (starts (m ((c.tc : Thread nD τ).loc main_arg1)))
        ∧ r.2.mem ((c.tc : Thread nD τ).loc main_arg0) = m ((c.tc : Thread nD τ).loc main_arg0)
        ∧ r.2.mem ((c.tc : Thread nD τ).loc main_arg1) = m ((c.tc : Thread nD τ).loc main_arg1) :=
  (θ_run defs _ _).mono (fun _ h c => ⟨(h c main_v7).trans (out_eq _), (h c main_arg0).trans (arg0_eq _), (h c main_arg1).trans (arg1_eq _)⟩)
    (run_seq scopedRefs_eq scopedSems_eq defs main (fun _ => ops) main_eq (fun _ => ops_sub) m ρ)

end Cert.Reference.Rows

end
-- ==== Proof.Value.lean ====
/-
  The rows the program returns are the rows picked from its table: through the reshapes before and after the gather,
  element `(n, c)` of the result is the table's element `c` of the row that the `n`-th number names.
-/
module

public import proofs.«01_k».proof.Proof.Launch
public import proofs.«01_k».proof.Proof.Ref

@[expose] public section

noncomputable section

namespace Cert.Kernel.Gather

open Cert.Kernel Cert.Kernel.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

theorem TAB_apply (t : S90624x256.Idx → Elt F .i32) (r : Fin 90624) (p : Fin 2) (q : Fin 128) :
    shapeCast S90624x2x128 t shapeCasts_S90624x256_S90624x2x128 (ix3 r p q) = t (ix2 r (Fin.ofNat 256 (128 * p.val + q.val))) :=
  shapeCast_apply _ _ _ _ (by
    rw [Shape.rowMajor_val_two, Shape.rowMajor_val_three]
    show r.val * 256 + (128 * p.val + q.val) % 256 = (r.val * 2 + p.val) * 128 + q.val
    have := p.isLt; have := q.isLt; omega)

theorem RES_apply (g : S32768x2x128.Idx → Elt F .i32) (n : Fin 32768) (c : Fin 256) :
    shapeCast S32768x256 g shapeCasts_S32768x2x128_S32768x256 (ix2 n c) = g (ix3 n (Fin.ofNat 2 (c.val / 128)) (Fin.ofNat 128 c.val)) :=
  shapeCast_apply _ _ _ _ (by
    rw [Shape.rowMajor_val_two, Shape.rowMajor_val_three]
    show (n.val * 2 + c.val / 128 % 2) * 128 + c.val % 128 = n.val * 256 + c.val
    have := c.isLt; omega)

theorem RES_eq [FloatOps F] (m : (ℓ : Loc nD τ sig) → Buf (Elt F) ℓ) (d : Dev nD) :
    RES m d = Cert.Reference.Rows.picked (F := F) (m (aLoc d)) (m (iLoc d)) := by
  funext y
  obtain ⟨n, c, rfl⟩ : ∃ (n : Fin 32768) (c : Fin 256), y = ix2 n c := ⟨y 0, y 1, by funext a; match a with | 0 => rfl | 1 => rfl⟩
  unfold RES
  rw [RES_apply]
  unfold GOT OUT TAB Cert.Reference.Rows.picked
  refine (TAB_apply _ _ _ _).trans ?_
  refine congrArg (m (aLoc d) : S90624x256.Idx → Elt F .i32) (congrArg (ix2 _) (Fin.ext ?_))
  show (128 * (c.val / 128 % 2) + c.val % 128) % 256 = c.val
  have := c.isLt; omega

end Cert.Kernel.Gather

end
-- ==== Proof.ProjSpec.lean ====
/-
  What the projection computes, over the extended reals, stated of the arrays the layer's reference takes: a token's row
  normalised and scaled (`normed`), its product with one column of the combined weights (`proj`), and the log-decay
  (`decay`): the log-sigmoid of the low-rank product, divided by the temperature.
-/
module

public import Idealize.ShloMosaic.Lib.Pointwise

@[expose] public section

noncomputable section

namespace Cert.Proj

open Idealize.ShloMosaic

/-- One row of `x`, normalised by the root of its mean square and scaled by `g`, at feature `k`. -/
def normed (x g : Fin 1024 → EReal) (k : Fin 1024) : EReal :=
  x k * Ideal.rsqrt (Ideal.div (∑ j, x j * x j) (Ideal.ofBits .f32 0x44800000#32) + Ideal.ofBits .f32 0x358637BD#32) * g k

/-- The row of token `t`, the batches one after another. -/
def token (x : FVec Ideal ⟨3, ![4, 8192, 1024]⟩ .f32) (t : Fin 32768) (k : Fin 1024) : EReal :=
  x (ix3 ⟨t.val / 8192, by omega⟩ ⟨t.val % 8192, by omega⟩ k)

/-- Token `t`'s normalised row times column `j` of the combined weights. -/
def proj (x : FVec Ideal ⟨3, ![4, 8192, 1024]⟩ .f32) (g : FVec Ideal ⟨1, ![1024]⟩ .f32) (w : FVec Ideal ⟨2, ![1024, 5136]⟩ .f32)
    (t : Fin 32768) (j : Fin 5136) : EReal :=
  ∑ k, normed (token x t) (fun k => g (ix1 k)) k * w (ix2 k j)

/-- The negated log-sigmoid, of the negated argument `z`: the larger of `z` and zero, and the logarithm of one plus the
    exponential of the negated size of `z`. -/
def softplus (z : EReal) : EReal := max z 0 + Ideal.log1p (Ideal.exp (-FloatOps.absf (F := Ideal) (φ := .f32) z))

/-- The log-decay of token `t` in channel `j`. -/
def decay (x : FVec Ideal ⟨3, ![4, 8192, 1024]⟩ .f32) (g : FVec Ideal ⟨1, ![1024]⟩ .f32) (w : FVec Ideal ⟨2, ![1024, 5136]⟩ .f32)
    (u : FVec Ideal ⟨2, ![16, 256]⟩ .f32) (b : FVec Ideal ⟨1, ![256]⟩ .f32) (t : Fin 32768) (j : Fin 256) : EReal :=
  Ideal.div (-softplus (-(∑ l : Fin 16, proj x g w t ⟨1536 + l.val, by omega⟩ * u (ix2 l j) + b (ix1 j)))) (Ideal.ofBits .f32 0x41800000#32)

/-- Terms past the sixteenth that are zero add nothing. -/
theorem sum_low (f : Fin 16 → EReal) (g : Fin 128 → EReal) (e : ∀ (l : Fin 128) (h : l.val < 16), g l = f ⟨l.val, h⟩)
    (e₀ : ∀ l : Fin 128, ¬ l.val < 16 → g l = 0) : ∑ l, g l = ∑ l, f l := by
  rw [show ∑ l, g l = ∑ l : Fin (16 + 112), g l from rfl, Fin.sum_univ_add]
  rw [show ∑ l : Fin 112, g (Fin.natAdd 16 l) = 0 from Finset.sum_eq_zero fun l _ => e₀ _ (by simp), add_zero]
  exact Finset.sum_congr rfl fun l _ => e _ l.isLt

theorem sum_mul_comm (f g : Fin 1024 → EReal) : ∑ k, f k * g k = ∑ k, g k * f k := Finset.sum_congr rfl fun k _ => mul_comm _ _

/-- A product with one sixteenth is a quotient by sixteen. -/
theorem mul_sixteenth (z : EReal) : z * Ideal.ofBits .f32 1031798784#32 = Ideal.div z (Ideal.ofBits .f32 1098907648#32) := by
  have e₁ : Ideal.ofBits .f32 1031798784#32 = (((1 : ℝ) / 16 : ℝ) : EReal) := by
    simp [Ideal.ofBits, Ideal.ieee, -EReal.coe_mul]; norm_num
  have e₂ : Ideal.ofBits .f32 1098907648#32 = ((16 : ℝ) : EReal) := by
    simp [Ideal.ofBits, Ideal.ieee, -EReal.coe_mul]; norm_num
  have h : ((16 : ℝ) : EReal) ≠ 0 := by exact_mod_cast (by norm_num : (16 : ℝ) ≠ 0)
  rw [e₁, e₂, Ideal.div, if_neg h, ← EReal.coe_inv]
  norm_num

/-- The arrays of the projection: `n` columns from `off` on, a row a token. -/
def cols (x : FVec Ideal ⟨3, ![4, 8192, 1024]⟩ .f32) (g : FVec Ideal ⟨1, ![1024]⟩ .f32) (w : FVec Ideal ⟨2, ![1024, 5136]⟩ .f32)
    {n : Nat} (off : Nat) (h : off + n ≤ 5136) (i : Shape.Idx ⟨2, ![32768, n]⟩) : EReal :=
  proj x g w (i 0) ⟨off + (i 1).val, Nat.lt_of_lt_of_le (Nat.add_lt_add_left (i 1).isLt off) h⟩

/-- The arrays by blocks of 256 tokens: 512 columns from `off` on, a block's tokens along the last axis. -/
def colsT (x : FVec Ideal ⟨3, ![4, 8192, 1024]⟩ .f32) (g : FVec Ideal ⟨1, ![1024]⟩ .f32) (w : FVec Ideal ⟨2, ![1024, 5136]⟩ .f32)
    (off : Nat) (h : off + 512 ≤ 5136) (i : Shape.Idx ⟨3, ![128, 512, 256]⟩) : EReal :=
  proj x g w ⟨256 * (i 0).val + (i 2).val, by have := (i 0).isLt; have := (i 2).isLt; simp at *; omega⟩
    ⟨off + (i 1).val, Nat.lt_of_lt_of_le (Nat.add_lt_add_left (i 1).isLt off) h⟩

/-- `colsT` at an element, the token named otherwise. -/
theorem colsT_at (x : FVec Ideal ⟨3, ![4, 8192, 1024]⟩ .f32) (g : FVec Ideal ⟨1, ![1024]⟩ .f32) (w : FVec Ideal ⟨2, ![1024, 5136]⟩ .f32)
    (off : Nat) (h : off + 512 ≤ 5136) (n : Fin 128) (j : Fin 512) (p : Fin 256) (t : Fin 32768) (e : 256 * n.val + p.val = t.val) :
    colsT x g w off h (ix3 n j p) = ∑ k, normed (token x t) (fun k => g (ix1 k)) k * w (ix2 k ⟨off + j.val, by omega⟩) := by
  obtain ⟨t, ht⟩ := t
  subst e
  rfl

theorem token_block (x : FVec Ideal ⟨3, ![4, 8192, 1024]⟩ .f32) (n p : Nat) (hn : n < 128) (hp : p < 256) (h : 256 * n + p < 32768) (k : Fin 1024) :
    token x ⟨256 * n + p, h⟩ k = x (ix3 ⟨n / 32, by omega⟩ ⟨n % 32 * 256 + p, by omega⟩ k) := by
  have e0 : (256 * n + p) / 8192 = n / 32 := by omega
  have e1 : (256 * n + p) % 8192 = n % 32 * 256 + p := by omega
  simp only [token, e0, e1]

/-- The scale of the block attention's queries: one over the root of a head's width, times the base-2 logarithm of e. -/
def scale : EReal := (8⁻¹ * (Real.log 2)⁻¹ : ℝ)

/-- The log-decay as an array. -/
def decays (x : FVec Ideal ⟨3, ![4, 8192, 1024]⟩ .f32) (g : FVec Ideal ⟨1, ![1024]⟩ .f32) (w : FVec Ideal ⟨2, ![1024, 5136]⟩ .f32)
    (u : FVec Ideal ⟨2, ![16, 256]⟩ .f32) (b : FVec Ideal ⟨1, ![256]⟩ .f32) (i : Shape.Idx ⟨2, ![32768, 256]⟩) : EReal :=
  decay x g w u b (i 0) (i 1)

end Cert.Proj

end
-- ==== Proof.ProjArray.lean ====
/-
The projection's kernel: what the arrays that the host prepares hold, what a grid point's blocks read of them, and the results
that are stored row by row.
-/
module

public import proofs.«01_k».proof.Proof.Gen.Kernel2Ideal.Value
public import proofs.«01_k».proof.Proof.ProjSpec
public import Idealize.ShloMosaic.Lib.Pipeline.ValueKit.Geometry
public import Idealize.ShloMosaic.Lib.Pipeline.ValueKit.Acc

@[expose] public section

noncomputable section

namespace Cert.Kernel2Ideal.Proj

open Cert.Kernel2Ideal Cert.Kernel2Ideal.Gen Idealize.ShloMosaic Idealize.ShloMosaic.TcCoe Idealize.SL.Sem
open Idealize.ShloMosaic.Pipeline (Dat Cfg Window)
open Cert.Proj

variable (m : (ℓ : Loc nD τ sig) → Buf (Elt Ideal) ℓ) (ρ : Dev nD → PrngReg)

/-- The arguments, as launched. -/
abbrev X (c : Dev nD) : FVec Ideal S4x8192x1024 .f32 := m ((c.tc : Thread nD τ).loc main_arg0)
abbrev G (c : Dev nD) : FVec Ideal S1024 .f32 := m ((c.tc : Thread nD τ).loc main_arg1)
abbrev W (c : Dev nD) : FVec Ideal S1024x5136 .f32 := m ((c.tc : Thread nD τ).loc main_arg2)
abbrev U (c : Dev nD) : FVec Ideal S16x256 .f32 := m ((c.tc : Thread nD τ).loc main_arg3)
abbrev B (c : Dev nD) : FVec Ideal S256 .f32 := m ((c.tc : Thread nD τ).loc main_arg4)

/-! ## What the region finds in the arrays the host prepares -/

/-- Zero read as a float. -/
theorem sitofp_zero : FloatOps.sitofp (F := Ideal) FTy.bf16 (0#32) = (0 : EReal) := by
  show (((0#32).toInt : ℝ) : EReal) = 0
  simp

theorem V0 (c : Dev nD) (t : Fin 32768) (k : Fin 1024) : V m c main_v0 (ix2 t k) = token (X m c) t k := by
  have e : V m c main_v0 = shapeCast S32768x1024 (X m c) shapeCasts_S4x8192x1024_S32768x1024 := by
    unfold V
    simp only [hostOps0, hostOps0_1, hostOps0_2, hostOps0_3, hostOps0_4, List.flatten_cons, List.flatten_nil, List.append_nil, List.cons_append, List.nil_append]
    after_results_simp
    rfl
  rw [e]
  pointwise [token]
theorem V17 (c : Dev nD) (k : Fin 1024) : V m c main_v17 (ix2 0 k) = G m c (ix1 k) := by
  have e : V m c main_v17 = shapeCast S1x1024 (G m c) shapeCasts_S1024_S1x1024 := by
    unfold V
    simp only [hostOps0, hostOps0_1, hostOps0_2, hostOps0_3, hostOps0_4, List.flatten_cons, List.flatten_nil, List.append_nil, List.cons_append, List.nil_append]
    after_results_simp
    rfl
  rw [e]
  pointwise []
theorem V9 (c : Dev nD) (k : Fin 256) : V m c main_v9 (ix2 0 k) = B m c (ix1 k) := by
  have e : V m c main_v9 = shapeCast S1x256 (B m c) shapeCasts_S256_S1x256 := by
    unfold V
    simp only [hostOps0, hostOps0_1, hostOps0_2, hostOps0_3, hostOps0_4, List.flatten_cons, List.flatten_nil, List.append_nil, List.cons_append, List.nil_append]
    after_results_simp
    rfl
  rw [e]
  pointwise []
theorem V6 (c : Dev nD) (k : Fin 1024) (j : Fin 512) : V m c main_v6 (ix2 k j) = W m c (ix2 k ⟨j.val, by omega⟩) := by
  have e : V m c main_v6 = extractStridedSlice S1024x512 ![0, 0] (truncf .bf16 (W m c) bitsLt_bf16_f32) slices_S1024x5136_S1024x512_0_0 := by
    unfold V
    simp only [hostOps0, hostOps0_1, hostOps0_2, hostOps0_3, hostOps0_4, List.flatten_cons, List.flatten_nil, List.append_nil, List.cons_append, List.nil_append]
    after_results_simp
  rw [e]
  pointwise []
theorem V7 (c : Dev nD) (k : Fin 1024) (j : Fin 512) : V m c main_v7 (ix2 k j) = W m c (ix2 k ⟨512 + j.val, by omega⟩) := by
  have e : V m c main_v7 = extractStridedSlice S1024x512 ![0, 512] (truncf .bf16 (W m c) bitsLt_bf16_f32) slices_S1024x5136_S1024x512_0_512 := by
    unfold V
    simp only [hostOps0, hostOps0_1, hostOps0_2, hostOps0_3, hostOps0_4, List.flatten_cons, List.flatten_nil, List.append_nil, List.cons_append, List.nil_append]
    after_results_simp
  rw [e]
  pointwise []
theorem V8 (c : Dev nD) (k : Fin 1024) (j : Fin 512) : V m c main_v8 (ix2 k j) = W m c (ix2 k ⟨1024 + j.val, by omega⟩) := by
  have e : V m c main_v8 = extractStridedSlice S1024x512 ![0, 1024] (truncf .bf16 (W m c) bitsLt_bf16_f32) slices_S1024x5136_S1024x512_0_1024 := by
    unfold V
    simp only [hostOps0, hostOps0_1, hostOps0_2, hostOps0_3, hostOps0_4, List.flatten_cons, List.flatten_nil, List.append_nil, List.cons_append, List.nil_append]
    after_results_simp
  rw [e]
  pointwise []
theorem V12 (c : Dev nD) (k : Fin 1024) (j : Fin 512) : V m c main_v12 (ix2 k j) = W m c (ix2 k ⟨2064 + j.val, by omega⟩) := by
  have e : V m c main_v12 = extractStridedSlice S1024x512 ![0, 2064] (truncf .bf16 (W m c) bitsLt_bf16_f32) slices_S1024x5136_S1024x512_0_2064 := by
    unfold V
    simp only [hostOps0, hostOps0_1, hostOps0_2, hostOps0_3, hostOps0_4, List.flatten_cons, List.flatten_nil, List.append_nil, List.cons_append, List.nil_append]
    after_results_simp
  rw [e]
  pointwise []
theorem V15 (c : Dev nD) (k : Fin 1024) (j : Fin 1024) : V m c main_v15 (ix2 k j) = W m c (ix2 k ⟨3088 + j.val, by omega⟩) := by
  have e : V m c main_v15 = extractStridedSlice S1024x1024 ![0, 3088] (truncf .bf16 (W m c) bitsLt_bf16_f32) slices_S1024x5136_S1024x1024_0_3088 := by
    unfold V
    simp only [hostOps0, hostOps0_1, hostOps0_2, hostOps0_3, hostOps0_4, List.flatten_cons, List.flatten_nil, List.append_nil, List.cons_append, List.nil_append]
    after_results_simp
  rw [e]
  pointwise []
theorem V16 (c : Dev nD) (k : Fin 1024) (j : Fin 1024) : V m c main_v16 (ix2 k j) = W m c (ix2 k ⟨4112 + j.val, by omega⟩) := by
  have e : V m c main_v16 = extractStridedSlice S1024x1024 ![0, 4112] (truncf .bf16 (W m c) bitsLt_bf16_f32) slices_S1024x5136_S1024x1024_0_4112 := by
    unfold V
    simp only [hostOps0, hostOps0_1, hostOps0_2, hostOps0_3, hostOps0_4, List.flatten_cons, List.flatten_nil, List.append_nil, List.cons_append, List.nil_append]
    after_results_simp
  rw [e]
  pointwise []
theorem V11 (c : Dev nD) (j : Fin 512) (k : Fin 1024) : V m c main_v11 (ix2 j k) = W m c (ix2 k ⟨1552 + j.val, by omega⟩) := by
  have e : V m c main_v11 = transpose S512x1024 [1, 0] (extractStridedSlice S1024x512 ![0, 1552] (truncf .bf16 (W m c) bitsLt_bf16_f32)
      slices_S1024x5136_S1024x512_0_1552) transposes_S1024x512_S512x1024_1_0 := by
    unfold V
    simp only [hostOps0, hostOps0_1, hostOps0_2, hostOps0_3, hostOps0_4, List.flatten_cons, List.flatten_nil, List.append_nil, List.cons_append, List.nil_append]
    after_results_simp
  rw [e]
  pointwise []
theorem V14 (c : Dev nD) (j : Fin 512) (k : Fin 1024) : V m c main_v14 (ix2 j k) = W m c (ix2 k ⟨2576 + j.val, by omega⟩) := by
  have e : V m c main_v14 = transpose S512x1024 [1, 0] (extractStridedSlice S1024x512 ![0, 2576] (truncf .bf16 (W m c) bitsLt_bf16_f32)
      slices_S1024x5136_S1024x512_0_2576) transposes_S1024x512_S512x1024_1_0 := by
    unfold V
    simp only [hostOps0, hostOps0_1, hostOps0_2, hostOps0_3, hostOps0_4, List.flatten_cons, List.flatten_nil, List.append_nil, List.cons_append, List.nil_append]
    after_results_simp
  rw [e]
  pointwise []
theorem V3 (c : Dev nD) (k : Fin 1024) (l : Fin 128) :
    V m c main_v3 (ix2 k l) = if h : l.val < 16 then W m c (ix2 k ⟨1536 + l.val, by omega⟩) else 0 := by
  have e : V m c main_v3 = pad S1024x128 ![0, 0] ![0, 112] ![0, 0] (extractStridedSlice S1024x16 ![0, 1536] (truncf .bf16 (W m c) bitsLt_bf16_f32)
      slices_S1024x5136_S1024x16_0_1536) (sitofp .bf16 (constantI S_ 32 0#32)) pads_S1024x16_S1024x128_000_01120 h_S_ := by
    unfold V
    simp only [hostOps0, hostOps0_1, hostOps0_2, hostOps0_3, hostOps0_4, List.flatten_cons, List.flatten_nil, List.append_nil, List.cons_append, List.nil_append]
    after_results_simp
    rfl
  rw [e]
  pointwise [sitofp_zero]
theorem V5 (c : Dev nD) (l : Fin 128) (j : Fin 256) :
    V m c main_v5 (ix2 l j) = if h : l.val < 16 then U m c (ix2 ⟨l.val, h⟩ j) else 0 := by
  have e : V m c main_v5 = pad S128x256 ![0, 0] ![112, 0] ![0, 0] (truncf .bf16 (U m c) bitsLt_bf16_f32)
      (sitofp .bf16 (constantI S_ 32 0#32)) pads_S16x256_S128x256_01120_000 h_S_ := by
    unfold V
    simp only [hostOps0, hostOps0_1, hostOps0_2, hostOps0_3, hostOps0_4, List.flatten_cons, List.flatten_nil, List.append_nil, List.cons_append, List.nil_append]
    after_results_simp
    rfl
  rw [e]
  pointwise [sitofp_zero]

/-! ## The blocks -/

theorem index0 : ∀ t : Fin cfg0.N, win0_0.index t = ![t.val, 0] := (by decide +kernel : ∀ t : Fin grid0.N, win0_0.index t = ![t.val, 0])
theorem index1 : ∀ t : Fin cfg0.N, win0_1.index t = ![0, 0] := (by decide +kernel : ∀ t : Fin grid0.N, win0_1.index t = ![0, 0])
theorem index2 : ∀ t : Fin cfg0.N, win0_2.index t = ![0, 0] := (by decide +kernel : ∀ t : Fin grid0.N, win0_2.index t = ![0, 0])
theorem index3 : ∀ t : Fin cfg0.N, win0_3.index t = ![0, 0] := (by decide +kernel : ∀ t : Fin grid0.N, win0_3.index t = ![0, 0])
theorem index4 : ∀ t : Fin cfg0.N, win0_4.index t = ![0, 0] := (by decide +kernel : ∀ t : Fin grid0.N, win0_4.index t = ![0, 0])
theorem index5 : ∀ t : Fin cfg0.N, win0_5.index t = ![0, 0] := (by decide +kernel : ∀ t : Fin grid0.N, win0_5.index t = ![0, 0])
theorem index6 : ∀ t : Fin cfg0.N, win0_6.index t = ![0, 0] := (by decide +kernel : ∀ t : Fin grid0.N, win0_6.index t = ![0, 0])
theorem index7 : ∀ t : Fin cfg0.N, win0_7.index t = ![0, 0] := (by decide +kernel : ∀ t : Fin grid0.N, win0_7.index t = ![0, 0])
theorem index8 : ∀ t : Fin cfg0.N, win0_8.index t = ![0, 0] := (by decide +kernel : ∀ t : Fin grid0.N, win0_8.index t = ![0, 0])
theorem index9 : ∀ t : Fin cfg0.N, win0_9.index t = ![0, 0] := (by decide +kernel : ∀ t : Fin grid0.N, win0_9.index t = ![0, 0])
theorem index10 : ∀ t : Fin cfg0.N, win0_10.index t = ![0, 0] := (by decide +kernel : ∀ t : Fin grid0.N, win0_10.index t = ![0, 0])
theorem index11 : ∀ t : Fin cfg0.N, win0_11.index t = ![0, 0] := (by decide +kernel : ∀ t : Fin grid0.N, win0_11.index t = ![0, 0])
theorem index12 : ∀ t : Fin cfg0.N, win0_12.index t = ![0, 0] := (by decide +kernel : ∀ t : Fin grid0.N, win0_12.index t = ![0, 0])
theorem index13 : ∀ t : Fin cfg0.N, win0_13.index t = ![t.val, 0] := (by decide +kernel : ∀ t : Fin grid0.N, win0_13.index t = ![t.val, 0])
theorem index14 : ∀ t : Fin cfg0.N, win0_14.index t = ![t.val, 0] := (by decide +kernel : ∀ t : Fin grid0.N, win0_14.index t = ![t.val, 0])
theorem index15 : ∀ t : Fin cfg0.N, win0_15.index t = ![t.val, 0] := (by decide +kernel : ∀ t : Fin grid0.N, win0_15.index t = ![t.val, 0])
theorem index16 : ∀ t : Fin cfg0.N, win0_16.index t = ![t.val, 0] := (by decide +kernel : ∀ t : Fin grid0.N, win0_16.index t = ![t.val, 0])
theorem index17 : ∀ t : Fin cfg0.N, win0_17.index t = ![t.val, 0, 0] := (by decide +kernel : ∀ t : Fin grid0.N, win0_17.index t = ![t.val, 0, 0])
theorem index18 : ∀ t : Fin cfg0.N, win0_18.index t = ![t.val, 0] := (by decide +kernel : ∀ t : Fin grid0.N, win0_18.index t = ![t.val, 0])
theorem index19 : ∀ t : Fin cfg0.N, win0_19.index t = ![t.val, 0, 0] := (by decide +kernel : ∀ t : Fin grid0.N, win0_19.index t = ![t.val, 0, 0])
theorem index20 : ∀ t : Fin cfg0.N, win0_20.index t = ![t.val, 0] := (by decide +kernel : ∀ t : Fin grid0.N, win0_20.index t = ![t.val, 0])
theorem index21 : ∀ t : Fin cfg0.N, win0_21.index t = ![t.val, 0] := (by decide +kernel : ∀ t : Fin grid0.N, win0_21.index t = ![t.val, 0])

theorem point_lt (t : Fin cfg0.N) : t.val < 64 := t.isLt

theorem iblk0 (c : Dev nD) (t : Fin cfg0.N) (r : Fin 512) (k : Fin 1024) :
    iblk m c 0 t (ix2 r k) = token (X m c) ⟨t.val * 512 + r.val, by have := point_lt t; omega⟩ k := by
  rw [← V0]
  blk_simp [iblk]
  blk_ext [index0]
theorem iblk1 (c : Dev nD) (t : Fin cfg0.N) (k : Fin 1024) :
    iblk m c 1 t (ix2 0 k) = G m c (ix1 k) := by
  rw [← V17]
  blk_simp [iblk]
  blk_ext [index1]
theorem iblk2 (c : Dev nD) (t : Fin cfg0.N) (k : Fin 1024) (j : Fin 512) :
    iblk m c 2 t (ix2 k j) = W m c (ix2 k ⟨j.val, by omega⟩) := by
  rw [← V6]
  blk_simp [iblk]
  blk_ext [index2]
theorem iblk3 (c : Dev nD) (t : Fin cfg0.N) (k : Fin 1024) (j : Fin 512) :
    iblk m c 3 t (ix2 k j) = W m c (ix2 k ⟨512 + j.val, by omega⟩) := by
  rw [← V7]
  blk_simp [iblk]
  blk_ext [index3]
theorem iblk4 (c : Dev nD) (t : Fin cfg0.N) (k : Fin 1024) (j : Fin 512) :
    iblk m c 4 t (ix2 k j) = W m c (ix2 k ⟨1024 + j.val, by omega⟩) := by
  rw [← V8]
  blk_simp [iblk]
  blk_ext [index4]
theorem iblk5 (c : Dev nD) (t : Fin cfg0.N) (k : Fin 1024) (l : Fin 128) :
    iblk m c 5 t (ix2 k l) = if h : l.val < 16 then W m c (ix2 k ⟨1536 + l.val, by omega⟩) else 0 := by
  rw [← V3]
  blk_simp [iblk]
  blk_ext [index5]
theorem iblk6 (c : Dev nD) (t : Fin cfg0.N) (l : Fin 128) (j : Fin 256) :
    iblk m c 6 t (ix2 l j) = if h : l.val < 16 then U m c (ix2 ⟨l.val, h⟩ j) else 0 := by
  rw [← V5]
  blk_simp [iblk]
  blk_ext [index6]
theorem iblk7 (c : Dev nD) (t : Fin cfg0.N) (j : Fin 256) :
    iblk m c 7 t (ix2 0 j) = B m c (ix1 j) := by
  rw [← V9]
  blk_simp [iblk]
  blk_ext [index7]
theorem iblk8 (c : Dev nD) (t : Fin cfg0.N) (j : Fin 512) (k : Fin 1024) :
    iblk m c 8 t (ix2 j k) = W m c (ix2 k ⟨1552 + j.val, by omega⟩) := by
  rw [← V11]
  blk_simp [iblk]
  blk_ext [index8]
theorem iblk9 (c : Dev nD) (t : Fin cfg0.N) (k : Fin 1024) (j : Fin 512) :
    iblk m c 9 t (ix2 k j) = W m c (ix2 k ⟨2064 + j.val, by omega⟩) := by
  rw [← V12]
  blk_simp [iblk]
  blk_ext [index9]
theorem iblk10 (c : Dev nD) (t : Fin cfg0.N) (j : Fin 512) (k : Fin 1024) :
    iblk m c 10 t (ix2 j k) = W m c (ix2 k ⟨2576 + j.val, by omega⟩) := by
  rw [← V14]
  blk_simp [iblk]
  blk_ext [index10]
theorem iblk11 (c : Dev nD) (t : Fin cfg0.N) (k : Fin 1024) (j : Fin 1024) :
    iblk m c 11 t (ix2 k j) = W m c (ix2 k ⟨3088 + j.val, by omega⟩) := by
  rw [← V15]
  blk_simp [iblk]
  blk_ext [index11]
theorem iblk12 (c : Dev nD) (t : Fin cfg0.N) (k : Fin 1024) (j : Fin 1024) :
    iblk m c 12 t (ix2 k j) = W m c (ix2 k ⟨4112 + j.val, by omega⟩) := by
  rw [← V16]
  blk_simp [iblk]
  blk_ext [index12]

/-! ## The result arrays -/

theorem final13 (c : Dev nD) : (dats m 0 c).arrAt 13 cfg0.N = cols (X m c) (G m c) (W m c) 0 (by decide) := by
  refine (dats m 0 c).arrAt_eq_of_covers 13 _ (by decide +kernel) fun t hf y => ?_
  blk_simp
  rw [after0_13]; frame_out
  obtain ⟨r, j, rfl⟩ : ∃ (r : Fin 512) (j : Fin 512), y = ix2 r j := ⟨y 0, y 1, eq_ix2 y⟩
  have ht := point_lt t
  have e : ((View.whole main_v18_0).slice (win0_13.rect t)).emb (ix2 r j) = ix2 ⟨t.val * 512 + r.val, by omega⟩ j := by
    blk_ext [index13]
  rw [e]
  pointwise [k0_pay1, k0_pay2, k0_pay17, cols, proj, normed]
  simp only [iblk0, iblk1, iblk2]
theorem final14 (c : Dev nD) : (dats m 0 c).arrAt 14 cfg0.N = cols (X m c) (G m c) (W m c) 512 (by decide) := by
  refine (dats m 0 c).arrAt_eq_of_covers 14 _ (by decide +kernel) fun t hf y => ?_
  blk_simp
  rw [after0_14]; frame_out
  obtain ⟨r, j, rfl⟩ : ∃ (r : Fin 512) (j : Fin 512), y = ix2 r j := ⟨y 0, y 1, eq_ix2 y⟩
  have ht := point_lt t
  have e : ((View.whole main_v18_1).slice (win0_14.rect t)).emb (ix2 r j) = ix2 ⟨t.val * 512 + r.val, by omega⟩ j := by
    blk_ext [index14]
  rw [e]
  pointwise [k0_pay1, k0_pay3, k0_pay17, cols, proj, normed]
  simp only [iblk0, iblk1, iblk3]
theorem final15 (c : Dev nD) : (dats m 0 c).arrAt 15 cfg0.N = cols (X m c) (G m c) (W m c) 1024 (by decide) := by
  refine (dats m 0 c).arrAt_eq_of_covers 15 _ (by decide +kernel) fun t hf y => ?_
  blk_simp
  rw [after0_15]; frame_out
  obtain ⟨r, j, rfl⟩ : ∃ (r : Fin 512) (j : Fin 512), y = ix2 r j := ⟨y 0, y 1, eq_ix2 y⟩
  have ht := point_lt t
  have e : ((View.whole main_v18_2).slice (win0_15.rect t)).emb (ix2 r j) = ix2 ⟨t.val * 512 + r.val, by omega⟩ j := by
    blk_ext [index15]
  rw [e]
  pointwise [k0_pay1, k0_pay4, k0_pay17, cols, proj, normed]
  simp only [iblk0, iblk1, iblk4]
theorem final18 (c : Dev nD) : (dats m 0 c).arrAt 18 cfg0.N = cols (X m c) (G m c) (W m c) 2064 (by decide) := by
  refine (dats m 0 c).arrAt_eq_of_covers 18 _ (by decide +kernel) fun t hf y => ?_
  blk_simp
  rw [after0_18]; frame_out
  obtain ⟨r, j, rfl⟩ : ∃ (r : Fin 512) (j : Fin 512), y = ix2 r j := ⟨y 0, y 1, eq_ix2 y⟩
  have ht := point_lt t
  have e : ((View.whole main_v18_5).slice (win0_18.rect t)).emb (ix2 r j) = ix2 ⟨t.val * 512 + r.val, by omega⟩ j := by
    blk_ext [index18]
  rw [e]
  pointwise [k0_pay1, k0_pay11, k0_pay17, cols, proj, normed]
  simp only [iblk0, iblk1, iblk9]
theorem final20 (c : Dev nD) : (dats m 0 c).arrAt 20 cfg0.N = cols (X m c) (G m c) (W m c) 3088 (by decide) := by
  refine (dats m 0 c).arrAt_eq_of_covers 20 _ (by decide +kernel) fun t hf y => ?_
  blk_simp
  rw [after0_20]; frame_out
  obtain ⟨r, j, rfl⟩ : ∃ (r : Fin 512) (j : Fin 1024), y = ix2 r j := ⟨y 0, y 1, eq_ix2 y⟩
  have ht := point_lt t
  have e : ((View.whole main_v18_7).slice (win0_20.rect t)).emb (ix2 r j) = ix2 ⟨t.val * 512 + r.val, by omega⟩ j := by
    blk_ext [index20]
  rw [e]
  pointwise [k0_pay1, k0_pay15, k0_pay17, cols, proj, normed]
  simp only [iblk0, iblk1, iblk11]
theorem final21 (c : Dev nD) : (dats m 0 c).arrAt 21 cfg0.N = cols (X m c) (G m c) (W m c) 4112 (by decide) := by
  refine (dats m 0 c).arrAt_eq_of_covers 21 _ (by decide +kernel) fun t hf y => ?_
  blk_simp
  rw [after0_21]; frame_out
  obtain ⟨r, j, rfl⟩ : ∃ (r : Fin 512) (j : Fin 1024), y = ix2 r j := ⟨y 0, y 1, eq_ix2 y⟩
  have ht := point_lt t
  have e : ((View.whole main_v18_8).slice (win0_21.rect t)).emb (ix2 r j) = ix2 ⟨t.val * 512 + r.val, by omega⟩ j := by
    blk_ext [index21]
  rw [e]
  pointwise [k0_pay1, k0_pay16, k0_pay17, cols, proj, normed]
  simp only [iblk0, iblk1, iblk12]
theorem final16 (c : Dev nD) : (dats m 0 c).arrAt 16 cfg0.N = decays (X m c) (G m c) (W m c) (U m c) (B m c) := by
  refine (dats m 0 c).arrAt_eq_of_covers 16 _ (by decide +kernel) fun t hf y => ?_
  blk_simp
  rw [after0_16]; frame_out
  obtain ⟨r, j, rfl⟩ : ∃ (r : Fin 512) (j : Fin 256), y = ix2 r j := ⟨y 0, y 1, eq_ix2 y⟩
  have ht := point_lt t
  have e : ((View.whole main_v18_3).slice (win0_16.rect t)).emb (ix2 r j) = ix2 ⟨t.val * 512 + r.val, by omega⟩ j := by
    blk_ext [index16]
  have low := sum_low
    (fun l => proj (X m c) (G m c) (W m c) ⟨t.val * 512 + r.val, by omega⟩ ⟨1536 + l.val, by omega⟩ * U m c (ix2 l j))
    (fun l => (∑ k, normed (token (X m c) ⟨t.val * 512 + r.val, by omega⟩) (fun k => G m c (ix1 k)) k
        * if h : l.val < 16 then W m c (ix2 k ⟨1536 + l.val, by omega⟩) else 0)
      * if h : l.val < 16 then U m c (ix2 ⟨l.val, h⟩ j) else 0)
    (fun l h => by simp only [dif_pos h, proj]) (fun l h => by simp only [dif_neg h, mul_zero])
  simp only [proj, normed] at low
  rw [e]
  pointwise [k0_pay1, k0_pay5, k0_pay6, k0_pay17, decays, decay, proj, normed, softplus]
  simp only [iblk0, iblk1, iblk5, iblk6, iblk7, low, ne_eq, not_true_eq_false, if_false, zero_sub]
  exact mul_sixteenth _

end Cert.Kernel2Ideal.Proj

end
-- ==== Proof.ProjBlock.lean ====
/-
  The two results of the projection laid out by blocks of 256 tokens with the tokens along the last axis: each point
  stores two such blocks.
-/
module

public import proofs.«01_k».proof.Proof.ProjArray

@[expose] public section

noncomputable section

namespace Cert.Kernel2Ideal.Proj

open Cert.Kernel2Ideal Cert.Kernel2Ideal.Gen Idealize.ShloMosaic Idealize.ShloMosaic.TcCoe Idealize.SL.Sem
open Idealize.ShloMosaic.Pipeline (Dat Cfg Window)
open Cert.Proj

variable (m : (ℓ : Loc nD τ sig) → Buf (Elt Ideal) ℓ) (ρ : Dev nD → PrngReg)

/-- The kernel's scale of the queries. -/
theorem named_scale : Named.named (F := Ideal) Cert.Kernel2Ideal.κ "scale" (φ := .f32) 0x3E38AA3B#32 = scale :=
  IdealRules.named_const.ideal_named_scalar _ _ _ _ rfl

/-- The product the two stores of window 17's block lay out, read where the block's element comes from. -/
theorem block17_at (P0 : FVec Ideal S512x1024 .f32) (P1 : FVec Ideal S1x1024 .f32) (P2 : FVec Ideal S512x1024 .bf16) (b : Fin 2) (j : Fin 512) (p : Fin 256) :
    Value.E17 (F := Ideal) P0 P1 P2 (ix3 b j p)
      = (∑ k, normed (fun k => P0 (ix2 ⟨b.val * 256 + p.val, by omega⟩ k)) (fun k => P1 (ix2 0 k)) k * P2 (ix2 j k)) * scale := by
  have eix : Value.ix17_0 (ix3 b j p) = ix2 j ⟨b.val * 256 + p.val, by omega⟩ := by funext a; fin_cases a <;> rfl
  show k0_pay7 (F := Ideal) (k0_pay1 P0 P1) P2 (Value.ix17_0 (ix3 b j p)) = _
  rw [eix]
  pointwise [k0_pay1, k0_pay7, normed, named_scale]
  exact congrArg (· * _) (sum_mul_comm _ _)
theorem final17 (c : Dev nD) : (dats m 0 c).arrAt 17 cfg0.N = (fun i => colsT (X m c) (G m c) (W m c) 1552 (by decide) i * scale) := by
  refine (dats m 0 c).arrAt_eq_of_covers 17 _ (by decide +kernel) fun t hf y => ?_
  blk_simp
  rw [after0_17]; frame_out
  obtain ⟨b, j, p, rfl⟩ : ∃ (b : Fin 2) (j : Fin 512) (p : Fin 256), y = ix3 b j p := ⟨y 0, y 1, y 2, eq_ix3 y⟩
  have ht := point_lt t
  have hz : (![0, 0] : Fin 2 → Nat) = fun _ => 0 := by funext a; fin_cases a <;> rfl
  have e : ((View.whole main_v18_4).slice (win0_17.rect t)).emb (ix3 b j p) = ix3 ⟨t.val * 2 + b.val, by omega⟩ j p := by
    blk_ext [index17]
  have e' : 256 * (t.val * 2 + b.val) + p.val = (⟨t.val * 512 + (b.val * 256 + p.val), by omega⟩ : Fin 32768).val := by dsimp only; omega
  rw [e]
  unfold k0_pay17
  rw [Value.canon17_eq, View.ld_unit_zero hz, View.ld_unit_zero hz]
  refine (block17_at (iblk m c 0 t) (iblk m c 1 t) (iblk m c 8 t) b j p).trans ?_
  rw [colsT_at _ _ _ _ _ _ _ _ _ e']
  simp only [iblk0, iblk1, iblk8]
/-- The product the two stores of window 19's block lay out, read where the block's element comes from. -/
theorem block19_at (P0 : FVec Ideal S512x1024 .f32) (P1 : FVec Ideal S1x1024 .f32) (P2 : FVec Ideal S512x1024 .bf16) (b : Fin 2) (j : Fin 512) (p : Fin 256) :
    Value.E19 (F := Ideal) P0 P1 P2 (ix3 b j p)
      = (∑ k, normed (fun k => P0 (ix2 ⟨b.val * 256 + p.val, by omega⟩ k)) (fun k => P1 (ix2 0 k)) k * P2 (ix2 j k)) := by
  have eix : Value.ix19_0 (ix3 b j p) = ix2 j ⟨b.val * 256 + p.val, by omega⟩ := by funext a; fin_cases a <;> rfl
  show k0_pay12 (F := Ideal) (k0_pay1 P0 P1) P2 (Value.ix19_0 (ix3 b j p)) = _
  rw [eix]
  pointwise [k0_pay1, k0_pay12, normed]
  exact sum_mul_comm _ _
theorem final19 (c : Dev nD) : (dats m 0 c).arrAt 19 cfg0.N = colsT (X m c) (G m c) (W m c) 2576 (by decide) := by
  refine (dats m 0 c).arrAt_eq_of_covers 19 _ (by decide +kernel) fun t hf y => ?_
  blk_simp
  rw [after0_19]; frame_out
  obtain ⟨b, j, p, rfl⟩ : ∃ (b : Fin 2) (j : Fin 512) (p : Fin 256), y = ix3 b j p := ⟨y 0, y 1, y 2, eq_ix3 y⟩
  have ht := point_lt t
  have hz : (![0, 0] : Fin 2 → Nat) = fun _ => 0 := by funext a; fin_cases a <;> rfl
  have e : ((View.whole main_v18_6).slice (win0_19.rect t)).emb (ix3 b j p) = ix3 ⟨t.val * 2 + b.val, by omega⟩ j p := by
    blk_ext [index19]
  have e' : 256 * (t.val * 2 + b.val) + p.val = (⟨t.val * 512 + (b.val * 256 + p.val), by omega⟩ : Fin 32768).val := by dsimp only; omega
  rw [e]
  unfold k0_pay17
  rw [Value.canon19_eq, View.ld_unit_zero hz, View.ld_unit_zero hz]
  refine (block19_at (iblk m c 0 t) (iblk m c 1 t) (iblk m c 10 t) b j p).trans ?_
  rw [colsT_at _ _ _ _ _ _ _ _ _ e']
  simp only [iblk0, iblk1, iblk10]

/-- The projection's run: its nine results, and its arguments unchanged. -/
theorem run_main : θ_run (defs (F := Ideal)) (onTc (τ := τ) (main (F := Ideal))) ⟨m, fun _ => 0, ρ⟩ fun r => ∀ c : Dev nD,
    r.2.mem ((c.tc : Thread nD τ).loc main_v18_0) = cols (X m c) (G m c) (W m c) 0 (by decide) ∧
    r.2.mem ((c.tc : Thread nD τ).loc main_v18_1) = cols (X m c) (G m c) (W m c) 512 (by decide) ∧
    r.2.mem ((c.tc : Thread nD τ).loc main_v18_2) = cols (X m c) (G m c) (W m c) 1024 (by decide) ∧
    r.2.mem ((c.tc : Thread nD τ).loc main_v18_3) = decays (X m c) (G m c) (W m c) (U m c) (B m c) ∧
    r.2.mem ((c.tc : Thread nD τ).loc main_v18_4) = (fun i => colsT (X m c) (G m c) (W m c) 1552 (by decide) i * scale) ∧
    r.2.mem ((c.tc : Thread nD τ).loc main_v18_5) = cols (X m c) (G m c) (W m c) 2064 (by decide) ∧
    r.2.mem ((c.tc : Thread nD τ).loc main_v18_6) = colsT (X m c) (G m c) (W m c) 2576 (by decide) ∧
    r.2.mem ((c.tc : Thread nD τ).loc main_v18_7) = cols (X m c) (G m c) (W m c) 3088 (by decide) ∧
    r.2.mem ((c.tc : Thread nD τ).loc main_v18_8) = cols (X m c) (G m c) (W m c) 4112 (by decide) ∧
    r.2.mem ((c.tc : Thread nD τ).loc main_arg0) = m ((c.tc : Thread nD τ).loc main_arg0) ∧
    r.2.mem ((c.tc : Thread nD τ).loc main_arg1) = m ((c.tc : Thread nD τ).loc main_arg1) ∧
    r.2.mem ((c.tc : Thread nD τ).loc main_arg2) = m ((c.tc : Thread nD τ).loc main_arg2) ∧
    r.2.mem ((c.tc : Thread nD τ).loc main_arg3) = m ((c.tc : Thread nD τ).loc main_arg3) ∧
    r.2.mem ((c.tc : Thread nD τ).loc main_arg4) = m ((c.tc : Thread nD τ).loc main_arg4) := by
  refine (θ_run defs _ _).mono (fun r h c => ?_) (Value.run_blocks (F := Ideal) m ρ)
  obtain ⟨h0, h1, h2, h3, h4, h5, h6, h7, h8, ha⟩ := h c
  exact ⟨h0.trans (final13 m c), h1.trans (final14 m c), h2.trans (final15 m c), h3.trans (final16 m c), h4.trans (final17 m c),
    h5.trans (final18 m c), h6.trans (final19 m c), h7.trans (final20 m c), h8.trans (final21 m c), ha⟩

end Cert.Kernel2Ideal.Proj

end
-- ==== Proof.ProjRef.lean ====
/-
  The reference of the projection: its run, each result read at an index.
-/
module

public import proofs.«01_k».proof.Proof.Gen.Reference2Ideal.Run
public import proofs.«01_k».proof.Proof.ProjSpec

@[expose] public section

noncomputable section

namespace Cert.Reference2Ideal.Proj

open Cert.Reference2Ideal Cert.Reference2Ideal.Gen Idealize.ShloMosaic Idealize.ShloMosaic.TcCoe Idealize.SL.Sem
open Cert.Proj

variable (m : (ℓ : Loc nD τ sig) → Buf (Elt Ideal) ℓ) (ρ : Dev nD → PrngReg)

/-- The arguments, as launched. -/
abbrev X (c : Dev nD) : FVec Ideal S4x8192x1024 .f32 := m ((c.tc : Thread nD τ).loc main_arg0)
abbrev G (c : Dev nD) : FVec Ideal S1024 .f32 := m ((c.tc : Thread nD τ).loc main_arg1)
abbrev W (c : Dev nD) : FVec Ideal S1024x5136 .f32 := m ((c.tc : Thread nD τ).loc main_arg2)
abbrev U (c : Dev nD) : FVec Ideal S16x256 .f32 := m ((c.tc : Thread nD τ).loc main_arg3)
abbrev B (c : Dev nD) : FVec Ideal S256 .f32 := m ((c.tc : Thread nD τ).loc main_arg4)

theorem div_log (z : EReal) : Ideal.div (z * Ideal.ofBits .f32 1040187392#32) (Ideal.log (Ideal.ofBits .f32 1073741824#32)) = z * scale := by
  have e₁ : Ideal.ofBits .f32 1040187392#32 = ((8⁻¹ : ℝ) : EReal) := by
    simp [Ideal.ofBits, Ideal.ieee, -EReal.coe_mul]; norm_num
  have e₂ : Ideal.ofBits .f32 1073741824#32 = ((2 : ℝ) : EReal) := by
    simp [Ideal.ofBits, Ideal.ieee, -EReal.coe_mul]; norm_num
  rw [e₁, e₂, Ideal.log_coe, if_neg (by norm_num), Ideal.div_coe (Real.log_pos (by norm_num)).ne', one_div, mul_assoc, ← EReal.coe_mul]; rfl

theorem decay_eq (c : Dev nD) : Value.res_out3 m c = decays (X m c) (G m c) (W m c) (U m c) (B m c) := by
  funext i
  rw [eq_ix2 i]
  unfold Value.res_out3 Value.res_main_v44
  pointwise [decays, decay, proj, normed, token, softplus]
  simp only [ne_eq, not_true_eq_false, if_false]

theorem run_main : θ_run (defs (F := Ideal)) (onTc (τ := τ) (main (F := Ideal))) ⟨m, fun _ => 0, ρ⟩ fun r => ∀ c : Dev nD,
    r.2.mem ((c.tc : Thread nD τ).loc main_v41) = cols (X m c) (G m c) (W m c) 0 (by decide) ∧
    r.2.mem ((c.tc : Thread nD τ).loc main_v42) = cols (X m c) (G m c) (W m c) 512 (by decide) ∧
    r.2.mem ((c.tc : Thread nD τ).loc main_v43) = cols (X m c) (G m c) (W m c) 1024 (by decide) ∧
    r.2.mem ((c.tc : Thread nD τ).loc main_v44) = decays (X m c) (G m c) (W m c) (U m c) (B m c) ∧
    r.2.mem ((c.tc : Thread nD τ).loc main_v46) = (fun i => colsT (X m c) (G m c) (W m c) 1552 (by decide) i * scale) ∧
    r.2.mem ((c.tc : Thread nD τ).loc main_v47) = cols (X m c) (G m c) (W m c) 2064 (by decide) ∧
    r.2.mem ((c.tc : Thread nD τ).loc main_v49) = colsT (X m c) (G m c) (W m c) 2576 (by decide) ∧
    r.2.mem ((c.tc : Thread nD τ).loc main_v50) = cols (X m c) (G m c) (W m c) 3088 (by decide) ∧
    r.2.mem ((c.tc : Thread nD τ).loc main_v51) = cols (X m c) (G m c) (W m c) 4112 (by decide) ∧
    r.2.mem ((c.tc : Thread nD τ).loc main_arg0) = m ((c.tc : Thread nD τ).loc main_arg0) ∧
    r.2.mem ((c.tc : Thread nD τ).loc main_arg1) = m ((c.tc : Thread nD τ).loc main_arg1) ∧
    r.2.mem ((c.tc : Thread nD τ).loc main_arg2) = m ((c.tc : Thread nD τ).loc main_arg2) ∧
    r.2.mem ((c.tc : Thread nD τ).loc main_arg3) = m ((c.tc : Thread nD τ).loc main_arg3) ∧
    r.2.mem ((c.tc : Thread nD τ).loc main_arg4) = m ((c.tc : Thread nD τ).loc main_arg4) := by
  refine (θ_run defs _ _).mono (fun r h c => ?_) (Value.run (F := Ideal) m ρ)
  obtain ⟨h0, h1, h2, h3, h4, h5, h6, h7, h8, ha⟩ := h c
  refine ⟨h0.trans ?_, h1.trans ?_, h2.trans ?_, h3.trans (decay_eq m c), h4.trans ?_, h5.trans ?_, h6.trans ?_, h7.trans ?_, h8.trans ?_, ha⟩
  · funext i
    rw [eq_ix2 i]
    pointwise [cols, proj, normed, token]
    split
    · rfl
    · rename_i hc
      have e : 256 + ((i 1).val - 256) = (i 1).val := by omega
      simp only [e]
  · funext i
    rw [eq_ix2 i]
    pointwise [cols, proj, normed, token]
  · funext i
    rw [eq_ix2 i]
    pointwise [cols, proj, normed, token]
  · funext i
    have hn : (i 0).val < 128 := (i 0).isLt
    have hp : (i 2).val < 256 := (i 2).isLt
    rw [eq_ix3 i]
    pointwise [colsT, proj, normed, div_log]
    simp only [token_block _ _ _ hn hp]
  · funext i
    rw [eq_ix2 i]
    pointwise [cols, proj, normed, token]
  · funext i
    have hn : (i 0).val < 128 := (i 0).isLt
    have hp : (i 2).val < 256 := (i 2).isLt
    rw [eq_ix3 i]
    pointwise [colsT, proj, normed]
    simp only [token_block _ _ _ hn hp]
  · funext i
    rw [eq_ix2 i]
    pointwise [cols, proj, normed, token]
  · funext i
    rw [eq_ix2 i]
    pointwise [cols, proj, normed, token]

end Cert.Reference2Ideal.Proj

end
-- ==== Proof.MergeSpec.lean ====
/-
  What the merge of the branches and the memory attention computes for one token, over the extended reals: the branches gated
  and merged (`merged`), the residual stream after them (`resid`), the queries (`query`), the scores against the memory
  (`score`), the attention of one head (`attend`) and the token's result (`mixed`). The kernel divides a head's weighted sum by
  the sum of the weights, the reference each weight: `attend_eq` says that these agree where the scores are real numbers, and the
  lemmas before it that the scores are, where the arguments are.
-/
module

public import Idealize.ShloMosaic.Lib.Pointwise
public import proofs.«01_k».proof.Proof.ProjSpec

@[expose] public section

noncomputable section

namespace Cert.Merge

open Idealize.ShloMosaic
open Cert.Proj (normed)

/-- The two branches' rows projected, gated and added, at feature `j`. -/
def merged (zg zm : Fin 1024 → EReal) (og om : Fin 512 → EReal) (pg pm : Fin 512 → Fin 1024 → EReal) (j : Fin 1024) : EReal :=
  Ideal.logistic (zg j) * ∑ k, og k * pg k j + Ideal.logistic (zm j) * ∑ k, om k * pm k j

/-- The residual stream after the merge of the branches. -/
def resid (x : Fin 1024 → EReal) (y : Fin 1024 → EReal) (wo : Fin 1024 → Fin 1024 → EReal) (j : Fin 1024) : EReal :=
  x j + ∑ k, y k * wo k j

/-- The queries of a token whose residual row is `x`. -/
def query (x g : Fin 1024 → EReal) (wq : Fin 1024 → Fin 512 → EReal) (j : Fin 512) : EReal := ∑ k, normed x g k * wq k j

/-- The scores' factor, one over the root of a head's width. -/
def scale : EReal := ((Real.sqrt 128)⁻¹ : ℝ)

/-- The score of one head's queries `q` against slot `n` of its keys `K`. -/
def score (q : Fin 128 → EReal) (K : Fin 256 → Fin 128 → EReal) (n : Fin 256) : EReal :=
  (∑ d : Fin 128, q d * K n d) * scale

/-- Feature `d` of head `h` among a row's 512. -/
def feat (h : Fin 4) (d : Fin 128) : Fin 512 := ⟨h.val * 128 + d.val, by omega⟩

/-- The head that feature `k` belongs to. -/
def headOf (k : Fin 512) : Fin 4 := ⟨k.val / 128, by omega⟩

theorem headOf_feat (h : Fin 4) (d : Fin 128) : headOf (feat h d) = h := Fin.ext (by simp only [headOf, feat]; omega)

theorem exists_feat (k : Fin 512) : ∃ h d, k = feat h d :=
  ⟨headOf k, ⟨k.val % 128, by omega⟩, Fin.ext (by simp only [headOf, feat]; omega)⟩

/-- The largest score. -/
def top (s : Fin 256 → EReal) : EReal := Finset.fold max (Ideal.ofBits .f32 4286578688#32) s Finset.univ

/-- The weight of a slot, not yet divided by the sum of the weights. -/
def weight (s : Fin 256 → EReal) (n : Fin 256) : EReal := Ideal.exp (s n - top s)

/-- A head's attention: the weighted sum divided by the sum of the weights. -/
def attend (s v : Fin 256 → EReal) : EReal := Ideal.div (∑ n, weight s n * v n) (∑ n, weight s n)

/-- The attention's output at feature `k`, from the token's queries and the memory's keys and values. -/
def heads (q : Fin 512 → EReal) (K V : Fin 256 → Fin 512 → EReal) (k : Fin 512) : EReal :=
  attend (score (fun d => q (feat (headOf k) d)) (fun n d => K n (feat (headOf k) d))) (fun n => V n k)

theorem heads_feat (q : Fin 512 → EReal) (K V : Fin 256 → Fin 512 → EReal) (h : Fin 4) (d : Fin 128) :
    heads q K V (feat h d) = attend (score (fun d => q (feat h d)) (fun n d => K n (feat h d))) (fun n => V n (feat h d)) := by
  simp only [heads, headOf_feat]

/-- The token's result, from its residual row and the attention's output. -/
def mixed (x : Fin 1024 → EReal) (o : Fin 512 → EReal) (wc : Fin 512 → Fin 1024 → EReal) (j : Fin 1024) : EReal :=
  x j + ∑ k : Fin 512, o k * wc k j

/-- The whole of it: the token's result from its rows, the memory and the weights. -/
def result (x zg zm : Fin 1024 → EReal) (og om : Fin 512 → EReal) (K V : Fin 256 → Fin 512 → EReal) (g : Fin 1024 → EReal)
    (pg pm : Fin 512 → Fin 1024 → EReal) (wo : Fin 1024 → Fin 1024 → EReal) (wq : Fin 1024 → Fin 512 → EReal)
    (wc : Fin 512 → Fin 1024 → EReal) (j : Fin 1024) : EReal :=
  mixed (resid x (merged zg zm og om pg pm) wo) (heads (query (resid x (merged zg zm og om pg pm) wo) g wq) K V) wc j

/-- The result as an array: a token's rows and its batch's memory. -/
def mix (x zg zm : FVec Ideal ⟨3, ![4, 8192, 1024]⟩ .f32) (og om : FVec Ideal ⟨3, ![4, 8192, 512]⟩ .bf16)
    (mk mv : FVec Ideal ⟨3, ![4, 256, 512]⟩ .bf16) (g : FVec Ideal ⟨1, ![1024]⟩ .f32) (pg pm : FVec Ideal ⟨2, ![512, 1024]⟩ .f32)
    (wo : FVec Ideal ⟨2, ![1024, 1024]⟩ .f32) (wq : FVec Ideal ⟨2, ![1024, 512]⟩ .f32) (wc : FVec Ideal ⟨2, ![512, 1024]⟩ .f32)
    (i : Shape.Idx ⟨3, ![4, 8192, 1024]⟩) : EReal :=
  result (fun k => x (ix3 (i 0) (i 1) k)) (fun k => zg (ix3 (i 0) (i 1) k)) (fun k => zm (ix3 (i 0) (i 1) k))
    (fun k => og (ix3 (i 0) (i 1) k)) (fun k => om (ix3 (i 0) (i 1) k)) (fun n k => mk (ix3 (i 0) n k)) (fun n k => mv (ix3 (i 0) n k))
    (fun k => g (ix1 k)) (fun k j => pg (ix2 k j)) (fun k j => pm (ix2 k j)) (fun k j => wo (ix2 k j)) (fun k j => wq (ix2 k j))
    (fun k j => wc (ix2 k j)) (i 2)

/-! ## Real numbers among the extended reals -/

/-- `x` is a real number. -/
def IsReal (x : EReal) : Prop := ∃ r : ℝ, x = r

theorem IsReal.coe (r : ℝ) : IsReal (r : EReal) := ⟨r, rfl⟩

theorem IsReal.add {x y : EReal} : IsReal x → IsReal y → IsReal (x + y) := by
  rintro ⟨r, rfl⟩ ⟨s, rfl⟩; exact ⟨r + s, by push_cast; rfl⟩

theorem IsReal.sub {x y : EReal} : IsReal x → IsReal y → IsReal (x - y) := by
  rintro ⟨r, rfl⟩ ⟨s, rfl⟩; exact ⟨r - s, by push_cast; rfl⟩

theorem IsReal.mul {x y : EReal} : IsReal x → IsReal y → IsReal (x * y) := by
  rintro ⟨r, rfl⟩ ⟨s, rfl⟩; exact ⟨r * s, by push_cast; rfl⟩

theorem IsReal.max {x y : EReal} : IsReal x → IsReal y → IsReal (max x y) := by
  intro hx hy
  rcases max_choice x y with h | h <;> rw [h] <;> assumption

theorem sum_coe {n : Nat} (r : Fin n → ℝ) : ∑ k, (r k : EReal) = ((∑ k, r k : ℝ) : EReal) := by
  induction n with
  | zero => simp
  | succ n ih => rw [Fin.sum_univ_succ, Fin.sum_univ_succ, ih]; push_cast; rfl

theorem IsReal.sum {n : Nat} {f : Fin n → EReal} (h : ∀ k, IsReal (f k)) : IsReal (∑ k, f k) := by
  choose r hr using h
  exact ⟨∑ k, r k, by simp only [hr, sum_coe]⟩

theorem isReal_logistic (x : EReal) : IsReal (Ideal.logistic x) := by
  induction x with
  | bot => exact ⟨0, by simp⟩
  | top => exact ⟨1, by simp⟩
  | coe r => exact ⟨_, Ideal.logistic_coe (r := r)⟩

/-- The reciprocal of the root of the mean square is real, for the constant added below the root is positive. -/
theorem isReal_rsqrt {f : Fin 1024 → EReal} (h : ∀ k, IsReal (f k)) :
    IsReal (Ideal.rsqrt (Ideal.div (∑ j, f j * f j) (Ideal.ofBits .f32 0x44800000#32) + Ideal.ofBits .f32 0x358637BD#32)) := by
  choose r hr using h
  have e₁ : Ideal.ofBits .f32 0x44800000#32 = ((1024 : ℝ) : EReal) := by
    simp [Ideal.ofBits, Ideal.ieee, -EReal.coe_mul]; norm_num
  obtain ⟨ε, hε, e₂⟩ : ∃ ε : ℝ, 0 < ε ∧ Ideal.ofBits .f32 0x358637BD#32 = (ε : EReal) := by
    refine ⟨_, ?_, by simp [Ideal.ofBits, Ideal.ieee, -EReal.coe_mul]; rfl⟩
    positivity
  have hn : (1024 : ℝ) ≠ 0 := by norm_num
  have hs : (0 : ℝ) ≤ ∑ k, r k * r k := Finset.sum_nonneg fun k _ => mul_self_nonneg _
  have e₃ : ∑ j, f j * f j = ((∑ k, r k * r k : ℝ) : EReal) := by
    rw [← sum_coe]; exact Finset.sum_congr rfl fun k _ => by rw [hr]; push_cast; rfl
  rw [e₁, e₂, e₃, Ideal.div_coe hn, ← EReal.coe_mul, ← EReal.coe_add]
  have hp : 0 < (∑ k, r k * r k) * (1 / 1024) + ε := by positivity
  refine ⟨(Real.sqrt ((∑ k, r k * r k) * (1 / 1024) + ε))⁻¹, ?_⟩
  rw [Ideal.rsqrt_coe, if_neg (by linarith), if_neg (by linarith)]

theorem isReal_scale : IsReal scale := IsReal.coe _

variable {x g zg zm : Fin 1024 → EReal} {og om : Fin 512 → EReal} {pg pm : Fin 512 → Fin 1024 → EReal}
  {wo : Fin 1024 → Fin 1024 → EReal} {wq : Fin 1024 → Fin 512 → EReal}

theorem isReal_merged (hg : ∀ k, IsReal (og k)) (hm : ∀ k, IsReal (om k)) (hpg : ∀ k j, IsReal (pg k j)) (hpm : ∀ k j, IsReal (pm k j))
    (j : Fin 1024) : IsReal (merged zg zm og om pg pm j) :=
  ((isReal_logistic _).mul (IsReal.sum fun k => (hg k).mul (hpg k j))).add ((isReal_logistic _).mul (IsReal.sum fun k => (hm k).mul (hpm k j)))

theorem isReal_resid {y : Fin 1024 → EReal} (hx : ∀ k, IsReal (x k)) (hy : ∀ k, IsReal (y k)) (hw : ∀ k j, IsReal (wo k j)) (j : Fin 1024) :
    IsReal (resid x y wo j) := (hx j).add (IsReal.sum fun k => (hy k).mul (hw k j))

theorem isReal_query (hx : ∀ k, IsReal (x k)) (hg : ∀ k, IsReal (g k)) (hw : ∀ k j, IsReal (wq k j)) (j : Fin 512) : IsReal (query x g wq j) :=
  IsReal.sum fun k => (((hx k).mul (isReal_rsqrt hx)).mul (hg k)).mul (hw k j)

theorem isReal_score {q : Fin 128 → EReal} {K : Fin 256 → Fin 128 → EReal} (hq : ∀ k, IsReal (q k)) (hK : ∀ n k, IsReal (K n k)) (n : Fin 256) :
    IsReal (score q K n) :=
  (IsReal.sum fun _ => (hq _).mul (hK n _)).mul isReal_scale

/-! ## The two quotients -/

theorem isReal_top {s : Fin 256 → EReal} (h : ∀ n, IsReal (s n)) : IsReal (top s) := by
  have e : Ideal.ofBits .f32 4286578688#32 = ⊥ := by simp [Ideal.ofBits, Ideal.ieee]
  have key : ∀ S : Finset (Fin 256), S.Nonempty → IsReal (Finset.fold max ⊥ s S) := by
    intro S hS
    induction hS using Finset.Nonempty.cons_induction with
    | singleton a => simpa using h a
    | cons a t ha ht ih => rw [Finset.fold_cons]; exact (h a).max ih
  unfold top
  rw [e]
  exact key _ ⟨0, Finset.mem_univ _⟩

/-- A nonnegative real factor moves through a sum. -/
theorem sum_mul_real {n : Nat} (f : Fin n → EReal) {c : ℝ} (hc : 0 ≤ c) : (∑ k, f k) * (c : EReal) = ∑ k, f k * (c : EReal) := by
  induction n with
  | zero => simp
  | succ n ih =>
    rw [Fin.sum_univ_succ, Fin.sum_univ_succ, ← ih,
      EReal.right_distrib_of_nonneg_of_ne_top (by exact_mod_cast hc) (EReal.coe_ne_top _)]

/-- Where the scores are real numbers, the weights divided one by one give the attention. -/
theorem attend_eq {s : Fin 256 → EReal} (h : ∀ n, IsReal (s n)) (v : Fin 256 → EReal) :
    ∑ n, Ideal.div (weight s n) (∑ k, weight s k) * v n = attend s v := by
  have hw : ∀ n, ∃ r : ℝ, 0 < r ∧ weight s n = r := by
    intro n
    obtain ⟨r, hr⟩ := (h n).sub (isReal_top h)
    exact ⟨Real.exp r, Real.exp_pos r, by rw [weight, hr, Ideal.exp_coe]⟩
  choose r hp hr using hw
  have el : ∑ k, weight s k = ((∑ k, r k : ℝ) : EReal) := by simp only [hr, sum_coe]
  have hl : 0 < ∑ k, r k := Finset.sum_pos (fun k _ => hp k) ⟨0, Finset.mem_univ _⟩
  have hc : (0 : ℝ) ≤ 1 / ∑ k, r k := by positivity
  unfold attend
  rw [el, Ideal.div_coe hl.ne', sum_mul_real _ hc]
  refine Finset.sum_congr rfl fun n _ => ?_
  rw [Ideal.div_coe hl.ne', mul_right_comm]

end Cert.Merge

end
-- ==== Proof.MergeRow.lean ====
/-
  The merge and memory attention kernel, one half of a block of 512 tokens at a time: what each stage holds at an index, of the
  rows that it loads. The two halves run the same operations, cut otherwise into stages.
-/
module

public import proofs.«01_k».proof.Proof.Gen.Kernel3Ideal.Skeleton
public import proofs.«01_k».proof.Proof.MergeSpec

@[expose] public section

noncomputable section

namespace Cert.Kernel3Ideal.Merge

open Cert.Kernel3Ideal Cert.Kernel3Ideal.Gen Idealize.ShloMosaic
open Cert.Merge
open Cert.Proj (normed)

/-- The arrays a stage takes. -/
abbrev Rows := Vec Ideal S1x256x1024 .f32
abbrev Branch := Vec Ideal S1x256x512 .bf16
abbrev Head := Vec Ideal S1x256x128 .bf16

/-- Row `r` of a half's array. -/
abbrev rowOf {n : Nat} (x : Shape.Idx ⟨3, ![1, 256, n]⟩ → EReal) (r : Fin 256) (k : Fin n) : EReal := x (ix3 0 r k)
abbrev mat {a b : Nat} (w : Shape.Idx ⟨2, ![a, b]⟩ → EReal) (k : Fin a) (j : Fin b) : EReal := w (ix2 k j)

/-- The kernel's factor of the scores. -/
theorem named_scale : Named.named (F := Ideal) Cert.Kernel3Ideal.κ "scale" (φ := .f32) 0x3DB504F3#32 = scale :=
  IdealRules.named_const.ideal_named_scalar _ _ _ _ rfl

theorem merged0 (zg zm : Rows) (og om : Branch) (pg pm : Vec Ideal S512x1024 .bf16) (r : Fin 256) (j : Fin 1024) :
    k0_pay5 (F := Ideal) zg og pg zm om pm (ix2 r j) = merged (rowOf zg r) (rowOf zm r) (rowOf og r) (rowOf om r) (mat pg) (mat pm) j := by
  pointwise [k0_pay5, merged]

theorem resid0 (y : FVec Ideal S256x1024 .f32) (x : Rows) (w : Vec Ideal S1024x1024 .bf16) (r : Fin 256) (j : Fin 1024) :
    k0_pay8 (F := Ideal) y x w (ix2 r j) = resid (rowOf x r) (fun k => y (ix2 r k)) (mat w) j := by
  pointwise [k0_pay8, resid]

theorem query0 (y : FVec Ideal S256x1024 .f32) (x : Rows) (w : Vec Ideal S1024x1024 .bf16) (g : Vec Ideal S1x1024 .f32) (wq : Vec Ideal S1024x512 .bf16)
    (r : Fin 256) (j : Fin 512) :
    k0_pay12 (F := Ideal) (k0_pay8 y x w) (k0_pay10 g) (k0_pay11 y x w) (FloatOps.ofBits FTy.f32 1149239296#32) wq (ix2 r j)
      = query (fun k => k0_pay8 (F := Ideal) y x w (ix2 r k)) (fun k => g (ix2 0 k)) (mat wq) j := by
  pointwise [k0_pay10, k0_pay11, k0_pay12, query, normed]

theorem head00 (x1 : FVec Ideal S256x1024 .f32) (g : FVec Ideal S1x1024 .f32) (n1 : FVec Ideal S256x1 .f32) (cst : Ideal .f32) (wq : Vec Ideal S1024x512 .bf16)
    (k v : Head) (r : Fin 256) (e : Fin 128) :
    k0_pay16 (F := Ideal) (k0_pay14 x1 g n1 cst wq k) (k0_pay15 x1 g n1 cst wq k) v (ix2 r e)
      = attend (score (fun d => k0_pay12 (F := Ideal) x1 g n1 cst wq (ix2 r (feat 0 d))) (rowOf k)) (fun n => rowOf v n e) := by
  generalize hq : k0_pay12 (F := Ideal) x1 g n1 cst wq = q
  pointwise [k0_pay16, k0_pay14, k0_pay15, attend, weight, top, score, feat, named_scale, hq]

theorem head01 (q : FVec Ideal S256x512 .bf16) (k v : Head) (r : Fin 256) (e : Fin 128) :
    k0_pay17 (F := Ideal) q k v (ix2 r e)
      = attend (score (fun d => q (ix2 r (feat 1 d))) (rowOf k)) (fun n => rowOf v n e) := by
  pointwise [k0_pay17, attend, weight, top, score, feat, named_scale]

theorem heads0 (q : FVec Ideal S256x512 .bf16) (o0 o1 : FVec Ideal S256x128 .f32) (k2 v2 k3 v3 : Head) (r : Fin 256) (j : Fin 512) :
    k0_pay20 (F := Ideal) q o0 o1 (k0_pay18 q k2) (k0_pay19 q k2) v2 k3 v3 (ix2 r j)
      = if h : j.val < 128 then o0 (ix2 r ⟨j.val, h⟩) else if h : j.val - 128 < 128 then o1 (ix2 r ⟨j.val - 128, h⟩)
        else if h : j.val - 128 - 128 < 128 then
          attend (score (fun d => q (ix2 r (feat 2 d))) (rowOf k2)) (fun n => rowOf v2 n ⟨j.val - 128 - 128, h⟩)
        else attend (score (fun d => q (ix2 r (feat 3 d))) (rowOf k3)) (fun n => rowOf v3 n ⟨j.val - 128 - 128 - 128, by omega⟩) := by
  pointwise [k0_pay20, k0_pay18, k0_pay19, attend, weight, top, score, feat, named_scale]

theorem mixed0 (x1 : FVec Ideal S256x1024 .f32) (o : FVec Ideal S256x512 .f32) (wc : Vec Ideal S512x1024 .bf16) (r : Fin 256) (j : Fin 1024) :
    k0_pay31 (F := Ideal) (k0_pay27 x1 o wc) (ix3 0 r j) = mixed (fun k => x1 (ix2 r k)) (fun k => o (ix2 r k)) (mat wc) j := by
  pointwise [k0_pay31, k0_pay27, mixed]

theorem resid1 (zg zm x : Rows) (og om : Branch) (pg pm : Vec Ideal S512x1024 .bf16) (w : Vec Ideal S1024x1024 .bf16) (r : Fin 256) (j : Fin 1024) :
    k0_pay9 (F := Ideal) (k0_pay6 zg) (k0_pay7 og) pg zm om pm x w (ix2 r j)
      = resid (rowOf x r) (merged (rowOf zg r) (rowOf zm r) (rowOf og r) (rowOf om r) (mat pg) (mat pm)) (mat w) j := by
  pointwise [k0_pay6, k0_pay7, k0_pay9, resid, merged]

theorem query1 (x1 : FVec Ideal S256x1024 .f32) (g : Vec Ideal S1x1024 .f32) (wq : Vec Ideal S1024x512 .bf16) (r : Fin 256) (j : Fin 512) :
    k0_pay13 (F := Ideal) x1 g wq (ix2 r j) = query (fun k => x1 (ix2 r k)) (fun k => g (ix2 0 k)) (mat wq) j := by
  pointwise [k0_pay13, query, normed]

theorem head10 (q : FVec Ideal S256x512 .bf16) (k v : Head) (r : Fin 256) (e : Fin 128) :
    k0_pay23 (F := Ideal) (k0_pay21 q k) (k0_pay22 q k) v (ix2 r e)
      = attend (score (fun d => q (ix2 r (feat 0 d))) (rowOf k)) (fun n => rowOf v n e) := by
  pointwise [k0_pay21, k0_pay22, k0_pay23, attend, weight, top, score, feat, named_scale]

theorem head11 (q : FVec Ideal S256x512 .bf16) (k v : Head) (r : Fin 256) (e : Fin 128) :
    k0_pay24 (F := Ideal) q k v (ix2 r e)
      = attend (score (fun d => q (ix2 r (feat 1 d))) (rowOf k)) (fun n => rowOf v n e) := by
  pointwise [k0_pay24, attend, weight, top, score, feat, named_scale]

theorem heads1 (q : FVec Ideal S256x512 .bf16) (o0 o1 : FVec Ideal S256x128 .f32) (k2 v2 k3 v3 : Head) (r : Fin 256) (j : Fin 512) :
    k0_pay28 (F := Ideal) q o0 o1 (k0_pay25 q k2) (k0_pay26 q k2) v2 k3 v3 (ix2 r j)
      = if h : j.val < 128 then o0 (ix2 r ⟨j.val, h⟩) else if h : j.val - 128 < 128 then o1 (ix2 r ⟨j.val - 128, h⟩)
        else if h : j.val - 128 - 128 < 128 then
          attend (score (fun d => q (ix2 r (feat 2 d))) (rowOf k2)) (fun n => rowOf v2 n ⟨j.val - 128 - 128, h⟩)
        else attend (score (fun d => q (ix2 r (feat 3 d))) (rowOf k3)) (fun n => rowOf v3 n ⟨j.val - 128 - 128 - 128, by omega⟩) := by
  pointwise [k0_pay28, k0_pay25, k0_pay26, attend, weight, top, score, feat, named_scale]

theorem mixed1 (x1 : FVec Ideal S256x1024 .f32) (o : FVec Ideal S256x512 .bf16) (wc : Vec Ideal S512x1024 .bf16) (r : Fin 256) (j : Fin 1024) :
    k0_pay32 (F := Ideal) x1 o (k0_pay29 wc) (ix3 0 r j) = mixed (fun k => x1 (ix2 r k)) (fun k => o (ix2 r k)) (mat wc) j := by
  pointwise [k0_pay32, k0_pay30, k0_pay29, mixed]

/-- The eight loads of the memory are the heads of the keys `K` and the values `V`. -/
structure Memory (k0 v0 k1 v1 k2 v2 k3 v3 : Head) (K V : Fin 256 → Fin 512 → EReal) : Prop where
  k0 : ∀ n d, k0 (ix3 0 n d) = K n (feat 0 d)
  v0 : ∀ n d, v0 (ix3 0 n d) = V n (feat 0 d)
  k1 : ∀ n d, k1 (ix3 0 n d) = K n (feat 1 d)
  v1 : ∀ n d, v1 (ix3 0 n d) = V n (feat 1 d)
  k2 : ∀ n d, k2 (ix3 0 n d) = K n (feat 2 d)
  v2 : ∀ n d, v2 (ix3 0 n d) = V n (feat 2 d)
  k3 : ∀ n d, k3 (ix3 0 n d) = K n (feat 3 d)
  v3 : ∀ n d, v3 (ix3 0 n d) = V n (feat 3 d)

theorem heads0_eq (x1 : FVec Ideal S256x1024 .f32) (g : FVec Ideal S1x1024 .f32) (n1 : FVec Ideal S256x1 .f32) (cst : Ideal .f32) (wq : Vec Ideal S1024x512 .bf16)
    (k0 v0 k1 v1 k2 v2 k3 v3 : Head) (K V : Fin 256 → Fin 512 → EReal) (hm : Memory k0 v0 k1 v1 k2 v2 k3 v3 K V) (r : Fin 256) (j : Fin 512) :
    k0_pay20 (F := Ideal) (k0_pay12 x1 g n1 cst wq) (k0_pay16 (k0_pay14 x1 g n1 cst wq k0) (k0_pay15 x1 g n1 cst wq k0) v0) (k0_pay17 (k0_pay12 x1 g n1 cst wq) k1 v1)
        (k0_pay18 (k0_pay12 x1 g n1 cst wq) k2) (k0_pay19 (k0_pay12 x1 g n1 cst wq) k2) v2 k3 v3 (ix2 r j)
      = heads (fun k => k0_pay12 (F := Ideal) x1 g n1 cst wq (ix2 r k)) K V j := by
  obtain ⟨h, d, rfl⟩ := exists_feat j
  obtain ⟨a0, b0, a1, b1, a2, b2, a3, b3⟩ := hm
  have hd := d.isLt
  rw [heads0, heads_feat]
  match h with
  | 0 =>
    have e : (feat 0 d).val = d.val := by simp [feat]
    rw [dif_pos (by omega), show (⟨(feat 0 d).val, by omega⟩ : Fin 128) = d from Fin.ext e, head00]
    rw [show rowOf k0 = fun n d => K n (feat 0 d) from funext fun n => funext fun d => a0 n d]
    simp only [rowOf, b0]
  | 1 =>
    have e : (feat 1 d).val = 128 + d.val := by simp [feat]
    rw [dif_neg (by omega), dif_pos (by omega), show (⟨(feat 1 d).val - 128, by omega⟩ : Fin 128) = d from Fin.ext (by dsimp only; omega), head01]
    rw [show rowOf k1 = fun n d => K n (feat 1 d) from funext fun n => funext fun d => a1 n d]
    simp only [rowOf, b1]
  | 2 =>
    have e : (feat 2 d).val = 256 + d.val := by simp [feat]
    rw [dif_neg (by omega), dif_neg (by omega), dif_pos (by omega),
      show (⟨(feat 2 d).val - 128 - 128, by omega⟩ : Fin 128) = d from Fin.ext (by dsimp only; omega)]
    rw [show rowOf k2 = fun n d => K n (feat 2 d) from funext fun n => funext fun d => a2 n d]
    simp only [rowOf, b2]
  | 3 =>
    have e : (feat 3 d).val = 384 + d.val := by simp [feat]
    rw [dif_neg (by omega), dif_neg (by omega), dif_neg (by omega),
      show (⟨(feat 3 d).val - 128 - 128 - 128, by omega⟩ : Fin 128) = d from Fin.ext (by dsimp only; omega)]
    rw [show rowOf k3 = fun n d => K n (feat 3 d) from funext fun n => funext fun d => a3 n d]
    simp only [rowOf, b3]

theorem heads1_eq (q : FVec Ideal S256x512 .bf16)
    (k0 v0 k1 v1 k2 v2 k3 v3 : Head) (K V : Fin 256 → Fin 512 → EReal) (hm : Memory k0 v0 k1 v1 k2 v2 k3 v3 K V) (r : Fin 256) (j : Fin 512) :
    k0_pay28 (F := Ideal) q (k0_pay23 (k0_pay21 q k0) (k0_pay22 q k0) v0) (k0_pay24 q k1 v1)
        (k0_pay25 q k2) (k0_pay26 q k2) v2 k3 v3 (ix2 r j)
      = heads (fun k => q (ix2 r k)) K V j := by
  obtain ⟨h, d, rfl⟩ := exists_feat j
  obtain ⟨a0, b0, a1, b1, a2, b2, a3, b3⟩ := hm
  have hd := d.isLt
  rw [heads1, heads_feat]
  match h with
  | 0 =>
    have e : (feat 0 d).val = d.val := by simp [feat]
    rw [dif_pos (by omega), show (⟨(feat 0 d).val, by omega⟩ : Fin 128) = d from Fin.ext e, head10]
    rw [show rowOf k0 = fun n d => K n (feat 0 d) from funext fun n => funext fun d => a0 n d]
    simp only [rowOf, b0]
  | 1 =>
    have e : (feat 1 d).val = 128 + d.val := by simp [feat]
    rw [dif_neg (by omega), dif_pos (by omega), show (⟨(feat 1 d).val - 128, by omega⟩ : Fin 128) = d from Fin.ext (by dsimp only; omega), head11]
    rw [show rowOf k1 = fun n d => K n (feat 1 d) from funext fun n => funext fun d => a1 n d]
    simp only [rowOf, b1]
  | 2 =>
    have e : (feat 2 d).val = 256 + d.val := by simp [feat]
    rw [dif_neg (by omega), dif_neg (by omega), dif_pos (by omega),
      show (⟨(feat 2 d).val - 128 - 128, by omega⟩ : Fin 128) = d from Fin.ext (by dsimp only; omega)]
    rw [show rowOf k2 = fun n d => K n (feat 2 d) from funext fun n => funext fun d => a2 n d]
    simp only [rowOf, b2]
  | 3 =>
    have e : (feat 3 d).val = 384 + d.val := by simp [feat]
    rw [dif_neg (by omega), dif_neg (by omega), dif_neg (by omega),
      show (⟨(feat 3 d).val - 128 - 128 - 128, by omega⟩ : Fin 128) = d from Fin.ext (by dsimp only; omega)]
    rw [show rowOf k3 = fun n d => K n (feat 3 d) from funext fun n => funext fun d => a3 n d]
    simp only [rowOf, b3]

/-- The first half's rows of the result. -/
theorem half0 (zg zm x : Rows) (og om : Branch) (pg pm : Vec Ideal S512x1024 .bf16) (w : Vec Ideal S1024x1024 .bf16) (g : Vec Ideal S1x1024 .f32)
    (wq : Vec Ideal S1024x512 .bf16) (wc : Vec Ideal S512x1024 .bf16) (k0 v0 k1 v1 k2 v2 k3 v3 : Head) (K V : Fin 256 → Fin 512 → EReal)
    (hm : Memory k0 v0 k1 v1 k2 v2 k3 v3 K V) (r : Fin 256) (j : Fin 1024) (y x1 : FVec Ideal S256x1024 .f32) (n1 : FVec Ideal S256x1 .f32)
    (cst : Ideal .f32) (q : FVec Ideal S256x512 .bf16) (hy : y = k0_pay5 zg og pg zm om pm) (hx : x1 = k0_pay8 y x w) (hn : n1 = k0_pay11 y x w)
    (hc : cst = FloatOps.ofBits FTy.f32 1149239296#32) (hq : q = k0_pay12 x1 (k0_pay10 g) n1 cst wq) :
    k0_pay31 (F := Ideal) (k0_pay27 x1 (k0_pay20 q (k0_pay16 (k0_pay14 x1 (k0_pay10 g) n1 cst wq k0) (k0_pay15 x1 (k0_pay10 g) n1 cst wq k0) v0)
        (k0_pay17 q k1 v1) (k0_pay18 q k2) (k0_pay19 q k2) v2 k3 v3) wc) (ix3 0 r j)
      = result (rowOf x r) (rowOf zg r) (rowOf zm r) (rowOf og r) (rowOf om r) K V (fun k => g (ix2 0 k)) (mat pg) (mat pm) (mat w) (mat wq) (mat wc) j := by
  subst hq hn hc hx hy
  rw [mixed0]
  simp only [heads0_eq _ _ _ _ _ _ _ _ _ _ _ _ _ K V hm, query0, resid0, merged0]
  rfl

/-- The second half's. -/
theorem half1 (zg zm x : Rows) (og om : Branch) (pg pm : Vec Ideal S512x1024 .bf16) (w : Vec Ideal S1024x1024 .bf16) (g : Vec Ideal S1x1024 .f32)
    (wq : Vec Ideal S1024x512 .bf16) (wc : Vec Ideal S512x1024 .bf16) (k0 v0 k1 v1 k2 v2 k3 v3 : Head) (K V : Fin 256 → Fin 512 → EReal)
    (hm : Memory k0 v0 k1 v1 k2 v2 k3 v3 K V) (r : Fin 256) (j : Fin 1024) (x1 : FVec Ideal S256x1024 .f32)
    (q : FVec Ideal S256x512 .bf16) (hx : x1 = k0_pay9 (k0_pay6 zg) (k0_pay7 og) pg zm om pm x w) (hq : q = k0_pay13 x1 g wq) :
    k0_pay32 (F := Ideal) x1 (k0_pay28 q (k0_pay23 (k0_pay21 q k0) (k0_pay22 q k0) v0)
        (k0_pay24 q k1 v1) (k0_pay25 q k2) (k0_pay26 q k2) v2 k3 v3) (k0_pay29 wc) (ix3 0 r j)
      = result (rowOf x r) (rowOf zg r) (rowOf zm r) (rowOf og r) (rowOf om r) K V (fun k => g (ix2 0 k)) (mat pg) (mat pm) (mat w) (mat wq) (mat wc) j := by
  subst hq hx
  rw [mixed1]
  simp only [heads1_eq _ _ _ _ _ _ _ _ _ K V hm, query1, resid1]
  rfl

end Cert.Kernel3Ideal.Merge

end
-- ==== Proof.MergeArray.lean ====
/-
  The merge and memory attention kernel: what a grid point's blocks read of the arguments, and the array of the results.
-/
module

public import proofs.«01_k».proof.Proof.Gen.Kernel3Ideal.Value
public import proofs.«01_k».proof.Proof.MergeRow
public import Idealize.ShloMosaic.Lib.Pipeline.ValueKit.Geometry
public import Idealize.ShloMosaic.Lib.Pipeline.ValueKit.Tiles

@[expose] public section

noncomputable section

namespace Cert.Kernel3Ideal.Merge

open Cert.Kernel3Ideal Cert.Kernel3Ideal.Gen Idealize.ShloMosaic Idealize.ShloMosaic.TcCoe Idealize.SL.Sem
open Idealize.ShloMosaic.Pipeline (Dat Cfg Window)
open Cert.Merge

variable (m : (ℓ : Loc nD τ sig) → Buf (Elt Ideal) ℓ) (ρ : Dev nD → PrngReg)

/-- The arguments, as launched. -/
abbrev X (c : Dev nD) : FVec Ideal S4x8192x1024 .f32 := m ((c.tc : Thread nD τ).loc main_arg0)
abbrev OG (c : Dev nD) : FVec Ideal S4x8192x512 .bf16 := m ((c.tc : Thread nD τ).loc main_arg1)
abbrev OM (c : Dev nD) : FVec Ideal S4x8192x512 .bf16 := m ((c.tc : Thread nD τ).loc main_arg2)
abbrev ZG (c : Dev nD) : FVec Ideal S4x8192x1024 .f32 := m ((c.tc : Thread nD τ).loc main_arg3)
abbrev ZM (c : Dev nD) : FVec Ideal S4x8192x1024 .f32 := m ((c.tc : Thread nD τ).loc main_arg4)
abbrev MK (c : Dev nD) : FVec Ideal S4x256x512 .bf16 := m ((c.tc : Thread nD τ).loc main_arg5)
abbrev MV (c : Dev nD) : FVec Ideal S4x256x512 .bf16 := m ((c.tc : Thread nD τ).loc main_arg6)
abbrev GC (c : Dev nD) : FVec Ideal S1024 .f32 := m ((c.tc : Thread nD τ).loc main_arg7)
abbrev PG (c : Dev nD) : FVec Ideal S512x1024 .f32 := m ((c.tc : Thread nD τ).loc main_arg9)
abbrev PM (c : Dev nD) : FVec Ideal S512x1024 .f32 := m ((c.tc : Thread nD τ).loc main_arg10)
abbrev WO (c : Dev nD) : FVec Ideal S1024x1024 .f32 := m ((c.tc : Thread nD τ).loc main_arg11)
abbrev WQ (c : Dev nD) : FVec Ideal S1024x512 .f32 := m ((c.tc : Thread nD τ).loc main_arg12)
abbrev WC (c : Dev nD) : FVec Ideal S512x1024 .f32 := m ((c.tc : Thread nD τ).loc main_arg13)

/-! ## What the region finds in the arrays the host prepares -/

theorem VA0 (c : Dev nD) : V m c main_arg0 = X m c := by
  unfold V
  simp only [hostOps0, hostOps0_1, hostOps0_2, hostOps0_3, hostOps0_4, List.flatten_cons, List.flatten_nil, List.append_nil, List.cons_append, List.nil_append]
  after_results_simp
theorem VA1 (c : Dev nD) : V m c main_arg1 = OG m c := by
  unfold V
  simp only [hostOps0, hostOps0_1, hostOps0_2, hostOps0_3, hostOps0_4, List.flatten_cons, List.flatten_nil, List.append_nil, List.cons_append, List.nil_append]
  after_results_simp
theorem VA2 (c : Dev nD) : V m c main_arg2 = OM m c := by
  unfold V
  simp only [hostOps0, hostOps0_1, hostOps0_2, hostOps0_3, hostOps0_4, List.flatten_cons, List.flatten_nil, List.append_nil, List.cons_append, List.nil_append]
  after_results_simp
theorem VA3 (c : Dev nD) : V m c main_arg3 = ZG m c := by
  unfold V
  simp only [hostOps0, hostOps0_1, hostOps0_2, hostOps0_3, hostOps0_4, List.flatten_cons, List.flatten_nil, List.append_nil, List.cons_append, List.nil_append]
  after_results_simp
theorem VA4 (c : Dev nD) : V m c main_arg4 = ZM m c := by
  unfold V
  simp only [hostOps0, hostOps0_1, hostOps0_2, hostOps0_3, hostOps0_4, List.flatten_cons, List.flatten_nil, List.append_nil, List.cons_append, List.nil_append]
  after_results_simp
theorem VA5 (c : Dev nD) : V m c main_arg5 = MK m c := by
  unfold V
  simp only [hostOps0, hostOps0_1, hostOps0_2, hostOps0_3, hostOps0_4, List.flatten_cons, List.flatten_nil, List.append_nil, List.cons_append, List.nil_append]
  after_results_simp
theorem VA6 (c : Dev nD) : V m c main_arg6 = MV m c := by
  unfold V
  simp only [hostOps0, hostOps0_1, hostOps0_2, hostOps0_3, hostOps0_4, List.flatten_cons, List.flatten_nil, List.append_nil, List.cons_append, List.nil_append]
  after_results_simp
theorem V7 (c : Dev nD) (k : Fin 512) (j : Fin 1024) : V m c main_v7 (ix2 k j) = PG m c (ix2 k j) := by
  have e : V m c main_v7 = truncf .bf16 (PG m c) bitsLt_bf16_f32 := by
    unfold V
    simp only [hostOps0, hostOps0_1, hostOps0_2, hostOps0_3, hostOps0_4, List.flatten_cons, List.flatten_nil, List.append_nil, List.cons_append, List.nil_append]
    after_results_simp
  rw [e]
  pointwise []
theorem V8 (c : Dev nD) (k : Fin 512) (j : Fin 1024) : V m c main_v8 (ix2 k j) = PM m c (ix2 k j) := by
  have e : V m c main_v8 = truncf .bf16 (PM m c) bitsLt_bf16_f32 := by
    unfold V
    simp only [hostOps0, hostOps0_1, hostOps0_2, hostOps0_3, hostOps0_4, List.flatten_cons, List.flatten_nil, List.append_nil, List.cons_append, List.nil_append]
    after_results_simp
  rw [e]
  pointwise []
theorem V9 (c : Dev nD) (k : Fin 1024) (j : Fin 1024) : V m c main_v9 (ix2 k j) = WO m c (ix2 k j) := by
  have e : V m c main_v9 = truncf .bf16 (WO m c) bitsLt_bf16_f32 := by
    unfold V
    simp only [hostOps0, hostOps0_1, hostOps0_2, hostOps0_3, hostOps0_4, List.flatten_cons, List.flatten_nil, List.append_nil, List.cons_append, List.nil_append]
    after_results_simp
  rw [e]
  pointwise []
theorem V10 (c : Dev nD) (k : Fin 1024) (j : Fin 512) : V m c main_v10 (ix2 k j) = WQ m c (ix2 k j) := by
  have e : V m c main_v10 = truncf .bf16 (WQ m c) bitsLt_bf16_f32 := by
    unfold V
    simp only [hostOps0, hostOps0_1, hostOps0_2, hostOps0_3, hostOps0_4, List.flatten_cons, List.flatten_nil, List.append_nil, List.cons_append, List.nil_append]
    after_results_simp
  rw [e]
  pointwise []
theorem V11 (c : Dev nD) (k : Fin 512) (j : Fin 1024) : V m c main_v11 (ix2 k j) = WC m c (ix2 k j) := by
  have e : V m c main_v11 = truncf .bf16 (WC m c) bitsLt_bf16_f32 := by
    unfold V
    simp only [hostOps0, hostOps0_1, hostOps0_2, hostOps0_3, hostOps0_4, List.flatten_cons, List.flatten_nil, List.append_nil, List.cons_append, List.nil_append]
    after_results_simp
  rw [e]
  pointwise []
theorem V12 (c : Dev nD) (k : Fin 1024) : V m c main_v12 (ix2 0 k) = GC m c (ix1 k) := by
  have e : V m c main_v12 = shapeCast S1x1024 (GC m c) shapeCasts_S1024_S1x1024 := by
    unfold V
    simp only [hostOps0, hostOps0_1, hostOps0_2, hostOps0_3, hostOps0_4, List.flatten_cons, List.flatten_nil, List.append_nil, List.cons_append, List.nil_append]
    after_results_simp
    rfl
  rw [e]
  pointwise []

/-! ## The blocks -/

theorem index0 : ∀ t : Fin cfg0.N, win0_0.index t = ![t.val / 16, t.val % 16, 0] := (by decide +kernel : ∀ t : Fin grid0.N, win0_0.index t = ![t.val / 16, t.val % 16, 0])
theorem index1 : ∀ t : Fin cfg0.N, win0_1.index t = ![t.val / 16, t.val % 16, 0] := (by decide +kernel : ∀ t : Fin grid0.N, win0_1.index t = ![t.val / 16, t.val % 16, 0])
theorem index2 : ∀ t : Fin cfg0.N, win0_2.index t = ![t.val / 16, t.val % 16, 0] := (by decide +kernel : ∀ t : Fin grid0.N, win0_2.index t = ![t.val / 16, t.val % 16, 0])
theorem index3 : ∀ t : Fin cfg0.N, win0_3.index t = ![t.val / 16, t.val % 16, 0] := (by decide +kernel : ∀ t : Fin grid0.N, win0_3.index t = ![t.val / 16, t.val % 16, 0])
theorem index4 : ∀ t : Fin cfg0.N, win0_4.index t = ![t.val / 16, t.val % 16, 0] := (by decide +kernel : ∀ t : Fin grid0.N, win0_4.index t = ![t.val / 16, t.val % 16, 0])
theorem index5 : ∀ t : Fin cfg0.N, win0_5.index t = ![t.val / 16, 0, 0] := (by decide +kernel : ∀ t : Fin grid0.N, win0_5.index t = ![t.val / 16, 0, 0])
theorem index6 : ∀ t : Fin cfg0.N, win0_6.index t = ![t.val / 16, 0, 0] := (by decide +kernel : ∀ t : Fin grid0.N, win0_6.index t = ![t.val / 16, 0, 0])
theorem index7 : ∀ t : Fin cfg0.N, win0_7.index t = ![0, 0] := (by decide +kernel : ∀ t : Fin grid0.N, win0_7.index t = ![0, 0])
theorem index9 : ∀ t : Fin cfg0.N, win0_9.index t = ![0, 0] := (by decide +kernel : ∀ t : Fin grid0.N, win0_9.index t = ![0, 0])
theorem index10 : ∀ t : Fin cfg0.N, win0_10.index t = ![0, 0] := (by decide +kernel : ∀ t : Fin grid0.N, win0_10.index t = ![0, 0])
theorem index11 : ∀ t : Fin cfg0.N, win0_11.index t = ![0, 0] := (by decide +kernel : ∀ t : Fin grid0.N, win0_11.index t = ![0, 0])
theorem index12 : ∀ t : Fin cfg0.N, win0_12.index t = ![0, 0] := (by decide +kernel : ∀ t : Fin grid0.N, win0_12.index t = ![0, 0])
theorem index13 : ∀ t : Fin cfg0.N, win0_13.index t = ![0, 0] := (by decide +kernel : ∀ t : Fin grid0.N, win0_13.index t = ![0, 0])
theorem index16 : ∀ t : Fin cfg0.N, win0_16.index t = ![t.val / 16, t.val % 16, 0] := (by decide +kernel : ∀ t : Fin grid0.N, win0_16.index t = ![t.val / 16, t.val % 16, 0])

theorem point_lt (t : Fin cfg0.N) : t.val < 64 := t.isLt

/-- The batch of grid point `t`, and the position of its block's row `r`. -/
def batch (t : Fin cfg0.N) : Fin 4 := ⟨t.val / 16, by have := point_lt t; omega⟩
def pos (t : Fin cfg0.N) (r : Fin 512) : Fin 8192 := ⟨t.val % 16 * 512 + r.val, by omega⟩

theorem iblk0 (c : Dev nD) (t : Fin cfg0.N) (r : Fin 512) (k : Fin 1024) : iblk m c 0 t (ix3 0 r k) = X m c (ix3 (batch t) (pos t r) k) := by
  rw [← VA0]
  blk_simp [iblk]
  blk_ext [index0, batch, pos]
theorem iblk1 (c : Dev nD) (t : Fin cfg0.N) (r : Fin 512) (k : Fin 512) : iblk m c 1 t (ix3 0 r k) = OG m c (ix3 (batch t) (pos t r) k) := by
  rw [← VA1]
  blk_simp [iblk]
  blk_ext [index1, batch, pos]
theorem iblk2 (c : Dev nD) (t : Fin cfg0.N) (r : Fin 512) (k : Fin 512) : iblk m c 2 t (ix3 0 r k) = OM m c (ix3 (batch t) (pos t r) k) := by
  rw [← VA2]
  blk_simp [iblk]
  blk_ext [index2, batch, pos]
theorem iblk3 (c : Dev nD) (t : Fin cfg0.N) (r : Fin 512) (k : Fin 1024) : iblk m c 3 t (ix3 0 r k) = ZG m c (ix3 (batch t) (pos t r) k) := by
  rw [← VA3]
  blk_simp [iblk]
  blk_ext [index3, batch, pos]
theorem iblk4 (c : Dev nD) (t : Fin cfg0.N) (r : Fin 512) (k : Fin 1024) : iblk m c 4 t (ix3 0 r k) = ZM m c (ix3 (batch t) (pos t r) k) := by
  rw [← VA4]
  blk_simp [iblk]
  blk_ext [index4, batch, pos]
theorem iblk5 (c : Dev nD) (t : Fin cfg0.N) (n : Fin 256) (k : Fin 512) : iblk m c 5 t (ix3 0 n k) = MK m c (ix3 (batch t) n k) := by
  rw [← VA5]
  blk_simp [iblk]
  blk_ext [index5, batch]
theorem iblk6 (c : Dev nD) (t : Fin cfg0.N) (n : Fin 256) (k : Fin 512) : iblk m c 6 t (ix3 0 n k) = MV m c (ix3 (batch t) n k) := by
  rw [← VA6]
  blk_simp [iblk]
  blk_ext [index6, batch]
theorem iblk7 (c : Dev nD) (t : Fin cfg0.N) (k : Fin 1024) : iblk m c 7 t (ix2 0 k) = GC m c (ix1 k) := by
  rw [← V12]
  blk_simp [iblk]
  blk_ext [index7]
theorem iblk9 (c : Dev nD) (t : Fin cfg0.N) (k : Fin 512) (j : Fin 1024) : iblk m c 9 t (ix2 k j) = PG m c (ix2 k j) := by
  rw [← V7]
  blk_simp [iblk]
  blk_ext [index9]
theorem iblk10 (c : Dev nD) (t : Fin cfg0.N) (k : Fin 512) (j : Fin 1024) : iblk m c 10 t (ix2 k j) = PM m c (ix2 k j) := by
  rw [← V8]
  blk_simp [iblk]
  blk_ext [index10]
theorem iblk11 (c : Dev nD) (t : Fin cfg0.N) (k : Fin 1024) (j : Fin 1024) : iblk m c 11 t (ix2 k j) = WO m c (ix2 k j) := by
  rw [← V9]
  blk_simp [iblk]
  blk_ext [index11]
theorem iblk12 (c : Dev nD) (t : Fin cfg0.N) (k : Fin 1024) (j : Fin 512) : iblk m c 12 t (ix2 k j) = WQ m c (ix2 k j) := by
  rw [← V10]
  blk_simp [iblk]
  blk_ext [index12]
theorem iblk13 (c : Dev nD) (t : Fin cfg0.N) (k : Fin 512) (j : Fin 1024) : iblk m c 13 t (ix2 k j) = WC m c (ix2 k j) := by
  rw [← V11]
  blk_simp [iblk]
  blk_ext [index13]

/-! ## The halves' loads -/

theorem rows0 (c : Dev nD) (t : Fin cfg0.N) (o : Nat) (h : ∀ a, (![0, o, 0] : Fin 3 → Nat) a + (![1, 256, 1024] : Fin 3 → Nat) a ≤ S1x512x1024.size a) (r : Fin 256) (s : Fin 512) (hs : s.val = o + r.val) (k : Fin 1024) :
    View.ld (iblk m c 0 t) (Rect.unit ![0, o, 0] ![1, 256, 1024] h) (ix3 0 r k) = X m c (ix3 (batch t) (pos t s) k) := by
  rw [← iblk0, View.ld_apply]
  refine congrArg (iblk m c 0 t) ?_
  funext a
  refine Fin.ext ?_
  rw [Rect.idx_unit_val]
  fin_cases a
  · rfl
  · exact hs.symm
  · exact Nat.zero_add _
theorem rows1 (c : Dev nD) (t : Fin cfg0.N) (o : Nat) (h : ∀ a, (![0, o, 0] : Fin 3 → Nat) a + (![1, 256, 512] : Fin 3 → Nat) a ≤ S1x512x512.size a) (r : Fin 256) (s : Fin 512) (hs : s.val = o + r.val) (k : Fin 512) :
    View.ld (iblk m c 1 t) (Rect.unit ![0, o, 0] ![1, 256, 512] h) (ix3 0 r k) = OG m c (ix3 (batch t) (pos t s) k) := by
  rw [← iblk1, View.ld_apply]
  refine congrArg (iblk m c 1 t) ?_
  funext a
  refine Fin.ext ?_
  rw [Rect.idx_unit_val]
  fin_cases a
  · rfl
  · exact hs.symm
  · exact Nat.zero_add _
theorem rows2 (c : Dev nD) (t : Fin cfg0.N) (o : Nat) (h : ∀ a, (![0, o, 0] : Fin 3 → Nat) a + (![1, 256, 512] : Fin 3 → Nat) a ≤ S1x512x512.size a) (r : Fin 256) (s : Fin 512) (hs : s.val = o + r.val) (k : Fin 512) :
    View.ld (iblk m c 2 t) (Rect.unit ![0, o, 0] ![1, 256, 512] h) (ix3 0 r k) = OM m c (ix3 (batch t) (pos t s) k) := by
  rw [← iblk2, View.ld_apply]
  refine congrArg (iblk m c 2 t) ?_
  funext a
  refine Fin.ext ?_
  rw [Rect.idx_unit_val]
  fin_cases a
  · rfl
  · exact hs.symm
  · exact Nat.zero_add _
theorem rows3 (c : Dev nD) (t : Fin cfg0.N) (o : Nat) (h : ∀ a, (![0, o, 0] : Fin 3 → Nat) a + (![1, 256, 1024] : Fin 3 → Nat) a ≤ S1x512x1024.size a) (r : Fin 256) (s : Fin 512) (hs : s.val = o + r.val) (k : Fin 1024) :
    View.ld (iblk m c 3 t) (Rect.unit ![0, o, 0] ![1, 256, 1024] h) (ix3 0 r k) = ZG m c (ix3 (batch t) (pos t s) k) := by
  rw [← iblk3, View.ld_apply]
  refine congrArg (iblk m c 3 t) ?_
  funext a
  refine Fin.ext ?_
  rw [Rect.idx_unit_val]
  fin_cases a
  · rfl
  · exact hs.symm
  · exact Nat.zero_add _
theorem rows4 (c : Dev nD) (t : Fin cfg0.N) (o : Nat) (h : ∀ a, (![0, o, 0] : Fin 3 → Nat) a + (![1, 256, 1024] : Fin 3 → Nat) a ≤ S1x512x1024.size a) (r : Fin 256) (s : Fin 512) (hs : s.val = o + r.val) (k : Fin 1024) :
    View.ld (iblk m c 4 t) (Rect.unit ![0, o, 0] ![1, 256, 1024] h) (ix3 0 r k) = ZM m c (ix3 (batch t) (pos t s) k) := by
  rw [← iblk4, View.ld_apply]
  refine congrArg (iblk m c 4 t) ?_
  funext a
  refine Fin.ext ?_
  rw [Rect.idx_unit_val]
  fin_cases a
  · rfl
  · exact hs.symm
  · exact Nat.zero_add _
theorem rows5 (c : Dev nD) (t : Fin cfg0.N) (h : Fin 4) (o : Nat) (ho : o = h.val * 128) (hb : ∀ a, (![0, 0, o] : Fin 3 → Nat) a + (![1, 256, 128] : Fin 3 → Nat) a ≤ S1x256x512.size a) (n : Fin 256) (d : Fin 128) :
    View.ld (iblk m c 5 t) (Rect.unit ![0, 0, o] ![1, 256, 128] hb) (ix3 0 n d) = MK m c (ix3 (batch t) n (feat h d)) := by
  subst ho
  rw [← iblk5, View.ld_apply]
  refine congrArg (iblk m c 5 t) ?_
  funext a
  refine Fin.ext ?_
  rw [Rect.idx_unit_val]
  fin_cases a
  · rfl
  · exact Nat.zero_add _
  · rfl
theorem rows6 (c : Dev nD) (t : Fin cfg0.N) (h : Fin 4) (o : Nat) (ho : o = h.val * 128) (hb : ∀ a, (![0, 0, o] : Fin 3 → Nat) a + (![1, 256, 128] : Fin 3 → Nat) a ≤ S1x256x512.size a) (n : Fin 256) (d : Fin 128) :
    View.ld (iblk m c 6 t) (Rect.unit ![0, 0, o] ![1, 256, 128] hb) (ix3 0 n d) = MV m c (ix3 (batch t) n (feat h d)) := by
  subst ho
  rw [← iblk6, View.ld_apply]
  refine congrArg (iblk m c 6 t) ?_
  funext a
  refine Fin.ext ?_
  rw [Rect.idx_unit_val]
  fin_cases a
  · rfl
  · exact Nat.zero_add _
  · rfl
/-! ## The result array -/

/-- What the result array holds. -/
abbrev goal (c : Dev nD) : FVec Ideal S4x8192x1024 .f32 :=
  mix (X m c) (ZG m c) (ZM m c) (OG m c) (OM m c) (MK m c) (MV m c) (GC m c) (PG m c) (PM m c) (WO m c) (WQ m c) (WC m c)

theorem goal_at (c : Dev nD) (b : Fin 4) (s : Fin 8192) (j j' : Fin 1024) (hj : j' = j) {x zg zm g : Fin 1024 → EReal} {og om : Fin 512 → EReal}
    {pg pm : Fin 512 → Fin 1024 → EReal} {wo : Fin 1024 → Fin 1024 → EReal} {wq : Fin 1024 → Fin 512 → EReal} {wc : Fin 512 → Fin 1024 → EReal}
    (hx : ∀ k, x k = X m c (ix3 b s k)) (hzg : ∀ k, zg k = ZG m c (ix3 b s k)) (hzm : ∀ k, zm k = ZM m c (ix3 b s k))
    (hog : ∀ k, og k = OG m c (ix3 b s k)) (hom : ∀ k, om k = OM m c (ix3 b s k)) (hg : ∀ k, g k = GC m c (ix1 k))
    (hpg : ∀ k j, pg k j = PG m c (ix2 k j)) (hpm : ∀ k j, pm k j = PM m c (ix2 k j)) (hwo : ∀ k j, wo k j = WO m c (ix2 k j))
    (hwq : ∀ k j, wq k j = WQ m c (ix2 k j)) (hwc : ∀ k j, wc k j = WC m c (ix2 k j)) :
    result x zg zm og om (fun n k => MK m c (ix3 b n k)) (fun n k => MV m c (ix3 b n k)) g pg pm wo wq wc j = goal m c (ix3 b s j') := by
  obtain rfl := hj
  obtain rfl := funext hx
  obtain rfl := funext hzg
  obtain rfl := funext hzm
  obtain rfl := funext hog
  obtain rfl := funext hom
  obtain rfl := funext hg
  obtain rfl : pg = _ := funext fun k => funext (hpg k)
  obtain rfl : pm = _ := funext fun k => funext (hpm k)
  obtain rfl : wo = _ := funext fun k => funext (hwo k)
  obtain rfl : wq = _ := funext fun k => funext (hwq k)
  obtain rfl : wc = _ := funext fun k => funext (hwc k)
  rfl

theorem eq_row (p : S1x256x1024.Idx) : ∃ (r : Fin 256) (j : Fin 1024), p = ix3 0 r j :=
  ⟨p 1, p 2, by funext a; fin_cases a; exacts [Subsingleton.elim (α := Fin 1) _ _, rfl, rfl]⟩

set_option maxHeartbeats 4000000 in
theorem block16_A (c : Dev nD) (t : Fin cfg0.N) (h0 : t.val % 64 = 0) (y : S1x512x1024.Idx) :
    (outsAt0 m c t.val t.isLt).1 y = goal m c (ix3 (batch t) (pos t (y 1)) (y 2)) := by
  rw [outsAt0_A m c t h0]; frame_out
  canon_tiles p h
  case piece0 =>
    obtain ⟨r, j, rfl⟩ := eq_row p
    have hs : (y 1).val = 256 + r.val := h1
    have hj : y 2 = j := Fin.ext h2
    refine (half1 _ _ _ _ _ _ _ _ _ _ _ _ _ _ _ _ _ _ _ (fun n k => MK m c (ix3 (batch t) n k)) (fun n k => MV m c (ix3 (batch t) n k)) ?_ r j _ _ rfl rfl).trans
      (goal_at m c (batch t) (pos t (y 1)) j (y 2) hj (fun k => rows0 m c t 256 _ r _ hs k) (fun k => rows3 m c t 256 _ r _ hs k) (fun k => rows4 m c t 256 _ r _ hs k)
        (fun k => rows1 m c t 256 _ r _ hs k) (fun k => rows2 m c t 256 _ r _ hs k) (iblk7 m c t) (iblk9 m c t) (iblk10 m c t) (iblk11 m c t) (iblk12 m c t) (iblk13 m c t))
    exact ⟨rows5 m c t 0 _ rfl _, rows6 m c t 0 _ rfl _, rows5 m c t 1 _ rfl _, rows6 m c t 1 _ rfl _, rows5 m c t 2 _ rfl _, rows6 m c t 2 _ rfl _,
      rows5 m c t 3 _ rfl _, rows6 m c t 3 _ rfl _⟩
  case piece1 =>
    obtain ⟨r, j, rfl⟩ := eq_row p
    have hs : (y 1).val = 0 + r.val := h1.trans (Nat.zero_add _).symm
    have hj : y 2 = j := Fin.ext h2
    refine (half0 _ _ _ _ _ _ _ _ _ _ _ _ _ _ _ _ _ _ _ (fun n k => MK m c (ix3 (batch t) n k)) (fun n k => MV m c (ix3 (batch t) n k)) ?_ r j _ _ _ _ _ rfl rfl rfl rfl rfl).trans
      (goal_at m c (batch t) (pos t (y 1)) j (y 2) hj (fun k => rows0 m c t 0 _ r _ hs k) (fun k => rows3 m c t 0 _ r _ hs k) (fun k => rows4 m c t 0 _ r _ hs k)
        (fun k => rows1 m c t 0 _ r _ hs k) (fun k => rows2 m c t 0 _ r _ hs k) (iblk7 m c t) (iblk9 m c t) (iblk10 m c t) (iblk11 m c t) (iblk12 m c t) (iblk13 m c t))
    exact ⟨rows5 m c t 0 _ rfl _, rows6 m c t 0 _ rfl _, rows5 m c t 1 _ rfl _, rows6 m c t 1 _ rfl _, rows5 m c t 2 _ rfl _, rows6 m c t 2 _ rfl _,
      rows5 m c t 3 _ rfl _, rows6 m c t 3 _ rfl _⟩

set_option maxHeartbeats 4000000 in
theorem block16_B (c : Dev nD) (t : Fin cfg0.N) (h0 : ¬t.val % 64 = 0) (y : S1x512x1024.Idx) :
    (outsAt0 m c t.val t.isLt).1 y = goal m c (ix3 (batch t) (pos t (y 1)) (y 2)) := by
  rw [outsAt0_B m c t h0]; frame_out
  canon_tiles p h
  case piece0 =>
    obtain ⟨r, j, rfl⟩ := eq_row p
    have hs : (y 1).val = 256 + r.val := h1
    have hj : y 2 = j := Fin.ext h2
    refine (half1 _ _ _ _ _ _ _ _ _ _ _ _ _ _ _ _ _ _ _ (fun n k => MK m c (ix3 (batch t) n k)) (fun n k => MV m c (ix3 (batch t) n k)) ?_ r j _ _ rfl rfl).trans
      (goal_at m c (batch t) (pos t (y 1)) j (y 2) hj (fun k => rows0 m c t 256 _ r _ hs k) (fun k => rows3 m c t 256 _ r _ hs k) (fun k => rows4 m c t 256 _ r _ hs k)
        (fun k => rows1 m c t 256 _ r _ hs k) (fun k => rows2 m c t 256 _ r _ hs k) (iblk7 m c t) (iblk9 m c t) (iblk10 m c t) (iblk11 m c t) (iblk12 m c t) (iblk13 m c t))
    exact ⟨rows5 m c t 0 _ rfl _, rows6 m c t 0 _ rfl _, rows5 m c t 1 _ rfl _, rows6 m c t 1 _ rfl _, rows5 m c t 2 _ rfl _, rows6 m c t 2 _ rfl _,
      rows5 m c t 3 _ rfl _, rows6 m c t 3 _ rfl _⟩
  case piece1 =>
    obtain ⟨r, j, rfl⟩ := eq_row p
    have hs : (y 1).val = 0 + r.val := h1.trans (Nat.zero_add _).symm
    have hj : y 2 = j := Fin.ext h2
    refine (half0 _ _ _ _ _ _ _ _ _ _ _ _ _ _ _ _ _ _ _ (fun n k => MK m c (ix3 (batch t) n k)) (fun n k => MV m c (ix3 (batch t) n k)) ?_ r j _ _ _ _ _ rfl rfl rfl rfl rfl).trans
      (goal_at m c (batch t) (pos t (y 1)) j (y 2) hj (fun k => rows0 m c t 0 _ r _ hs k) (fun k => rows3 m c t 0 _ r _ hs k) (fun k => rows4 m c t 0 _ r _ hs k)
        (fun k => rows1 m c t 0 _ r _ hs k) (fun k => rows2 m c t 0 _ r _ hs k) (iblk7 m c t) (iblk9 m c t) (iblk10 m c t) (iblk11 m c t) (iblk12 m c t) (iblk13 m c t))
    exact ⟨rows5 m c t 0 _ rfl _, rows6 m c t 0 _ rfl _, rows5 m c t 1 _ rfl _, rows6 m c t 1 _ rfl _, rows5 m c t 2 _ rfl _, rows6 m c t 2 _ rfl _,
      rows5 m c t 3 _ rfl _, rows6 m c t 3 _ rfl _⟩

theorem final16 (c : Dev nD) : (dats m 0 c).arrAt 16 cfg0.N = goal m c := by
  refine (dats m 0 c).arrAt_eq_of_covers 16 _ (by decide +kernel) fun t hf y => ?_
  blk_simp
  rw [after0_16]
  obtain ⟨a, r, j, rfl⟩ : ∃ (a : Fin 1) (r : Fin 512) (j : Fin 1024), y = ix3 a r j := ⟨y 0, y 1, y 2, eq_ix3 y⟩
  have ht := point_lt t
  have e : ((View.whole main_v14_0).slice (win0_16.rect t)).emb (ix3 a r j) = ix3 (batch t) (pos t r) j := by
    blk_ext [index16, batch, pos]
  rw [e]
  by_cases h0 : t.val % 64 = 0
  · exact block16_A m c t h0 _
  · exact block16_B m c t h0 _

/-- The kernel's run: its result, and its arguments unchanged. -/
theorem run_main : θ_run (defs (F := Ideal)) (onTc (τ := τ) (main (F := Ideal))) ⟨m, fun _ => 0, ρ⟩ fun r => ∀ c : Dev nD,
    r.2.mem ((c.tc : Thread nD τ).loc main_v14_0) = goal m c ∧
    r.2.mem ((c.tc : Thread nD τ).loc main_arg0) = m ((c.tc : Thread nD τ).loc main_arg0) ∧
    r.2.mem ((c.tc : Thread nD τ).loc main_arg1) = m ((c.tc : Thread nD τ).loc main_arg1) ∧
    r.2.mem ((c.tc : Thread nD τ).loc main_arg2) = m ((c.tc : Thread nD τ).loc main_arg2) ∧
    r.2.mem ((c.tc : Thread nD τ).loc main_arg3) = m ((c.tc : Thread nD τ).loc main_arg3) ∧
    r.2.mem ((c.tc : Thread nD τ).loc main_arg4) = m ((c.tc : Thread nD τ).loc main_arg4) ∧
    r.2.mem ((c.tc : Thread nD τ).loc main_arg5) = m ((c.tc : Thread nD τ).loc main_arg5) ∧
    r.2.mem ((c.tc : Thread nD τ).loc main_arg6) = m ((c.tc : Thread nD τ).loc main_arg6) ∧
    r.2.mem ((c.tc : Thread nD τ).loc main_arg7) = m ((c.tc : Thread nD τ).loc main_arg7) ∧
    r.2.mem ((c.tc : Thread nD τ).loc main_arg8) = m ((c.tc : Thread nD τ).loc main_arg8) ∧
    r.2.mem ((c.tc : Thread nD τ).loc main_arg9) = m ((c.tc : Thread nD τ).loc main_arg9) ∧
    r.2.mem ((c.tc : Thread nD τ).loc main_arg10) = m ((c.tc : Thread nD τ).loc main_arg10) ∧
    r.2.mem ((c.tc : Thread nD τ).loc main_arg11) = m ((c.tc : Thread nD τ).loc main_arg11) ∧
    r.2.mem ((c.tc : Thread nD τ).loc main_arg12) = m ((c.tc : Thread nD τ).loc main_arg12) ∧
    r.2.mem ((c.tc : Thread nD τ).loc main_arg13) = m ((c.tc : Thread nD τ).loc main_arg13) ∧
    r.2.mem ((c.tc : Thread nD τ).loc main_arg14) = m ((c.tc : Thread nD τ).loc main_arg14) ∧
    r.2.mem ((c.tc : Thread nD τ).loc main_arg15) = m ((c.tc : Thread nD τ).loc main_arg15) ∧
    r.2.mem ((c.tc : Thread nD τ).loc main_arg16) = m ((c.tc : Thread nD τ).loc main_arg16) ∧
    r.2.mem ((c.tc : Thread nD τ).loc main_arg17) = m ((c.tc : Thread nD τ).loc main_arg17) := by
  refine (θ_run defs _ _).mono (fun r h c => ?_) (Value.run_blocks (F := Ideal) m ρ)
  obtain ⟨h0, -, -, -, -, ha⟩ := h c
  exact ⟨h0.trans (final16 m c), ha⟩

end Cert.Kernel3Ideal.Merge

end
-- ==== Proof.MergeRef.lean ====
/-
  The reference of the merge and the memory attention: its result cut into stages, each stage read at an index, and the result
  where the arguments that the scores are made of are real numbers.
-/
module

public import proofs.«01_k».proof.Proof.Gen.Reference3Ideal.Run
public import proofs.«01_k».proof.Proof.MergeSpec

@[expose] public section

noncomputable section

namespace Cert.Reference3Ideal.Merge

open Cert.Reference3Ideal Cert.Reference3Ideal.Gen Idealize.ShloMosaic Idealize.ShloMosaic.TcCoe Idealize.SL.Sem
open Cert.Merge
open Cert.Proj (normed)

variable (m : (ℓ : Loc nD τ sig) → Buf (Elt Ideal) ℓ) (ρ : Dev nD → PrngReg)

/-! ## The stages -/

def gate (z : FVec Ideal S4x8192x1024 .f32) : FVec Ideal S4x8192x1024 .f32 :=
  Host.divf (broadcastInDim S4x8192x1024 ![] bcast_S_S4x8192x1024 (constant S_ .f32 0x3F800000#32)) (addf (broadcastInDim S4x8192x1024 ![] bcast_S_S4x8192x1024 (constant S_ .f32 0x3F800000#32)) (Host.exp (Host.negf z)))

def branches (zg zm : FVec Ideal S4x8192x1024 .f32) (og om : FVec Ideal S4x8192x512 .bf16) (pg pm : FVec Ideal S512x1024 .f32) : FVec Ideal S4x8192x1024 .f32 :=
  addf (mulf (gate zg) (Host.dotGeneral dot_S4x8192x512_S512x1024_S4x8192x1024_2_0_01_1_n_n none (extf .f32 og bitsLt_bf16_f32) pg)) (mulf (gate zm) (Host.dotGeneral dot_S4x8192x512_S512x1024_S4x8192x1024_2_0_01_1_n_n none (extf .f32 om bitsLt_bf16_f32) pm))

def stream (x y : FVec Ideal S4x8192x1024 .f32) (wo : FVec Ideal S1024x1024 .f32) : FVec Ideal S4x8192x1024 .f32 :=
  addf x (Host.dotGeneral dot_S4x8192x1024_S1024x1024_S4x8192x1024_2_0_01_1_n_n none y wo)

def queries (x : FVec Ideal S4x8192x1024 .f32) (g : FVec Ideal S1024 .f32) (wq : FVec Ideal S1024x512 .f32) : FVec Ideal S4x8192x512 .f32 :=
  Host.dotGeneral dot_S4x8192x1024_S1024x512_S4x8192x512_2_0_01_1_n_n none (mulf (mulf x (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf x x) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 g))) wq

def scores (q : FVec Ideal S4x8192x512 .f32) (mk : FVec Ideal S4x256x512 .bf16) : FVec Ideal S4x4x8192x256 .f32 :=
  Host.divf (Host.dotGeneral dot_S4x8192x4x128_S4x256x4x128_S4x4x8192x256_3_3_1_1_02_02 none (shapeCast _ q shapeCasts_S4x8192x512_S4x8192x4x128) (shapeCast _ (extf .f32 mk bitsLt_bf16_f32) shapeCasts_S4x256x512_S4x256x4x128)) (broadcastInDim S4x4x8192x256 ![] bcast_S_S4x4x8192x256 (Host.sqrt (constant S_ .f32 0x43000000#32)))

def tops (s : FVec Ideal S4x4x8192x256 .f32) : FVec Ideal S4x4x8192 .f32 :=
  maximumf (broadcastInDim S4x4x8192 ![] bcast_S_S4x4x8192 (constant S_ .f32 0xFF800000#32)) (Host.reduce FloatOps.maximumf s (constant S_ .f32 0xFF800000#32) reducesTo_S4x4x8192x256_S4x4x8192_d3 h_S_)

def weights (s : FVec Ideal S4x4x8192x256 .f32) (t : FVec Ideal S4x4x8192 .f32) : FVec Ideal S4x4x8192x256 .f32 :=
  Host.exp (subf s (broadcastInDim S4x4x8192x256 ![0, 1, 2, 3] bcast_S4x4x8192x1_S4x4x8192x256_0_1_2_3 (broadcastInDim S4x4x8192x1 ![0, 1, 2] bcast_S4x4x8192_S4x4x8192x1_0_1_2 t)))

def attention (e : FVec Ideal S4x4x8192x256 .f32) (mv : FVec Ideal S4x256x512 .bf16) : FVec Ideal S4x8192x512 .f32 :=
  shapeCast _ (transpose S4x8192x4x128 [0, 3, 1, 2] (Host.dotGeneral dot_S4x256x4x128_S4x4x8192x256_S4x4x128x8192_1_3_3_2_02_01 none (shapeCast _ (extf .f32 mv bitsLt_bf16_f32) shapeCasts_S4x256x512_S4x256x4x128) (Host.divf e (broadcastInDim S4x4x8192x256 ![0, 1, 2, 3] bcast_S4x4x8192x1_S4x4x8192x256_0_1_2_3 (broadcastInDim S4x4x8192x1 ![0, 1, 2] bcast_S4x4x8192_S4x4x8192x1_0_1_2 (Host.reduceAdd e (constant S_ .f32 0x00000000#32) reducesTo_S4x4x8192x256_S4x4x8192_d3 h_S_))))) transposes_S4x4x128x8192_S4x8192x4x128_0_3_1_2) shapeCasts_S4x8192x4x128_S4x8192x512

def output (x : FVec Ideal S4x8192x1024 .f32) (o : FVec Ideal S4x8192x512 .f32) (wc : FVec Ideal S512x1024 .f32) : FVec Ideal S4x8192x1024 .f32 :=
  addf x (Host.dotGeneral dot_S4x8192x512_S512x1024_S4x8192x1024_2_0_01_1_n_n none o wc)

/-! ## The stages at an index -/

theorem ofBits_one : Ideal.ofBits .f32 1065353216#32 = 1 := by
  simp [Ideal.ofBits, Ideal.ieee, -EReal.coe_mul]; norm_num

theorem ofBits_bot : Ideal.ofBits .f32 4286578688#32 = ⊥ := by simp [Ideal.ofBits, Ideal.ieee]

theorem gate_at (z : FVec Ideal S4x8192x1024 .f32) (b : Fin 4) (s : Fin 8192) (k : Fin 1024) : gate z (ix3 b s k) = Ideal.logistic (z (ix3 b s k)) := by
  pointwise [gate, ofBits_one, Ideal.logistic]

theorem branches_at (zg zm : FVec Ideal S4x8192x1024 .f32) (og om : FVec Ideal S4x8192x512 .bf16) (pg pm : FVec Ideal S512x1024 .f32)
    (b : Fin 4) (s : Fin 8192) (j : Fin 1024) :
    branches zg zm og om pg pm (ix3 b s j) = merged (fun k => zg (ix3 b s k)) (fun k => zm (ix3 b s k)) (fun k => og (ix3 b s k))
      (fun k => om (ix3 b s k)) (fun k j => pg (ix2 k j)) (fun k j => pm (ix2 k j)) j := by
  pointwise [branches, gate_at, merged]

theorem stream_at (x y : FVec Ideal S4x8192x1024 .f32) (wo : FVec Ideal S1024x1024 .f32) (b : Fin 4) (s : Fin 8192) (j : Fin 1024) :
    stream x y wo (ix3 b s j) = resid (fun k => x (ix3 b s k)) (fun k => y (ix3 b s k)) (fun k j => wo (ix2 k j)) j := by
  pointwise [stream, resid]

theorem queries_at (x : FVec Ideal S4x8192x1024 .f32) (g : FVec Ideal S1024 .f32) (wq : FVec Ideal S1024x512 .f32) (b : Fin 4) (s : Fin 8192) (j : Fin 512) :
    queries x g wq (ix3 b s j) = query (fun k => x (ix3 b s k)) (fun k => g (ix1 k)) (fun k j => wq (ix2 k j)) j := by
  pointwise [queries, query, normed]

theorem div_root (x : EReal) : Ideal.div x (Ideal.sqrt (Ideal.ofBits .f32 1124073472#32)) = x * scale := by
  have h : Ideal.ofBits .f32 1124073472#32 = ((128 : ℝ) : EReal) := by
    simp [Ideal.ofBits, Ideal.ieee, -EReal.coe_mul]; norm_num
  rw [h, Ideal.sqrt_coe, if_neg (by norm_num), Ideal.div_coe (by positivity), one_div]; rfl

theorem scores_at (q : FVec Ideal S4x8192x512 .f32) (mk : FVec Ideal S4x256x512 .bf16) (b h : Fin 4) (s : Fin 8192) (n : Fin 256) :
    scores q mk (ix4 b h s n) = score (fun d => q (ix3 b s (feat h d))) (fun n d => mk (ix3 b n (feat h d))) n := by
  pointwise [scores, score, feat, div_root]

theorem weights_at (s : FVec Ideal S4x4x8192x256 .f32) (t : FVec Ideal S4x4x8192 .f32) (b h : Fin 4) (r : Fin 8192) (n : Fin 256) :
    weights s t (ix4 b h r n) = Ideal.exp (s (ix4 b h r n) - t (ix3 b h r)) := by
  pointwise [weights]

theorem attention_at (e : FVec Ideal S4x4x8192x256 .f32) (mv : FVec Ideal S4x256x512 .bf16) (b : Fin 4) (s : Fin 8192) (k : Fin 512) :
    attention e mv (ix3 b s k) = ∑ n, mv (ix3 b n k) * Ideal.div (e (ix4 b (headOf k) s n)) (∑ l, e (ix4 b (headOf k) s l)) := by
  pointwise [attention, headOf]

theorem output_at (x : FVec Ideal S4x8192x1024 .f32) (o : FVec Ideal S4x8192x512 .f32) (wc : FVec Ideal S512x1024 .f32) (b : Fin 4) (s : Fin 8192) (j : Fin 1024) :
    output x o wc (ix3 b s j) = mixed (fun k => x (ix3 b s k)) (fun k => o (ix3 b s k)) (fun k j => wc (ix2 k j)) j := by
  pointwise [output, mixed]

/-- Rows of scores are reduced along their last axis. -/
theorem reduces_scores : S4x4x8192x256.Reduces [3] S4x4x8192 := by decide

theorem reduce_max {s t u : Shape} {a : Fin s.rank} (x : FVec Ideal s .f32) (init : FVec Ideal u .f32) (h' : s.ReducesTo [a] t) (h : s.Reduces [a] t)
    (hu : 0 < u.numel) (j : t.Idx) :
    Host.reduce FloatOps.maximumf x init h' hu j = (Finset.univ : Finset (Fin (s.size a))).fold max (init (Shape.Idx.first hu)) (x ∘ h.lift j) :=
  Host.reduce_eq_fold_single (max : EReal → EReal → EReal) x init h' h hu j

theorem lift_scores (b h : Fin 4) (r : Fin 8192) (n : Fin (S4x4x8192x256.size 3)) : reduces_scores.lift (ix3 b h r) n = ix4 b h r n := by
  funext a
  refine Fin.ext ?_
  rw [Shape.Reduces.lift_val]
  fin_cases a <;> rfl

theorem tops_at (s : FVec Ideal S4x4x8192x256 .f32) (b h : Fin 4) (r : Fin 8192) : tops s (ix3 b h r) = top (fun n => s (ix4 b h r n)) := by
  unfold tops top
  rw [show ∀ (x y : FVec Ideal S4x4x8192 .f32) i, maximumf x y i = max (x i : EReal) (y i) from fun _ _ _ => rfl, reduce_max _ _ _ reduces_scores,
    show s ∘ reduces_scores.lift (ix3 b h r) = fun n => s (ix4 b h r n) from funext fun n => congrArg s (lift_scores b h r n),
    show ∀ i, broadcastInDim S4x4x8192 ![] bcast_S_S4x4x8192 (constant (F := Ideal) S_ .f32 0xFF800000#32) i = Ideal.ofBits .f32 4286578688#32 from fun _ => rfl,
    show ∀ i, constant (F := Ideal) S_ .f32 0xFF800000#32 i = Ideal.ofBits .f32 4286578688#32 from fun _ => rfl, ofBits_bot]
  exact max_eq_right bot_le

/-! ## The result -/

theorem res_eq (c : Dev nD) : Value.res_main_v59 m c =
    output (stream (m ((c.tc : Thread nD τ).loc main_arg0)) (branches (m ((c.tc : Thread nD τ).loc main_arg3)) (m ((c.tc : Thread nD τ).loc main_arg4)) (m ((c.tc : Thread nD τ).loc main_arg1)) (m ((c.tc : Thread nD τ).loc main_arg2)) (m ((c.tc : Thread nD τ).loc main_arg9)) (m ((c.tc : Thread nD τ).loc main_arg10))) (m ((c.tc : Thread nD τ).loc main_arg11)))
      (attention (weights (scores (queries (stream (m ((c.tc : Thread nD τ).loc main_arg0)) (branches (m ((c.tc : Thread nD τ).loc main_arg3)) (m ((c.tc : Thread nD τ).loc main_arg4)) (m ((c.tc : Thread nD τ).loc main_arg1)) (m ((c.tc : Thread nD τ).loc main_arg2)) (m ((c.tc : Thread nD τ).loc main_arg9)) (m ((c.tc : Thread nD τ).loc main_arg10))) (m ((c.tc : Thread nD τ).loc main_arg11))) (m ((c.tc : Thread nD τ).loc main_arg7)) (m ((c.tc : Thread nD τ).loc main_arg12))) (m ((c.tc : Thread nD τ).loc main_arg5)))
        (tops (scores (queries (stream (m ((c.tc : Thread nD τ).loc main_arg0)) (branches (m ((c.tc : Thread nD τ).loc main_arg3)) (m ((c.tc : Thread nD τ).loc main_arg4)) (m ((c.tc : Thread nD τ).loc main_arg1)) (m ((c.tc : Thread nD τ).loc main_arg2)) (m ((c.tc : Thread nD τ).loc main_arg9)) (m ((c.tc : Thread nD τ).loc main_arg10))) (m ((c.tc : Thread nD τ).loc main_arg11))) (m ((c.tc : Thread nD τ).loc main_arg7)) (m ((c.tc : Thread nD τ).loc main_arg12))) (m ((c.tc : Thread nD τ).loc main_arg5))))) (m ((c.tc : Thread nD τ).loc main_arg6)))
      (m ((c.tc : Thread nD τ).loc main_arg13)) := by
  unfold Value.res_main_v59 output stream branches gate attention weights tops scores queries
  rfl

/-- The stages together, where the scores' arguments are real numbers: the reference's weights, each divided by their sum, give
    the weighted sum divided. -/
theorem stages (x zg zm : FVec Ideal S4x8192x1024 .f32) (og om : FVec Ideal S4x8192x512 .bf16) (mk mv : FVec Ideal S4x256x512 .bf16)
    (g : FVec Ideal S1024 .f32) (pg pm : FVec Ideal S512x1024 .f32) (wo : FVec Ideal S1024x1024 .f32) (wq : FVec Ideal S1024x512 .f32)
    (wc : FVec Ideal S512x1024 .f32) (hx : ∀ i, IsReal (x i)) (hog : ∀ i, IsReal (og i)) (hom : ∀ i, IsReal (om i))
    (hmk : ∀ i, IsReal (mk i)) (hg : ∀ i, IsReal (g i)) (hpg : ∀ i, IsReal (pg i)) (hpm : ∀ i, IsReal (pm i)) (hwo : ∀ i, IsReal (wo i))
    (hwq : ∀ i, IsReal (wq i)) (X : FVec Ideal S4x8192x1024 .f32) (hX : X = stream x (branches zg zm og om pg pm) wo)
    (S : FVec Ideal S4x4x8192x256 .f32) (hS : S = scores (queries X g wq) mk) :
    output X (attention (weights S (tops S)) mv) wc = mix x zg zm og om mk mv g pg pm wo wq wc := by
  funext i
  obtain ⟨b, s, j, rfl⟩ : ∃ b s j, i = ix3 b s j := ⟨i 0, i 1, i 2, by funext a; fin_cases a <;> rfl⟩
  have eX : ∀ k, X (ix3 b s k) = resid (fun k => x (ix3 b s k)) (merged (fun k => zg (ix3 b s k)) (fun k => zm (ix3 b s k)) (fun k => og (ix3 b s k))
      (fun k => om (ix3 b s k)) (fun k j => pg (ix2 k j)) (fun k j => pm (ix2 k j))) (fun k j => wo (ix2 k j)) k := fun k => by
    rw [hX, stream_at]
    exact congrArg (fun y => resid _ y _ k) (funext fun k => branches_at zg zm og om pg pm b s k)
  have rX : ∀ k, IsReal (X (ix3 b s k)) := fun k => by
    rw [eX]
    exact isReal_resid (fun k => hx _) (fun k => isReal_merged (fun _ => hog _) (fun _ => hom _) (fun _ _ => hpg _) (fun _ _ => hpm _) k) (fun _ _ => hwo _) k
  have eS : ∀ h n, S (ix4 b h s n) = score (fun d => query (fun k => X (ix3 b s k)) (fun k => g (ix1 k)) (fun k j => wq (ix2 k j)) (feat h d))
      (fun n d => mk (ix3 b n (feat h d))) n := fun h n => by
    rw [hS, scores_at]
    exact congrArg (fun q => score q _ n) (funext fun d => queries_at X g wq b s (feat h d))
  have rS : ∀ h n, IsReal (S (ix4 b h s n)) := fun h n => by
    rw [eS]
    exact isReal_score (fun d => isReal_query rX (fun _ => hg _) (fun _ _ => hwq _) _) (fun _ _ => hmk _) n
  have eW : ∀ h n, weights S (tops S) (ix4 b h s n) = weight (fun n => S (ix4 b h s n)) n := fun h n => by
    rw [weights_at, tops_at]; rfl
  have eA : ∀ k, attention (weights S (tops S)) mv (ix3 b s k) = heads (query (fun k => X (ix3 b s k)) (fun k => g (ix1 k)) (fun k j => wq (ix2 k j)))
      (fun n k => mk (ix3 b n k)) (fun n k => mv (ix3 b n k)) k := fun k => by
    rw [attention_at, heads, ← funext (eS (headOf k)), ← attend_eq (rS (headOf k))]
    simp only [eW]
    exact Finset.sum_congr rfl fun n _ => mul_comm _ _
  rw [output_at, funext eA, funext eX]
  rfl

/-- The reference's run: its result is `mix` of the arguments, and the arguments are unchanged. -/
theorem result_eq (c : Dev nD) (hx : ∀ i, IsReal (m ((c.tc : Thread nD τ).loc main_arg0) i)) (hog : ∀ i, IsReal (m ((c.tc : Thread nD τ).loc main_arg1) i))
    (hom : ∀ i, IsReal (m ((c.tc : Thread nD τ).loc main_arg2) i)) (hmk : ∀ i, IsReal (m ((c.tc : Thread nD τ).loc main_arg5) i))
    (hg : ∀ i, IsReal (m ((c.tc : Thread nD τ).loc main_arg7) i)) (hpg : ∀ i, IsReal (m ((c.tc : Thread nD τ).loc main_arg9) i))
    (hpm : ∀ i, IsReal (m ((c.tc : Thread nD τ).loc main_arg10) i)) (hwo : ∀ i, IsReal (m ((c.tc : Thread nD τ).loc main_arg11) i))
    (hwq : ∀ i, IsReal (m ((c.tc : Thread nD τ).loc main_arg12) i)) :
    Value.res_main_v59 m c = mix (m ((c.tc : Thread nD τ).loc main_arg0)) (m ((c.tc : Thread nD τ).loc main_arg3)) (m ((c.tc : Thread nD τ).loc main_arg4))
      (m ((c.tc : Thread nD τ).loc main_arg1)) (m ((c.tc : Thread nD τ).loc main_arg2)) (m ((c.tc : Thread nD τ).loc main_arg5)) (m ((c.tc : Thread nD τ).loc main_arg6))
      (m ((c.tc : Thread nD τ).loc main_arg7)) (m ((c.tc : Thread nD τ).loc main_arg9)) (m ((c.tc : Thread nD τ).loc main_arg10)) (m ((c.tc : Thread nD τ).loc main_arg11))
      (m ((c.tc : Thread nD τ).loc main_arg12)) (m ((c.tc : Thread nD τ).loc main_arg13)) :=
  (res_eq m c).trans (stages _ _ _ _ _ _ _ _ _ _ _ _ _ hx hog hom hmk hg hpg hpm hwo hwq _ rfl _ rfl)

end Cert.Reference3Ideal.Merge

end
-- ==== Proof.MergePre.lean ====
/-
  The precondition of the memory attention's value claim, read: each argument it tests holds real numbers.
-/
module

public import proofs.«01_k».proof.Proof.Gen.Pre_finite_scores
public import proofs.«01_k».proof.Proof.MergeSpec
public import Idealize.ShloMosaic.Lib.ReduceAll
public import Idealize.ShloMosaic.Lib.Affine

@[expose] public section

noncomputable section

namespace Cert.Pre_finite_scores.Read

open Cert.Pre_finite_scores Idealize.ShloMosaic
open Cert.Merge (IsReal)

theorem ofBits_top : Ideal.ofBits .f32 0x7F800000#32 = ⊤ := by simp [Ideal.ofBits, Ideal.ieee]

theorem real_of_test (x : EReal) (h : Ideal.cmp .olt (max x (-x)) (Ideal.ofBits .f32 0x7F800000#32) = 1#1) : IsReal x := by
  rw [ofBits_top] at h
  induction x with
  | bot => simp [Ideal.cmp] at h
  | top => simp [Ideal.cmp] at h
  | coe r => exact ⟨r, rfl⟩

instance : Subsingleton S_.Idx := ⟨fun _ _ => funext fun a => a.elim0⟩

theorem reals_of_test {s : Shape} {axes : List (Fin s.rank)} (x : FVec Ideal s .f32) (b : S_.BroadcastsInDim s (![] : Fin 0 → Fin s.rank)) (h : s.ReducesTo axes S_)
    (hu : 0 < S_.numel) (j : S_.Idx)
    (e : Host.reduce IntOp.andi (cmpf .olt (Host.absf x) (broadcastInDim s ![] b (constant S_ .f32 0x7F800000#32))) (constantI S_ 1 1#1) h hu j = 1#1) :
    ∀ i, IsReal (x i) := fun i => real_of_test (x i) (Host.reduce_andi_all _ _ h hu j e i)

theorem split {x y : IVec S_ 1} {j : S_.Idx} (e : andi x y j = 1#1) : x j = 1#1 ∧ y j = 1#1 := IntOp.andi_eq_one.1 e

variable [Facts]
open Facts

theorem reals (a0 : FVec Ideal S4x8192x1024 .f32) (a1 a2 : FVec Ideal S4x8192x512 .bf16) (a3 a4 : FVec Ideal S4x8192x1024 .f32)
    (a5 a6 : FVec Ideal S4x256x512 .bf16) (a7 a8 : FVec Ideal S1024 .f32) (a9 a10 : FVec Ideal S512x1024 .f32) (a11 : FVec Ideal S1024x1024 .f32)
    (a12 : FVec Ideal S1024x512 .f32) (a13 : FVec Ideal S512x1024 .f32) (a14 : FVec Ideal S1024x4 .f32) (a15 : FVec Ideal S4 .f32)
    (a16 : FVec Ideal S1024x32 .f32) (a17 : FVec Ideal S32 .f32)
    (h : fn (F := Ideal) a0 a1 a2 a3 a4 a5 a6 a7 a8 a9 a10 a11 a12 a13 a14 a15 a16 a17 = fun _ => 1#1) :
    (∀ i, IsReal (a0 i)) ∧ (∀ i, IsReal (a1 i)) ∧ (∀ i, IsReal (a2 i)) ∧ (∀ i, IsReal (a5 i)) ∧ (∀ i, IsReal (a7 i)) ∧ (∀ i, IsReal (a9 i)) ∧
      (∀ i, IsReal (a10 i)) ∧ (∀ i, IsReal (a11 i)) ∧ (∀ i, IsReal (a12 i)) := by
  have e := congrFun h (Shape.Idx.first h_S_)
  unfold fn fn_part1 fn_part2 at e
  obtain ⟨e, t12⟩ := split e
  obtain ⟨e, t11⟩ := split e
  obtain ⟨e, t10⟩ := split e
  obtain ⟨e, t9⟩ := split e
  obtain ⟨e, t7⟩ := split e
  obtain ⟨e, t5⟩ := split e
  obtain ⟨e, t2⟩ := split e
  obtain ⟨t0, t1⟩ := split e
  exact ⟨reals_of_test a0 _ _ _ _ t0, reals_of_test (extf .f32 a1 bitsLt_bf16_f32) _ _ _ _ t1, reals_of_test (extf .f32 a2 bitsLt_bf16_f32) _ _ _ _ t2,
    reals_of_test (extf .f32 a5 bitsLt_bf16_f32) _ _ _ _ t5, reals_of_test a7 _ _ _ _ t7, reals_of_test a9 _ _ _ _ t9, reals_of_test a10 _ _ _ _ t10,
    reals_of_test a11 _ _ _ _ t11, reals_of_test a12 _ _ _ _ t12⟩

end Cert.Pre_finite_scores.Read

end
-- ==== Proof.lean ====
/-
  The claims of three calls: the gather of the experts' rows, the layer's normalisation and input projection, and the merge of
  its branches with the memory attention.

  The gather's run (Proof/Launch.lean) and the reference's (Proof/Ref.lean) are
  proved over any float values, with the value each leaves in its result; the two values are equal (Proof/Value.lean)
  where every row number lies in the table, which the precondition says (`ok_of_pre`). The frames, the algebraic and the
  bit-exact claim read these runs at the one instance and the other.

  The projection's result arrays and its reference's are the same functions of the arguments (Proof/ProjSpec.lean): the
  kernel's are read block by block (Proof/ProjArray.lean, Proof/ProjBlock.lean), the reference's at an index
  (Proof/ProjRef.lean).

  The merge's result and its reference's are one function of the arguments (Proof/MergeSpec.lean) where the arguments that the
  scores are made of are real numbers, which the precondition says (Proof/MergePre.lean): the kernel's is read half block by half
  block (Proof/MergeRow.lean, Proof/MergeArray.lean), the reference's stage by stage (Proof/MergeRef.lean).
-/
module

public import proofs.«01_k».proof.Defs
public import proofs.«01_k».proof.Proof.Gen.Kernel
public import proofs.«01_k».proof.Proof.Gen.Kernel.Skeleton
public import proofs.«01_k».proof.Proof.Gen.Reference
public import proofs.«01_k».proof.Proof.Gen.Pre_rows_in_table
public import proofs.«01_k».proof.Proof.Gen.Pre_finite_scores
public import proofs.«01_k».proof.Proof.Value
public import proofs.«01_k».proof.Proof.Gen.Kernel2.Frame
public import proofs.«01_k».proof.Proof.Gen.Kernel3.Frame
public import proofs.«01_k».proof.Proof.ProjBlock
public import proofs.«01_k».proof.Proof.ProjRef
public import proofs.«01_k».proof.Proof.MergeArray
public import proofs.«01_k».proof.Proof.MergeRef
public import proofs.«01_k».proof.Proof.MergePre
public import Idealize.ShloMosaic.Lib.Bf16Pair
public import Idealize.ShloMosaic.Adequacy
public import Idealize.ShloMosaic.Init

@[expose] public section

noncomputable section

namespace Cert.Proof

open Idealize.ShloMosaic Idealize.ShloMosaic.ValueIdx Idealize.SL.Sem
open Cert.Kernel.Gather (PreOK RES RES_eq)
open Cert.Reference.Rows (picked gather_picked)

/-! ## The ideal programs' facts -/

instance kernelIdeal₀ : Cert.KernelIdeal.Facts₀ where
  shapeCasts_S90624x256_S90624x2x128 := @Cert.Kernel.Gen.shapeCasts_S90624x256_S90624x2x128
  squeezes_S1x1x128_S1x128 := @Cert.Kernel.Gen.squeezes_S1x1x128_S1x128
  squeezes_S1_S_ := @Cert.Kernel.Gen.squeezes_S1_S_
  squeezes_S1x128x2x128_S128x2x128 := @Cert.Kernel.Gen.squeezes_S1x128x2x128_S128x2x128
  inb_S1x128_S1x128_0_0 := @Cert.Kernel.Gen.inb_S1x128_S1x128_0_0
  squeezes_S1x128_S128 := @Cert.Kernel.Gen.squeezes_S1x128_S128
  inb_S90624x2x128_S90624x2x128_0_0_0 := @Cert.Kernel.Gen.inb_S90624x2x128_S90624x2x128_0_0_0
  gathers_S90624x2x128_S128x2x128 := @Cert.Kernel.Gen.gathers_S90624x2x128_S128x2x128
  shapeCasts_S32768x2x128_S32768x256 := @Cert.Kernel.Gen.shapeCasts_S32768x2x128_S32768x256
  hcc0_scoped1 := @Cert.Kernel.Gen.hcc0_scoped1
  hcc0_scoped3 := @Cert.Kernel.Gen.hcc0_scoped3
  hcc0_scoped4 := @Cert.Kernel.Gen.hcc0_scoped4
  hscKind := @Cert.Kernel.Gen.hscKind
  hscCore := @Cert.Kernel.Gen.hscCore
  hscSub := @Cert.Kernel.Gen.hscSub
  hcore0 := @Cert.Kernel.Gen.hcore0
  hsub0 := @Cert.Kernel.Gen.hsub0
  k0_off1_inb := @Cert.Kernel.Gen.k0_off1_inb
  k0_off2_inb := @Cert.Kernel.Gen.k0_off2_inb
  k0_off3_inb := @Cert.Kernel.Gen.k0_off3_inb
  k0_t1_ok := @Cert.Kernel.Gen.k0_t1_ok
instance kernelIdeal : Cert.KernelIdeal.Facts where

instance referenceIdeal₀ : Cert.ReferenceIdeal.Facts₀ where
  shapeCasts_S1x32768_S32768 := @Cert.Reference.Gen.shapeCasts_S1x32768_S32768
  bcast_S_S32768 := @Cert.Reference.Gen.bcast_S_S32768
  bcast_S32768_S32768x1_0 := @Cert.Reference.Gen.bcast_S32768_S32768x1_0
  gather_S90624x256_S32768x1_S32768x256_1_0_n_n_0_1_1256_wf := @Cert.Reference.Gen.gather_S90624x256_S32768x1_S32768x256_1_0_n_n_0_1_1256_wf
instance referenceIdeal : Cert.ReferenceIdeal.Facts where

/-! ## The precondition -/

/-- A word the precondition passes at is a row of the table. -/
theorem row_of_test (v : BitVec 32) (e : IntOp.andi (IntOp.cmpi .sge v 0#32) (IntOp.cmpi .slt v 90624#32) = 1#1) : v.toNat < 90624 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

theorem rows_of_pre {F : FTy → Type} [FloatOps F] (t : IVec Cert.Pre_rows_in_table.S90624x256 32) (ix : IVec Cert.Pre_rows_in_table.S1x32768 32)
    (h : Cert.Pre_rows_in_table.fn (F := F) t ix = fun _ => 1#1) : ∀ x, (ix x).toNat < 90624 := by
  intro x
  have e := congrFun h x
  simp only [Cert.Pre_rows_in_table.fn, andi, cmpi, broadcastInDim, constantI] at e
  exact row_of_test _ e

theorem ok_of_pre (m : (ℓ : Loc Cert.Kernel.nD Cert.Kernel.τ Cert.Kernel.sig) → Buf (Elt Bits) ℓ) (h : Cert.Pre_Kernel m) : PreOK (F := Bits) m :=
  fun d => rows_of_pre (F := Bits) _ _ (h d)
theorem ok_of_pre_ideal (m : (ℓ : Loc Cert.KernelIdeal.nD Cert.KernelIdeal.τ Cert.KernelIdeal.sig) → Buf (Elt Ideal) ℓ) (h : Cert.Pre_KernelIdeal m) :
    PreOK (F := Ideal) m := fun d => rows_of_pre (F := Ideal) _ _ (h d)

/-! ## The runs at the ideal instance -/

theorem run_kernelIdeal (m : (ℓ : Loc Cert.KernelIdeal.nD Cert.KernelIdeal.τ Cert.KernelIdeal.sig) → Buf (Elt Ideal) ℓ)
    (g : Dev Cert.KernelIdeal.nD → PrngReg) (h : PreOK (F := Ideal) m) :
    θ_run (Cert.KernelIdeal.defs (F := Ideal)) (Cert.KernelIdeal.threads (F := Ideal)) ⟨m, fun _ => 0, g⟩ (Cert.Kernel.Gather.QC (F := Ideal) m) :=
  Cert.Kernel.Gather.run_main (F := Ideal) m g h

/-! ## The claims -/

theorem frame_kernel : Cert.quiescent_Kernel := fun m g hp =>
  (θ_run Cert.Kernel.defs _ _).mono (fun _ h => ⟨fun c => (h.1 c).2, h.2⟩) (Cert.Kernel.Gather.run_main (F := Bits) m g (ok_of_pre m hp))

theorem frame_kernelIdeal : Cert.quiescent_KernelIdeal := fun m g hp =>
  (θ_run Cert.KernelIdeal.defs _ _).mono (fun _ h => ⟨fun c => (h.1 c).2, h.2⟩) (run_kernelIdeal m g (ok_of_pre_ideal m hp))

theorem frame_referenceIdeal : Cert.quiescent_ReferenceIdeal := fun m g _ =>
  (θ_run Cert.ReferenceIdeal.defs _ _).mono (fun r h => ⟨fun c => (h c).2, sem_eq_zero_of_no_sems (by decide) r.2⟩)
    (Cert.Reference.Rows.run_main (F := Ideal) m g)

theorem frame_reference : Cert.quiescent_Reference := fun m g _ =>
  (θ_run Cert.Reference.defs _ _).mono (fun r h => ⟨fun c => (h c).2, sem_eq_zero_of_no_sems (by decide) r.2⟩)
    (Cert.Reference.Rows.run_main (F := Bits) m g)

theorem algebraic : Cert.algebraic_KernelIdeal_ReferenceIdeal := by
  intro m g m' g' hp hagree
  have hok := ok_of_pre_ideal m hp
  refine ⟨fun c => picked (F := Ideal) (m ((c.tc : Thread Cert.KernelIdeal.nD Cert.KernelIdeal.τ).loc Cert.KernelIdeal.main_arg0))
    (m ((c.tc : Thread Cert.KernelIdeal.nD Cert.KernelIdeal.τ).loc Cert.KernelIdeal.main_arg1)), ?_, ?_⟩
  · exact (θ_run Cert.KernelIdeal.defs _ _).mono (fun _ h c => ⟨(h.1 c).1.trans (RES_eq (F := Ideal) m c), (h.1 c).2⟩) (run_kernelIdeal m g hok)
  · refine (θ_run Cert.ReferenceIdeal.defs _ _).mono (fun _ h c => ⟨(h c).1.trans ?_, (h c).2⟩) (Cert.Reference.Rows.run_main (F := Ideal) m' g')
    refine Eq.trans ?_ (gather_picked (F := Ideal) _ _ (hok c))
    exact congrArg₂ (fun x i => Host.gather Cert.Reference.gather_S90624x256_S32768x1_S32768x256_1_0_n_n_0_1_1256 x (Cert.Reference.Rows.starts i))
      (hagree c).1 (hagree c).2

theorem bitexact : Cert.bitexact_Kernel_Reference := by
  intro m g m' g' hp hagree
  have hok := ok_of_pre m hp
  refine ⟨fun c => picked (F := Bits) (m ((c.tc : Thread Cert.Kernel.nD Cert.Kernel.τ).loc Cert.Kernel.main_arg0))
    (m ((c.tc : Thread Cert.Kernel.nD Cert.Kernel.τ).loc Cert.Kernel.main_arg1)), ?_, ?_⟩
  · exact (θ_run Cert.Kernel.defs _ _).mono (fun _ h c => ⟨(h.1 c).1.trans (RES_eq (F := Bits) m c), (h.1 c).2⟩)
      (Cert.Kernel.Gather.run_main (F := Bits) m g hok)
  · refine (θ_run Cert.Reference.defs _ _).mono (fun _ h c => ⟨(h c).1.trans ?_, (h c).2⟩) (Cert.Reference.Rows.run_main (F := Bits) m' g')
    refine Eq.trans ?_ (gather_picked (F := Bits) _ _ (hok c))
    exact congrArg₂ (fun x i => Host.gather Cert.Reference.gather_S90624x256_S32768x1_S32768x256_1_0_n_n_0_1_1256 x (Cert.Reference.Rows.starts i))
      (hagree c).1 (hagree c).2

/-! ## The projection -/

theorem frame_kernel2Ideal : Cert.quiescent_Kernel2Ideal := fun m g _ => Cert.Kernel2Ideal.Gen.frame (F := Ideal) m g

theorem frame_kernel2 : Cert.quiescent_Kernel2 := fun m g _ => Cert.Kernel2.Gen.frame (F := Bits) m g

theorem frame_reference2Ideal : Cert.quiescent_Reference2Ideal := fun m g _ =>
  (θ_run Cert.Reference2Ideal.defs _ _).mono (fun r h => ⟨fun c => (h c).2.2.2.2.2.2.2.2.2, sem_eq_zero_of_no_sems (by decide) r.2⟩)
    (Cert.Reference2Ideal.Proj.run_main m g)

theorem algebraic2 : Cert.algebraic_Kernel2Ideal_Reference2Ideal := by
  intro m g m' g' _ hagree
  refine ⟨_, _, _, _, _, _, _, _, _, Cert.Kernel2Ideal.Proj.run_main m g, ?_⟩
  refine (θ_run Cert.Reference2Ideal.defs _ _).mono (fun _ h c => ?_) (Cert.Reference2Ideal.Proj.run_main m' g')
  obtain ⟨a0, a1, a2, a3, a4⟩ := hagree c
  obtain ⟨h0, h1, h2, h3, h4, h5, h6, h7, h8, hargs⟩ := h c
  simp only [Cert.Reference2Ideal.Proj.X, Cert.Reference2Ideal.Proj.G, Cert.Reference2Ideal.Proj.W, Cert.Reference2Ideal.Proj.U,
    Cert.Reference2Ideal.Proj.B] at h0 h1 h2 h3 h4 h5 h6 h7 h8
  rw [a0, a1, a2] at h0 h1 h2 h4 h5 h6 h7 h8
  rw [a0, a1, a2, a3, a4] at h3
  exact ⟨h0, h1, h2, h3, h4, h5, h6, h7, h8, hargs⟩

/-! ## The merge and the memory attention -/

theorem frame_kernel3 : Cert.quiescent_Kernel3 := fun m g _ => Cert.Kernel3.Gen.frame (F := Bits) m g

theorem frame_kernel3Ideal : Cert.quiescent_Kernel3Ideal := fun m g _ => Cert.Kernel3Ideal.Gen.frame (F := Ideal) m g

theorem frame_reference3Ideal : Cert.quiescent_Reference3Ideal := fun m g _ =>
  (θ_run Cert.Reference3Ideal.defs _ _).mono (fun r h => ⟨fun c => (h c).2, sem_eq_zero_of_no_sems (by decide) r.2⟩)
    (Cert.Reference3Ideal.Value.run (F := Ideal) m g)

theorem preserves3 : Cert.preserves_Kernel3_Kernel3Ideal :=
  ⟨IdealRules.named_const.statement _ _ _ _ _ rfl, IdealRules.bf16_pair.packStatement _, IdealRules.bf16_pair.statement _ _⟩

theorem algebraic3 : Cert.algebraic_Kernel3Ideal_Reference3Ideal_pre_finite_scores := by
  intro m g m' g' hp hagree
  refine ⟨_, Cert.Kernel3Ideal.Merge.run_main m g, ?_⟩
  refine (θ_run Cert.Reference3Ideal.defs _ _).mono (fun _ h c => ⟨(h c).1.trans ?_, (h c).2⟩) (Cert.Reference3Ideal.Value.run (F := Ideal) m' g')
  obtain ⟨r0, r1, r2, r5, r7, r9, r10, r11, r12⟩ := Cert.Pre_finite_scores.Read.reals _ _ _ _ _ _ _ _ _ _ _ _ _ _ _ _ _ _ (hp c)
  obtain ⟨a0, a1, a2, a3, a4, a5, a6, a7, -, a9, a10, a11, a12, a13, -⟩ := hagree c
  refine (Cert.Reference3Ideal.Merge.result_eq m' c (fun i => by rw [a0]; exact r0 i) (fun i => by rw [a1]; exact r1 i) (fun i => by rw [a2]; exact r2 i)
    (fun i => by rw [a5]; exact r5 i) (fun i => by rw [a7]; exact r7 i) (fun i => by rw [a9]; exact r9 i) (fun i => by rw [a10]; exact r10 i)
    (fun i => by rw [a11]; exact r11 i) (fun i => by rw [a12]; exact r12 i)).trans ?_
  rw [a0, a1, a2, a3, a4, a5, a6, a7, a9, a10, a11, a12, a13]

theorem claim : Cert.Claim :=
  ⟨Cert.Kernel.Gen.facts, kernelIdeal, referenceIdeal, Cert.Reference.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Pre_rows_in_table.Gen.facts, Cert.Pre_finite_scores.Gen.facts,
    frame_kernel, frame_kernelIdeal, frame_referenceIdeal, fun m g _ => frame_referenceIdeal m g trivial, frame_reference,
    frame_kernel2, frame_kernel2Ideal, frame_reference2Ideal,
    frame_kernel3, frame_kernel3Ideal, fun m g _ => frame_kernel3Ideal m g trivial, frame_reference3Ideal,
    fun m g _ => frame_reference3Ideal m g trivial,
    trivial, algebraic, bitexact, IdealRules.named_const.statement _ _ _ _ _ rfl, algebraic2, preserves3, algebraic3⟩

end Cert.Proof

end
